-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S_ : Shape := ⟨0, ![]⟩
abbrev S1024x2048 : Shape := ⟨2, ![1024, 2048]⟩
abbrev S1x2048 : Shape := ⟨2, ![1, 2048]⟩
abbrev S8x256x2048 : Shape := ⟨3, ![8, 256, 2048]⟩
abbrev S12 : Shape := ⟨1, ![12]⟩
abbrev S8 : Shape := ⟨1, ![8]⟩
abbrev S2 : Shape := ⟨1, ![2]⟩
abbrev S2x256x2048 : Shape := ⟨3, ![2, 256, 2048]⟩
abbrev S1 : Shape := ⟨1, ![1]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 45
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1024x2048, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1024x2048, .f32⟩
  | .hbm, ⟨41, _⟩ => ⟨S1024x2048, .f32⟩
  | .hbm, ⟨42, _⟩ => ⟨S1024x2048, .bf16⟩
  | .hbm, ⟨43, _⟩ => ⟨S1x2048, .f32⟩
  | .hbm, ⟨44, _⟩ => ⟨S8192x2048, .f32⟩
  | .local _ .vmem, ⟨0, _⟩ => ⟨S1x2048, .f32⟩
  | .local _ .vmem, ⟨1, _⟩ => ⟨S8192x2048, .bf16⟩
  | .local _ .vmem, ⟨2, _⟩ => ⟨S8x256x2048, .bf16⟩
  | .local _ .vmem, ⟨3, _⟩ => ⟨S2x256x2048, .f32⟩
  | .local _ .vmem, ⟨4, _⟩ => ⟨S2x256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_c_5 : Ref sig .tc := ⟨.hbm, 20, rfl⟩
abbrev main_v12 : Ref sig .tc := ⟨.hbm, 21, rfl⟩
abbrev main_v13 : Ref sig .tc := ⟨.hbm, 22, rfl⟩
abbrev main_c_6 : Ref sig .tc := ⟨.hbm, 23, rfl⟩
abbrev main_v14 : Ref sig .tc := ⟨.hbm, 24, rfl⟩
abbrev main_c_7 : Ref sig .tc := ⟨.hbm, 25, rfl⟩
abbrev main_v15 : Ref sig .tc := ⟨.hbm, 26, rfl⟩
abbrev main_c_8 : Ref sig .tc := ⟨.hbm, 27, rfl⟩
abbrev main_v16 : Ref sig .tc := ⟨.hbm, 28, rfl⟩
abbrev main_v17 : Ref sig .tc := ⟨.hbm, 29, rfl⟩
abbrev main_c_9 : Ref sig .tc := ⟨.hbm, 30, rfl⟩
abbrev main_v18 : Ref sig .tc := ⟨.hbm, 31, rfl⟩
abbrev main_c_10 : Ref sig .tc := ⟨.hbm, 32, rfl⟩
abbrev main_v19 : Ref sig .tc := ⟨.hbm, 33, rfl⟩
abbrev main_c_11 : Ref sig .tc := ⟨.hbm, 34, rfl⟩
abbrev main_v20 : Ref sig .tc := ⟨.hbm, 35, rfl⟩
abbrev main_c_12 : Ref sig .tc := ⟨.hbm, 36, rfl⟩
abbrev main_v21 : Ref sig .tc := ⟨.hbm, 37, rfl⟩
abbrev main_v22 : Ref sig .tc := ⟨.hbm, 38, rfl⟩
abbrev main_c_13 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch12 : Ref sig .tc := ⟨.vmem, 3, rfl⟩
abbrev cc0_scratch13 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32 v25
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_16 : BitVec 32 := 2#32
  let v27 : BitVec 32 := Scalar.muli v9 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_19 : BitVec 32 := 4#32
  let v31 : BitVec 32 := Scalar.muli v10 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v41 : BitVec 32 := Scalar.muli v11 c1_i32_27
  let v42 : BitVec 32 := Scalar.addi v40 v41
  v42.toNat
def k0_off1 (d0 : Dev nD) (c0_i32_28 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2048_i32 : BitVec 32 := 2048#32
  let v43 : BitVec 32 := Scalar.muli v13 c2048_i32
  let v44 : BitVec 32 := Scalar.addi v43 c0_i32_28
  let c0_i32_35 : BitVec 32 := 0#32
  ![v44.toNat, 0]
def k0_dev4 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v78 : BitVec 32 := Scalar.muli v2 c4_i32_63
  let v79 : BitVec 32 := Scalar.addi c0_i32_64 v78
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_65 : BitVec 32 := 2#32
  let v80 : BitVec 32 := Scalar.muli v9 c2_i32_65
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v82 : BitVec 32 := Scalar.muli v8 c1_i32_66
  let v83 : BitVec 32 := Scalar.addi v81 v82
  v83.toNat
def k0_dev5 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v126 : BitVec 32 := Scalar.muli v2 c4_i32_107
  let v127 : BitVec 32 := Scalar.addi c0_i32_108 v126
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_109 : BitVec 32 := 2#32
  let v128 : BitVec 32 := Scalar.muli v9 c2_i32_109
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v130 : BitVec 32 := Scalar.muli v8 c1_i32_110
  let v131 : BitVec 32 := Scalar.addi v129 v130
  v131.toNat
def k0_dev6 (d0 : Dev nD) : Nat :=
  let c0_i32_151 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_150 : BitVec 32 := 4#32
  let v174 : BitVec 32 := Scalar.muli v2 c4_i32_150
  let v175 : BitVec 32 := Scalar.addi c0_i32_151 v174
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_152 : BitVec 32 := 2#32
  let v176 : BitVec 32 := Scalar.muli v9 c2_i32_152
  let v177 : BitVec 32 := Scalar.addi v175 v176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v178 : BitVec 32 := Scalar.muli v8 c1_i32_153
  let v179 : BitVec 32 := Scalar.addi v177 v178
  v179.toNat
def k0_dev7 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_193 : BitVec 32 := 4#32
  let v222 : BitVec 32 := Scalar.muli v2 c4_i32_193
  let v223 : BitVec 32 := Scalar.addi c0_i32_194 v222
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_195 : BitVec 32 := 2#32
  let v224 : BitVec 32 := Scalar.muli v9 c2_i32_195
  let v225 : BitVec 32 := Scalar.addi v223 v224
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v226 : BitVec 32 := Scalar.muli v8 c1_i32_196
  let v227 : BitVec 32 := Scalar.addi v225 v226
  v227.toNat
def k0_dev8 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v270 : BitVec 32 := Scalar.muli v2 c4_i32_236
  let v271 : BitVec 32 := Scalar.addi c0_i32_237 v270
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_238 : BitVec 32 := 2#32
  let v272 : BitVec 32 := Scalar.muli v9 c2_i32_238
  let v273 : BitVec 32 := Scalar.addi v271 v272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_239 : BitVec 32 := 1#32
  let v274 : BitVec 32 := Scalar.muli v8 c1_i32_239
  let v275 : BitVec 32 := Scalar.addi v273 v274
  v275.toNat
def k0_dev9 (d0 : Dev nD) : Nat :=
  let c0_i32_279 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_278 : BitVec 32 := 4#32
  let v318 : BitVec 32 := Scalar.muli v2 c4_i32_278
  let v319 : BitVec 32 := Scalar.addi c0_i32_279 v318
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_280 : BitVec 32 := 2#32
  let v320 : BitVec 32 := Scalar.muli v9 c2_i32_280
  let v321 : BitVec 32 := Scalar.addi v319 v320
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_281 : BitVec 32 := 1#32
  let v322 : BitVec 32 := Scalar.muli v8 c1_i32_281
  let v323 : BitVec 32 := Scalar.addi v321 v322
  v323.toNat
def k0_dev10 (d0 : Dev nD) : Nat :=
  let c0_i32_321 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_320 : BitVec 32 := 4#32
  let v366 : BitVec 32 := Scalar.muli v2 c4_i32_320
  let v367 : BitVec 32 := Scalar.addi c0_i32_321 v366
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_322 : BitVec 32 := 2#32
  let v368 : BitVec 32 := Scalar.muli v9 c2_i32_322
  let v369 : BitVec 32 := Scalar.addi v367 v368
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_323 : BitVec 32 := 1#32
  let v370 : BitVec 32 := Scalar.muli v8 c1_i32_323
  let v371 : BitVec 32 := Scalar.addi v369 v370
  v371.toNat
def k0_dev11 (d0 : Dev nD) : Nat :=
  let c0_i32_363 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_362 : BitVec 32 := 4#32
  let v414 : BitVec 32 := Scalar.muli v2 c4_i32_362
  let v415 : BitVec 32 := Scalar.addi c0_i32_363 v414
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_364 : BitVec 32 := 2#32
  let v416 : BitVec 32 := Scalar.muli v9 c2_i32_364
  let v417 : BitVec 32 := Scalar.addi v415 v416
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v418 : BitVec 32 := Scalar.muli v8 c1_i32_365
  let v419 : BitVec 32 := Scalar.addi v417 v418
  v419.toNat
def k0_off2 (d0 : Dev nD) (c0_i32_370 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c2048_i32_369 : BitVec 32 := 2048#32
  let v427 : BitVec 32 := Scalar.muli v23 c2048_i32_369
  let v428 : BitVec 32 := Scalar.addi v427 c0_i32_370
  let c0_i32_376 : BitVec 32 := 0#32
  ![v428.toNat, 0]
def k0_dev12 (d0 : Dev nD) : Nat :=
  let c0_i32_373 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_372 : BitVec 32 := 4#32
  let v429 : BitVec 32 := Scalar.muli v2 c4_i32_372
  let v430 : BitVec 32 := Scalar.addi c0_i32_373 v429
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_374 : BitVec 32 := 2#32
  let v431 : BitVec 32 := Scalar.muli v9 c2_i32_374
  let v432 : BitVec 32 := Scalar.addi v430 v431
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_375 : BitVec 32 := 1#32
  let v433 : BitVec 32 := Scalar.muli v8 c1_i32_375
  let v434 : BitVec 32 := Scalar.addi v432 v433
  v434.toNat
def k0_dev13 (d0 : Dev nD) : Nat :=
  let c0_i32_383 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_382 : BitVec 32 := 4#32
  let v443 : BitVec 32 := Scalar.muli v2 c4_i32_382
  let v444 : BitVec 32 := Scalar.addi c0_i32_383 v443
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_384 : BitVec 32 := 2#32
  let v445 : BitVec 32 := Scalar.muli v9 c2_i32_384
  let v446 : BitVec 32 := Scalar.addi v444 v445
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_385 : BitVec 32 := 1#32
  let v447 : BitVec 32 := Scalar.muli v8 c1_i32_385
  let v448 : BitVec 32 := Scalar.addi v446 v447
  v448.toNat
def k0_dev14 (d0 : Dev nD) : Nat :=
  let c0_i32_393 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_392 : BitVec 32 := 4#32
  let v457 : BitVec 32 := Scalar.muli v2 c4_i32_392
  let v458 : BitVec 32 := Scalar.addi c0_i32_393 v457
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_394 : BitVec 32 := 2#32
  let v459 : BitVec 32 := Scalar.muli v9 c2_i32_394
  let v460 : BitVec 32 := Scalar.addi v458 v459
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_395 : BitVec 32 := 1#32
  let v461 : BitVec 32 := Scalar.muli v8 c1_i32_395
  let v462 : BitVec 32 := Scalar.addi v460 v461
  v462.toNat
def k0_dev15 (d0 : Dev nD) : Nat :=
  let c0_i32_403 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_402 : BitVec 32 := 4#32
  let v471 : BitVec 32 := Scalar.muli v2 c4_i32_402
  let v472 : BitVec 32 := Scalar.addi c0_i32_403 v471
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_404 : BitVec 32 := 2#32
  let v473 : BitVec 32 := Scalar.muli v9 c2_i32_404
  let v474 : BitVec 32 := Scalar.addi v472 v473
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_405 : BitVec 32 := 1#32
  let v475 : BitVec 32 := Scalar.muli v8 c1_i32_405
  let v476 : BitVec 32 := Scalar.addi v474 v475
  v476.toNat
def k0_dev16 (d0 : Dev nD) : Nat :=
  let c0_i32_426 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_425 : BitVec 32 := 4#32
  let v498 : BitVec 32 := Scalar.muli v10 c4_i32_425
  let v499 : BitVec 32 := Scalar.addi c0_i32_426 v498
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_427 : BitVec 32 := 2#32
  let v500 : BitVec 32 := Scalar.muli v5 c2_i32_427
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_428 : BitVec 32 := 1#32
  let v502 : BitVec 32 := Scalar.muli v8 c1_i32_428
  let v503 : BitVec 32 := Scalar.addi v501 v502
  v503.toNat
def k0_dev17 (d0 : Dev nD) : Nat :=
  let c0_i32_438 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_437 : BitVec 32 := 4#32
  let v514 : BitVec 32 := Scalar.muli v2 c4_i32_437
  let v515 : BitVec 32 := Scalar.addi c0_i32_438 v514
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_439 : BitVec 32 := 2#32
  let v516 : BitVec 32 := Scalar.muli v5 c2_i32_439
  let v517 : BitVec 32 := Scalar.addi v515 v516
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_440 : BitVec 32 := 1#32
  let v518 : BitVec 32 := Scalar.muli v11 c1_i32_440
  let v519 : BitVec 32 := Scalar.addi v517 v518
  v519.toNat
def k0_dev18 (d0 : Dev nD) : Nat :=
  let c0_i32_467 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_466 : BitVec 32 := 4#32
  let v548 : BitVec 32 := Scalar.muli v10 c4_i32_466
  let v549 : BitVec 32 := Scalar.addi c0_i32_467 v548
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v550 : BitVec 32 := Scalar.muli v5 c2_i32_468
  let v551 : BitVec 32 := Scalar.addi v549 v550
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_469 : BitVec 32 := 1#32
  let v552 : BitVec 32 := Scalar.muli v8 c1_i32_469
  let v553 : BitVec 32 := Scalar.addi v551 v552
  v553.toNat
def k0_dev19 (d0 : Dev nD) : Nat :=
  let c0_i32_479 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_478 : BitVec 32 := 4#32
  let v564 : BitVec 32 := Scalar.muli v2 c4_i32_478
  let v565 : BitVec 32 := Scalar.addi c0_i32_479 v564
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_480 : BitVec 32 := 2#32
  let v566 : BitVec 32 := Scalar.muli v5 c2_i32_480
  let v567 : BitVec 32 := Scalar.addi v565 v566
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_481 : BitVec 32 := 1#32
  let v568 : BitVec 32 := Scalar.muli v11 c1_i32_481
  let v569 : BitVec 32 := Scalar.addi v567 v568
  v569.toNat
def k0_off3 (d0 : Dev nD) (c0_i32_444 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2048_i32_443 : BitVec 32 := 2048#32
  let v526 : BitVec 32 := Scalar.muli v13 c2048_i32_443
  let v527 : BitVec 32 := Scalar.addi v526 c0_i32_444
  let v590 : Index := Scalar.indexCast v527
  let c0_499 : Index := 0#32
  ![v590.toNat, 0]
def k0_dev20 (d0 : Dev nD) : Nat :=
  let c0_i32_529 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_528 : BitVec 32 := 4#32
  let v631 : BitVec 32 := Scalar.muli v10 c4_i32_528
  let v632 : BitVec 32 := Scalar.addi c0_i32_529 v631
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_530 : BitVec 32 := 2#32
  let v633 : BitVec 32 := Scalar.muli v5 c2_i32_530
  let v634 : BitVec 32 := Scalar.addi v632 v633
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_531 : BitVec 32 := 1#32
  let v635 : BitVec 32 := Scalar.muli v8 c1_i32_531
  let v636 : BitVec 32 := Scalar.addi v634 v635
  v636.toNat
def k0_dev21 (d0 : Dev nD) : Nat :=
  let c0_i32_541 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_540 : BitVec 32 := 4#32
  let v647 : BitVec 32 := Scalar.muli v2 c4_i32_540
  let v648 : BitVec 32 := Scalar.addi c0_i32_541 v647
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_542 : BitVec 32 := 2#32
  let v649 : BitVec 32 := Scalar.muli v5 c2_i32_542
  let v650 : BitVec 32 := Scalar.addi v648 v649
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_543 : BitVec 32 := 1#32
  let v651 : BitVec 32 := Scalar.muli v11 c1_i32_543
  let v652 : BitVec 32 := Scalar.addi v650 v651
  v652.toNat
def k0_dev22 (d0 : Dev nD) : Nat :=
  let c0_i32_592 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_591 : BitVec 32 := 4#32
  let v714 : BitVec 32 := Scalar.muli v10 c4_i32_591
  let v715 : BitVec 32 := Scalar.addi c0_i32_592 v714
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_593 : BitVec 32 := 2#32
  let v716 : BitVec 32 := Scalar.muli v5 c2_i32_593
  let v717 : BitVec 32 := Scalar.addi v715 v716
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_594 : BitVec 32 := 1#32
  let v718 : BitVec 32 := Scalar.muli v8 c1_i32_594
  let v719 : BitVec 32 := Scalar.addi v717 v718
  v719.toNat
def k0_dev23 (d0 : Dev nD) : Nat :=
  let c0_i32_604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_603 : BitVec 32 := 4#32
  let v730 : BitVec 32 := Scalar.muli v2 c4_i32_603
  let v731 : BitVec 32 := Scalar.addi c0_i32_604 v730
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_605 : BitVec 32 := 2#32
  let v732 : BitVec 32 := Scalar.muli v5 c2_i32_605
  let v733 : BitVec 32 := Scalar.addi v731 v732
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_606 : BitVec 32 := 1#32
  let v734 : BitVec 32 := Scalar.muli v11 c1_i32_606
  let v735 : BitVec 32 := Scalar.addi v733 v734
  v735.toNat
def k0_dev24 (d0 : Dev nD) : Nat :=
  let c0_i32_660 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_659 : BitVec 32 := 4#32
  let v802 : BitVec 32 := Scalar.muli v10 c4_i32_659
  let v803 : BitVec 32 := Scalar.addi c0_i32_660 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_661 : BitVec 32 := 2#32
  let v804 : BitVec 32 := Scalar.muli v5 c2_i32_661
  let v805 : BitVec 32 := Scalar.addi v803 v804
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_662 : BitVec 32 := 1#32
  let v806 : BitVec 32 := Scalar.muli v8 c1_i32_662
  let v807 : BitVec 32 := Scalar.addi v805 v806
  v807.toNat
def k0_dev25 (d0 : Dev nD) : Nat :=
  let c0_i32_672 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_671 : BitVec 32 := 4#32
  let v818 : BitVec 32 := Scalar.muli v2 c4_i32_671
  let v819 : BitVec 32 := Scalar.addi c0_i32_672 v818
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_673 : BitVec 32 := 2#32
  let v820 : BitVec 32 := Scalar.muli v5 c2_i32_673
  let v821 : BitVec 32 := Scalar.addi v819 v820
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_674 : BitVec 32 := 1#32
  let v822 : BitVec 32 := Scalar.muli v11 c1_i32_674
  let v823 : BitVec 32 := Scalar.addi v821 v822
  v823.toNat
def k0_dev26 (d0 : Dev nD) : Nat :=
  let c0_i32_728 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_727 : BitVec 32 := 4#32
  let v890 : BitVec 32 := Scalar.muli v10 c4_i32_727
  let v891 : BitVec 32 := Scalar.addi c0_i32_728 v890
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_729 : BitVec 32 := 2#32
  let v892 : BitVec 32 := Scalar.muli v5 c2_i32_729
  let v893 : BitVec 32 := Scalar.addi v891 v892
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_730 : BitVec 32 := 1#32
  let v894 : BitVec 32 := Scalar.muli v8 c1_i32_730
  let v895 : BitVec 32 := Scalar.addi v893 v894
  v895.toNat
def k0_dev27 (d0 : Dev nD) : Nat :=
  let c0_i32_740 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_739 : BitVec 32 := 4#32
  let v906 : BitVec 32 := Scalar.muli v2 c4_i32_739
  let v907 : BitVec 32 := Scalar.addi c0_i32_740 v906
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_741 : BitVec 32 := 2#32
  let v908 : BitVec 32 := Scalar.muli v5 c2_i32_741
  let v909 : BitVec 32 := Scalar.addi v907 v908
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_742 : BitVec 32 := 1#32
  let v910 : BitVec 32 := Scalar.muli v11 c1_i32_742
  let v911 : BitVec 32 := Scalar.addi v909 v910
  v911.toNat
def k0_dev28 (d0 : Dev nD) : Nat :=
  let c0_i32_796 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_795 : BitVec 32 := 4#32
  let v978 : BitVec 32 := Scalar.muli v10 c4_i32_795
  let v979 : BitVec 32 := Scalar.addi c0_i32_796 v978
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_797 : BitVec 32 := 2#32
  let v980 : BitVec 32 := Scalar.muli v5 c2_i32_797
  let v981 : BitVec 32 := Scalar.addi v979 v980
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_798 : BitVec 32 := 1#32
  let v982 : BitVec 32 := Scalar.muli v8 c1_i32_798
  let v983 : BitVec 32 := Scalar.addi v981 v982
  v983.toNat
def k0_dev29 (d0 : Dev nD) : Nat :=
  let c0_i32_808 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_807 : BitVec 32 := 4#32
  let v994 : BitVec 32 := Scalar.muli v2 c4_i32_807
  let v995 : BitVec 32 := Scalar.addi c0_i32_808 v994
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_809 : BitVec 32 := 2#32
  let v996 : BitVec 32 := Scalar.muli v5 c2_i32_809
  let v997 : BitVec 32 := Scalar.addi v995 v996
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_810 : BitVec 32 := 1#32
  let v998 : BitVec 32 := Scalar.muli v11 c1_i32_810
  let v999 : BitVec 32 := Scalar.addi v997 v998
  v999.toNat
def k0_dev30 (d0 : Dev nD) : Nat :=
  let c0_i32_864 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_863 : BitVec 32 := 4#32
  let v1066 : BitVec 32 := Scalar.muli v10 c4_i32_863
  let v1067 : BitVec 32 := Scalar.addi c0_i32_864 v1066
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_865 : BitVec 32 := 2#32
  let v1068 : BitVec 32 := Scalar.muli v5 c2_i32_865
  let v1069 : BitVec 32 := Scalar.addi v1067 v1068
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_866 : BitVec 32 := 1#32
  let v1070 : BitVec 32 := Scalar.muli v8 c1_i32_866
  let v1071 : BitVec 32 := Scalar.addi v1069 v1070
  v1071.toNat
def k0_dev31 (d0 : Dev nD) : Nat :=
  let c0_i32_876 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_875 : BitVec 32 := 4#32
  let v1082 : BitVec 32 := Scalar.muli v2 c4_i32_875
  let v1083 : BitVec 32 := Scalar.addi c0_i32_876 v1082
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_877 : BitVec 32 := 2#32
  let v1084 : BitVec 32 := Scalar.muli v5 c2_i32_877
  let v1085 : BitVec 32 := Scalar.addi v1083 v1084
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_878 : BitVec 32 := 1#32
  let v1086 : BitVec 32 := Scalar.muli v11 c1_i32_878
  let v1087 : BitVec 32 := Scalar.addi v1085 v1086
  v1087.toNat
def k0_off4 (d0 : Dev nD) (c0_i32_918 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32_917 : BitVec 32 := 2048#32
  let v1141 : BitVec 32 := Scalar.muli v16 c2048_i32_917
  let v1142 : BitVec 32 := Scalar.addi v1141 c0_i32_918
  let c0_i32_925 : BitVec 32 := 0#32
  ![v1142.toNat, 0]
def k0_off5 (d0 : Dev nD) (c0_i32_964 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c2048_i32_963 : BitVec 32 := 2048#32
  let v1200 : BitVec 32 := Scalar.muli v19 c2048_i32_963
  let v1201 : BitVec 32 := Scalar.addi v1200 c0_i32_964
  let c0_i32_971 : BitVec 32 := 0#32
  ![v1201.toNat, 0]
def k0_off6 (d0 : Dev nD) (c0_i32_928 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32_927 : BitVec 32 := 2048#32
  let v1153 : BitVec 32 := Scalar.muli v16 c2048_i32_927
  let v1154 : BitVec 32 := Scalar.addi v1153 c0_i32_928
  let v1231 : Index := Scalar.indexCast v1154
  let c0_993 : Index := 0#32
  ![v1231.toNat, 0]
def k0_off7 (d0 : Dev nD) (c0_i32_974 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c2048_i32_973 : BitVec 32 := 2048#32
  let v1212 : BitVec 32 := Scalar.muli v19 c2048_i32_973
  let v1213 : BitVec 32 := Scalar.addi v1212 c0_i32_974
  let v1290 : Index := Scalar.indexCast v1213
  let c0_1039 : Index := 0#32
  ![v1290.toNat, 0]
def k0_dev32 (d0 : Dev nD) : Nat :=
  let c0_i32_1348 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1347 : BitVec 32 := 4#32
  let v1688 : BitVec 32 := Scalar.muli v10 c4_i32_1347
  let v1689 : BitVec 32 := Scalar.addi c0_i32_1348 v1688
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1349 : BitVec 32 := 2#32
  let v1690 : BitVec 32 := Scalar.muli v5 c2_i32_1349
  let v1691 : BitVec 32 := Scalar.addi v1689 v1690
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1350 : BitVec 32 := 1#32
  let v1692 : BitVec 32 := Scalar.muli v8 c1_i32_1350
  let v1693 : BitVec 32 := Scalar.addi v1691 v1692
  v1693.toNat
def k0_dev33 (d0 : Dev nD) : Nat :=
  let c0_i32_1452 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1451 : BitVec 32 := 4#32
  let v1822 : BitVec 32 := Scalar.muli v10 c4_i32_1451
  let v1823 : BitVec 32 := Scalar.addi c0_i32_1452 v1822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1453 : BitVec 32 := 2#32
  let v1824 : BitVec 32 := Scalar.muli v5 c2_i32_1453
  let v1825 : BitVec 32 := Scalar.addi v1823 v1824
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1454 : BitVec 32 := 1#32
  let v1826 : BitVec 32 := Scalar.muli v8 c1_i32_1454
  let v1827 : BitVec 32 := Scalar.addi v1825 v1826
  v1827.toNat
def k0_dev34 (d0 : Dev nD) : Nat :=
  let c0_i32_1510 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1509 : BitVec 32 := 4#32
  let v1897 : BitVec 32 := Scalar.muli v2 c4_i32_1509
  let v1898 : BitVec 32 := Scalar.addi c0_i32_1510 v1897
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1511 : BitVec 32 := 2#32
  let v1899 : BitVec 32 := Scalar.muli v5 c2_i32_1511
  let v1900 : BitVec 32 := Scalar.addi v1898 v1899
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1512 : BitVec 32 := 1#32
  let v1901 : BitVec 32 := Scalar.muli v11 c1_i32_1512
  let v1902 : BitVec 32 := Scalar.addi v1900 v1901
  v1902.toNat
def k0_dev35 (d0 : Dev nD) : Nat :=
  let c0_i32_1614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1613 : BitVec 32 := 4#32
  let v2031 : BitVec 32 := Scalar.muli v2 c4_i32_1613
  let v2032 : BitVec 32 := Scalar.addi c0_i32_1614 v2031
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1615 : BitVec 32 := 2#32
  let v2033 : BitVec 32 := Scalar.muli v5 c2_i32_1615
  let v2034 : BitVec 32 := Scalar.addi v2032 v2033
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1616 : BitVec 32 := 1#32
  let v2035 : BitVec 32 := Scalar.muli v11 c1_i32_1616
  let v2036 : BitVec 32 := Scalar.addi v2034 v2035
  v2036.toNat
def k0_off8 (d0 : Dev nD) (c0_i32_1709 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c2048_i32_1708 : BitVec 32 := 2048#32
  let v2157 : BitVec 32 := Scalar.muli v23 c2048_i32_1708
  let v2158 : BitVec 32 := Scalar.addi v2157 c0_i32_1709
  let v2231 : Index := Scalar.indexCast v2158
  let c0_1771 : Index := 0#32
  ![v2231.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x2048 : Shape := ⟨3, ![2, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KernelIdeal.Body.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Regions

@[expose] public section

set_option maxRecDepth 16384

noncomputable section

/-! The kernel's body as a short structured program: one step per chunk with the chunk's index a
variable, iterated; and that the printed body is it. -/

namespace Cert.KernelIdeal.Body

open Cert.KernelIdeal Cert.KernelIdeal.Gen
open Idealize.ShloMosaic Idealize.ShloMosaic.TcCoe
open Idealize.SL Idealize.SL.Sem

variable {F : FTy → Type} [FloatOps F]

/-- The body's programs. -/
abbrev P (F : FTy → Type) := Prog (TpuEff nD τ sig (Elt F) Λ₀ .tc) PUnit

/-! ## Buffers, chunks and semaphores -/

abbrev mSlab : Memref sig .tc .hbm S8192x2048 .f32 := Memref.whole main_v1
abbrev mRes : Memref sig .tc .hbm S8192x2048 .f32 := Memref.whole main_arg1
abbrev mQd : Memref sig .tc .hbm S1024x2048 .bf16 := Memref.whole main_v25
abbrev mGam : Memref sig .tc .vmem S1x2048 .f32 := win0_0.stage (cfg0.slots t0_0 0)
abbrev mOut : Memref sig .tc .hbm S8192x2048 .f32 := Memref.whole main_v27
abbrev mOv : Memref sig .tc .vmem S8192x2048 .bf16 := Memref.whole cc0_scratch0
abbrev mSv : Memref sig .tc .vmem S8x256x2048 .bf16 := Memref.whole cc0_scratch1
abbrev mLv : Memref sig .tc .vmem S2x256x2048 .f32 := Memref.whole cc0_scratch12
abbrev mWv : Memref sig .tc .vmem S2x256x2048 .f32 := Memref.whole cc0_scratch13

/-- A row offset and its bound. -/
theorem inb8 (k : Fin 8) : ∀ a, (![k.val, 0, 0] : Fin 3 → Nat) a + S1x256x2048.size a ≤ S8x256x2048.size a := by
  revert k; decide
theorem inb2 (k : Fin 2) : ∀ a, (![k.val, 0, 0] : Fin 3 → Nat) a + S1x256x2048.size a ≤ S2x256x2048.size a := by
  revert k; decide
theorem inb4 (k : Fin 4) : ∀ a, (![256 * k.val, 0] : Fin 2 → Nat) a + S256x2048.size a ≤ S1024x2048.size a := by
  revert k; decide
theorem inbS12 (k : Fin 12) : ∀ a, (![k.val] : Fin 1 → Nat) a + S1.size a ≤ S12.size a := by
  revert k; decide
theorem inbS8 (k : Fin 8) : ∀ a, (![k.val] : Fin 1 → Nat) a + S1.size a ≤ S8.size a := by
  revert k; decide
theorem inbS2 (k : Fin 2) : ∀ a, (![k.val] : Fin 1 → Nat) a + S1.size a ≤ S2.size a := by
  revert k; decide

theorem ww8 (k : Fin 8) : (Rect.unit (s := S8x256x2048) ![k.val, 0, 0] S1x256x2048.size (inb8 k)).WholeWords (EltTy.packing .bf16) :=
  match k with
  | 0 => wordsbf16_S8x256x2048_S1x256x2048_0_0_0
  | 1 => wordsbf16_S8x256x2048_S1x256x2048_1_0_0
  | 2 => wordsbf16_S8x256x2048_S1x256x2048_2_0_0
  | 3 => wordsbf16_S8x256x2048_S1x256x2048_3_0_0
  | 4 => wordsbf16_S8x256x2048_S1x256x2048_4_0_0
  | 5 => wordsbf16_S8x256x2048_S1x256x2048_5_0_0
  | 6 => wordsbf16_S8x256x2048_S1x256x2048_6_0_0
  | 7 => wordsbf16_S8x256x2048_S1x256x2048_7_0_0
theorem pr8 (k : Fin 8) : (Rect.unit (s := S8x256x2048) ![k.val, 0, 0] S1x256x2048.size (inb8 k)).PackedRows (EltTy.packing .bf16) :=
  match k with
  | 0 => packedbf16_S8x256x2048_S1x256x2048_0_0_0
  | 1 => packedbf16_S8x256x2048_S1x256x2048_1_0_0
  | 2 => packedbf16_S8x256x2048_S1x256x2048_2_0_0
  | 3 => packedbf16_S8x256x2048_S1x256x2048_3_0_0
  | 4 => packedbf16_S8x256x2048_S1x256x2048_4_0_0
  | 5 => packedbf16_S8x256x2048_S1x256x2048_5_0_0
  | 6 => packedbf16_S8x256x2048_S1x256x2048_6_0_0
  | 7 => packedbf16_S8x256x2048_S1x256x2048_7_0_0
theorem ww4 (k : Fin 4) : (Rect.unit (s := S1024x2048) ![256 * k.val, 0] S256x2048.size (inb4 k)).WholeWords (EltTy.packing .bf16) :=
  match k with
  | 0 => wordsbf16_S1024x2048_S256x2048_0_0
  | 1 => wordsbf16_S1024x2048_S256x2048_256_0
  | 2 => wordsbf16_S1024x2048_S256x2048_512_0
  | 3 => wordsbf16_S1024x2048_S256x2048_768_0

/-- Slot `k` of the send buffer, and of the two load and write buffers. -/
abbrev svSlot (k : Fin 8) : Memref sig .tc .vmem S256x2048 .bf16 :=
  (mSv.slice (Rect.unit (s := S8x256x2048) ![k.val, 0, 0] S1x256x2048.size (inb8 k)) (fun _ => rfl)).squeeze S256x2048 squeezes_S1x256x2048_S256x2048
abbrev lvSlot (k : Fin 2) : Memref sig .tc .vmem S256x2048 .f32 :=
  (mLv.slice (Rect.unit (s := S2x256x2048) ![k.val, 0, 0] S1x256x2048.size (inb2 k)) (fun _ => rfl)).squeeze S256x2048 squeezes_S1x256x2048_S256x2048
abbrev wvSlot (k : Fin 2) : Memref sig .tc .vmem S256x2048 .f32 :=
  (mWv.slice (Rect.unit (s := S2x256x2048) ![k.val, 0, 0] S1x256x2048.size (inb2 k)) (fun _ => rfl)).squeeze S256x2048 squeezes_S1x256x2048_S256x2048
/-- Chunk `k` of the host's sums. -/
abbrev qdChunk (k : Fin 4) : Memref sig .tc .hbm S256x2048 .bf16 :=
  mQd.slice (Rect.unit (s := S1024x2048) ![256 * k.val, 0] S256x2048.size (inb4 k)) (fun _ => rfl)

/-- The 256 rows at an offset of an array of 8192 rows. -/
abbrev rows {sp : Space} {e : EltTy} (m : Memref sig .tc sp S8192x2048 e) (o : Fin 2 → ℕ) (h : ∀ a, o a + S256x2048.size a ≤ S8192x2048.size a) :
    Memref sig .tc sp S256x2048 e :=
  m.slice (Rect.unit (s := S8192x2048) o S256x2048.size h) (fun _ => rfl)

abbrev sem12 (a : DmaSems sig S12) (k : Fin 12) : DmaSem sig :=
  ((a.slice (Rect.unit (s := S12) ![k.val] S1.size (inbS12 k))).squeeze S_ squeezes_S1_S_).sem
abbrev sem8 (a : DmaSems sig S8) (k : Fin 8) : DmaSem sig :=
  ((a.slice (Rect.unit (s := S8) ![k.val] S1.size (inbS8 k))).squeeze S_ squeezes_S1_S_).sem
abbrev sem2 (a : DmaSems sig S2) (k : Fin 2) : DmaSem sig :=
  ((a.slice (Rect.unit (s := S2) ![k.val] S1.size (inbS2 k))).squeeze S_ squeezes_S1_S_).sem

abbrev bar : Sem sig := (SemArray.scalar (sig.barrier 0 rfl) : Sems sig S_).sem

/-! ## What the device decides -/

/-- The offsets of the chunks (four quarters by eight), of the same chunks as the vector loads of the
    received data name them, and the devices named. -/
@[ext] structure Env where
  off : Fin 4 → Fin 8 → Fin 2 → ℕ
  hoff : ∀ r k a, off r k a + S256x2048.size a ≤ S8192x2048.size a
  ww : ∀ r k, (Rect.unit (s := S8192x2048) (off r k) S256x2048.size (hoff r k)).WholeWords (EltTy.packing .bf16)
  ld : Fin 4 → Fin 8 → Fin 2 → ℕ
  hld : ∀ r k a, ld r k a + S256x2048.size a ≤ S8192x2048.size a
  bY : Dev nD
  bX : Dev nD
  bZ : Dev nD
  dY : Fin 8 → Dev nD
  dQ : Fin 4 → Dev nD
  dA : Fin 8 → Dev nD
  dB : Fin 8 → Dev nD
  dCx : Fin 2 → Dev nD
  dCz : Fin 2 → Dev nD

variable (E : Env)

abbrev slabC (r : Fin 4) (k : Fin 8) := rows mSlab (E.off r k) (E.hoff r k)
abbrev resC (r : Fin 4) (k : Fin 8) := rows mRes (E.off r k) (E.hoff r k)
abbrev outC (r : Fin 4) (k : Fin 8) := rows mOut (E.off r k) (E.hoff r k)
abbrev ovC (r : Fin 4) (k : Fin 8) := rows mOv (E.off r k) (E.hoff r k)

theorem ovC_we (r : Fin 4) (k : Fin 8) : (ovC E r k).view.WordExact :=
  (Memref.isWhole_whole cc0_scratch0).wordExact_slice rfl _ (E.ww r k)
theorem sv_we (k : Fin 8) : (svSlot k).view.WordExact :=
  ((Memref.isWhole_whole cc0_scratch1).wordExact_slice rfl _ (ww8 k)).reshape _ _
theorem qd_we (k : Fin 4) : (qdChunk k).view.WordExact :=
  (Memref.isWhole_whole main_v25).wordExact_slice rfl _ (ww4 k)

/-! ## Steps -/

abbrev f8 (n : ℕ) : Fin 8 := ⟨n % 8, Nat.mod_lt _ (by decide)⟩
abbrev f4 (n : ℕ) : Fin 4 := ⟨n % 4, Nat.mod_lt _ (by decide)⟩
abbrev f2 (n : ℕ) : Fin 2 := ⟨n % 2, Nat.mod_lt _ (by decide)⟩
abbrev f12 (n : ℕ) : Fin 12 := ⟨n % 12, Nat.mod_lt _ (by decide)⟩

/-- `f i (f (i+1) (… (f (i+m-1) K)))`. -/
def iter (f : ℕ → P F → P F) : ℕ → ℕ → P F → P F
  | 0, _, K => K
  | m + 1, i, K => f i (iter f m (i + 1) K)

/-- A chunk of the slab (or of the second summand) into a load slot. -/
abbrev load0 (i : Fin 2) (v : Memref sig .tc .hbm S256x2048 .f32) (K : P F) : P F :=
  .op (.enqueueDma v (.here (lvSlot i)) (.dma (sem2 cc0_scratch14 i)) (View.wordExact_bits rfl) ((View.wordExact_bits rfl).reshape _ _) ⟨Or.inl rfl, trivial⟩) fun _ => K
abbrev wait0 (i : Fin 2) (v : Memref sig .tc .hbm S256x2048 .f32) (K : P F) : P F :=
  .op (.waitDma2 (sem2 cc0_scratch14 i) v (lvSlot i) (View.wordExact_bits rfl) ((View.wordExact_bits rfl).reshape _ _)) fun _ => K

abbrev lvLoad (i : Fin 2) (K : Vec F S1x256x2048 .f32 → P F) : P F :=
  .op (.load mLv (Rect.unit (s := S2x256x2048) ![i.val, 0, 0] S1x256x2048.size (inb2 i)).toLoadRect (View.loadsAt_vmem h_S1x256x2048)) K

/-- What is stored for sending: the sum of the two chunks, narrowed. -/
abbrev sumPay (a b : Vec F S1x256x2048 .f32) : FVec F S1x256x2048 .bf16 := k0_pay1 a b

/-- The exchange along y, chunk `k`. -/
def yStep (n : ℕ) (K : P F) : P F :=
  load0 0 (slabC E 0 (f8 n)) <| load0 1 (resC E 0 (f8 n)) <|
  wait0 0 (slabC E 0 (f8 n)) <| wait0 1 (resC E 0 (f8 n)) <|
  lvLoad 0 fun a => lvLoad 1 fun b =>
  .op (.load mSv (Rect.unit (s := S8x256x2048) ![(f8 n).val, 0, 0] S1x256x2048.size (inb8 (f8 n))).toLoadRect (View.loadsAt_vmem h_S1x256x2048)) fun _ =>
  .op (.store mSv (Rect.unit (s := S8x256x2048) ![(f8 n).val, 0, 0] S1x256x2048.size (inb8 (f8 n))) (sumPay a b) Finset.univ
    (View.stores_vmem h_S1x256x2048 ((Memref.isWhole_whole cc0_scratch1).storeExact_slice rfl _ (pr8 (f8 n))) (fun _ => rfl)) (.inl rfl)) fun _ =>
  .op (.enqueueDma (svSlot (f8 n)) (.remote (Dev.tc (E.dY (f8 n))) (ovC E 0 (f8 n)) (.dma (sem12 cc0_scratch2 (f12 n)))) (.dma (sem12 cc0_scratch3 (f12 n)))
    (sv_we (f8 n)) (ovC_we E 0 (f8 n)) ⟨⟨rfl, Or.inl rfl⟩, trivial⟩) fun _ => K

/-- The host's sums along y, chunk `k`. -/
def qStep (n : ℕ) (K : P F) : P F :=
  .op (.enqueueDma (qdChunk (f4 n)) (.remote (Dev.tc (E.dQ (f4 n))) (ovC E 3 (f8 n)) (.dma (sem12 cc0_scratch2 (f12 (8 + n))))) (.dma (sem12 cc0_scratch3 (f12 (8 + n))))
    (qd_we (f4 n)) (ovC_we E 3 (f8 n)) ⟨⟨rfl, Or.inl rfl⟩, trivial⟩) fun _ => K

/-- Chunk `n` of the 32 in the order they are finished: its quarter and index. -/
abbrev qOf (n : ℕ) : Fin 4 := if n < 8 then 0 else if n < 24 then (if n % 2 = 0 then 1 else 2) else 3
abbrev kOf (n : ℕ) : Fin 8 := if n < 8 then f8 n else if n < 24 then f8 ((n - 8) / 2) else f8 (n - 24)

abbrev stage (n : ℕ) (K : P F) : P F := load0 (f2 n) (slabC E (qOf n) (kOf n)) K

/-- The finished chunk from its slab chunk, the received one and the scale. -/
abbrev outPay (a : Vec F S1x256x2048 .f32) (b : Vec F S256x2048 .bf16) (g : Vec F S1x2048 .f32) : FVec F S1x256x2048 .f32 :=
  have v936 : FVec F S256x2048 .f32 := shapeCast S256x2048 a shapeCasts_S1x256x2048_S256x2048
  have v939 : FVec F S256x2048 .f32 := extf .f32 b bitsLt_bf16_f32
  have v940 : FVec F S256x2048 .f32 := addf v936 v939
  have v941 : FVec F S256x2048 .f32 := mulf v940 v940
  have v942 : FVec F S256 .f32 := multiReduction .add [1] S256 v941 0x00000000#32 reduces_S256x2048_S256 (.inl rfl) rfl
  have v943 : FVec F S256x1 .f32 := shapeCast S256x1 v942 shapeCasts_S256_S256x1
  have cst_767 : F .f32 := Scalar.ofBits .f32 0x3A000000#32
  have v944 : FVec F S256x1 .f32 := broadcast S256x1 cst_767
  have v945 : FVec F S256x1 .f32 := mulf v943 v944
  have cst_768 : F .f32 := Scalar.ofBits .f32 0x358637BD#32
  have v946 : FVec F S256x1 .f32 := broadcast S256x1 cst_768
  have v947 : FVec F S256x1 .f32 := addf v945 v946
  have v948 : FVec F S256x1 .f32 := rsqrt v947
  have v949 : FVec F S256x2048 .f32 := broadcastTo S256x2048 v948 broadcasts_S256x1_S256x2048
  have v950 : FVec F S256x2048 .f32 := mulf v940 v949
  have v952 : FVec F S1x2048 .f32 := shapeCast S1x2048 g shapeCasts_S1x2048_S1x2048
  have v953 : FVec F S256x2048 .f32 := broadcastTo S256x2048 v952 broadcasts_S1x2048_S256x2048
  have v954 : FVec F S256x2048 .f32 := mulf v950 v953
  shapeCast S1x256x2048 v954 shapeCasts_S256x2048_S1x256x2048

/-- The copy back of chunk `m` is waited for. -/
def waitOut (m : ℕ) (K : P F) : P F :=
  .op (.waitDma2 (sem2 cc0_scratch15 (f2 m)) (wvSlot (f2 m)) (outC E (qOf m) (kOf m)) ((View.wordExact_bits rfl).reshape _ _) (View.wordExact_bits rfl)) fun _ => K

/-- Chunk `m` is finished and its copy back started, its write slot's free. -/
def flushTail (m : ℕ) (K : P F) : P F :=
  lvLoad (f2 m) fun a =>
  .op (.load mOv (Rect.unit (s := S8192x2048) (E.ld (qOf m) (kOf m)) S256x2048.size (E.hld (qOf m) (kOf m))).toLoadRect (View.loadsAt_vmem h_S256x2048)) fun b =>
  .op (.load mGam (Rect.unit (s := S1x2048) ![0, 0] S1x2048.size inb_S1x2048_S1x2048_0_0).toLoadRect (View.loadsAt_vmem h_S1x2048)) fun g =>
  .op (.load mWv (Rect.unit (s := S2x256x2048) ![(f2 m).val, 0, 0] S1x256x2048.size (inb2 (f2 m))).toLoadRect (View.loadsAt_vmem h_S1x256x2048)) fun _ =>
  .op (.store mWv (Rect.unit (s := S2x256x2048) ![(f2 m).val, 0, 0] S1x256x2048.size (inb2 (f2 m))) (outPay a b g) Finset.univ
    (View.stores_vmem_bits_univ h_S1x256x2048 rfl) (.inl rfl)) fun _ =>
  .op (.enqueueDma (wvSlot (f2 m)) (.here (outC E (qOf m) (kOf m))) (.dma (sem2 cc0_scratch15 (f2 m))) ((View.wordExact_bits rfl).reshape _ _) (View.wordExact_bits rfl) ⟨Or.inl rfl, trivial⟩) fun _ => K

def flush (m : ℕ) (K : P F) : P F :=
  wait0 (f2 m) (slabC E (qOf m) (kOf m)) <|
  if 2 ≤ m then waitOut E (m - 2) (flushTail E m K) else flushTail E m K

/-- The receive of chunk `n` and the forwards after it. -/
def fwd (d : Dev nD) (r : Fin 4) (k : Fin 8) (sS sR : DmaSem sig) (K : P F) : P F :=
  .op (.enqueueDma (ovC E r k) (.remote (Dev.tc d) (ovC E r k) (.dma sS)) (.dma sR) (ovC_we E r k) (ovC_we E r k) ⟨⟨rfl, Or.inl rfl⟩, trivial⟩) fun _ => K
def rcv (s : DmaSem sig) (r : Fin 4) (k : Fin 8) (K : P F) : P F :=
  .op (.waitDma2 s (ovC E r k) (ovC E r k) (ovC_we E r k) (ovC_we E r k)) fun _ => K

def rcvM (n : ℕ) (K : P F) : P F :=
  .op (.waitDma2 (sem12 cc0_scratch3 (f12 n)) (svSlot (f8 n)) (ovC E 0 (f8 n)) (sv_we (f8 n)) (ovC_we E 0 (f8 n))) fun _ =>
  fwd E (E.dA (f8 n)) 0 (f8 n) (sem8 cc0_scratch4 (f8 n)) (sem8 cc0_scratch5 (f8 n)) <|
  fwd E (E.dB (f8 n)) 0 (f8 n) (sem8 cc0_scratch6 (f8 n)) (sem8 cc0_scratch7 (f8 n)) K
def rcvX (k : ℕ) (K : P F) : P F :=
  rcv E (sem8 cc0_scratch5 (f8 k)) 1 (f8 k) <|
  if 6 ≤ k then fwd E (E.dCz (f2 k)) 1 (f8 k) (sem2 cc0_scratch10 (f2 k)) (sem2 cc0_scratch11 (f2 k)) K else K
def rcvZ (k : ℕ) (K : P F) : P F :=
  rcv E (sem8 cc0_scratch7 (f8 k)) 2 (f8 k) <|
  if 4 ≤ k ∧ k < 6 then fwd E (E.dCx (f2 k)) 2 (f8 k) (sem2 cc0_scratch8 (f2 k)) (sem2 cc0_scratch9 (f2 k)) K else K
def rcvD (k : ℕ) (K : P F) : P F :=
  if k < 4 then .op (.waitDma2 (sem12 cc0_scratch3 (f12 (8 + k))) (qdChunk (f4 k)) (ovC E 3 (f8 k)) (qd_we (f4 k)) (ovC_we E 3 (f8 k))) fun _ => K
  else if k < 6 then rcv E (sem2 cc0_scratch9 (f2 k)) 3 (f8 k) K
  else rcv E (sem2 cc0_scratch11 (f2 k)) 3 (f8 k) K

def stepM (n : ℕ) (K : P F) : P F := rcvM E n <| stage E n <| flush E (n - 1) K
def stepXZ (k : ℕ) (K : P F) : P F :=
  rcvX E k <| stage E (8 + 2 * k) <| flush E (7 + 2 * k) <| rcvZ E k <| stage E (9 + 2 * k) <| flush E (8 + 2 * k) K
def stepD (k : ℕ) (K : P F) : P F := rcvD E k <| stage E (24 + k) <| flush E (23 + k) K

/-- Waits for the copies away. -/
def endY (k : ℕ) (K : P F) : P F :=
  .op (.waitDma2 (sem12 cc0_scratch2 (f12 k)) (ovC E 0 (f8 k)) (svSlot (f8 k)) (ovC_we E 0 (f8 k)) (sv_we (f8 k))) fun _ => K
def endQ (k : ℕ) (K : P F) : P F :=
  .op (.waitDma2 (sem12 cc0_scratch2 (f12 (8 + k))) (ovC E 3 (f8 k)) (qdChunk (f4 k)) (ovC_we E 3 (f8 k)) (qd_we (f4 k))) fun _ => K
def endAB (k : ℕ) (K : P F) : P F :=
  rcv E (sem8 cc0_scratch4 (f8 k)) 0 (f8 k) <| rcv E (sem8 cc0_scratch6 (f8 k)) 0 (f8 k) K
def endX (k : ℕ) (K : P F) : P F := rcv E (sem2 cc0_scratch8 (f2 k)) 2 (f8 k) K
def endZ (k : ℕ) (K : P F) : P F := rcv E (sem2 cc0_scratch10 (f2 k)) 1 (f8 k) K

def hello (K : P F) : P F :=
  .op (.semSignal (Dev.tc E.bY) bar (1#32).toInt) fun _ =>
  .op (.semSignal (Dev.tc E.bX) bar (1#32).toInt) fun _ =>
  .op (.semSignal (Dev.tc E.bZ) bar (1#32).toInt) fun _ =>
  .op (.semWait bar (3#32).toInt) fun _ => K

/-- The whole body. -/
def all : P F :=
  hello E <| iter (yStep E) 8 0 <| iter (qStep E) 4 0 <|
  rcvM E 0 <| stage E 0 <| iter (stepM E) 7 1 <| iter (stepXZ E) 8 0 <| iter (stepD E) 8 0 <|
  flush E 31 <| waitOut E 30 <| waitOut E 31 <|
  iter (endY E) 8 0 <| iter (endQ E) 4 0 <| iter (endAB E) 8 0 <| iter (endX E) 2 4 <| iter (endZ E) 2 6 <| .ret ⟨⟩

/-- What the printed body names at device `d`. -/
def printedEnv (d : Dev nD) : Env where
  off r k := match r with
    | 0 => k0_off1 d (BitVec.ofNat 32 (256 * k.val))
    | 1 => k0_off4 d (BitVec.ofNat 32 (256 * k.val))
    | 2 => k0_off5 d (BitVec.ofNat 32 (256 * k.val))
    | 3 => k0_off2 d (BitVec.ofNat 32 (256 * k.val))
  hoff r k := match r with
    | 0 => k0_off1_inb d k
    | 1 => k0_off4_inb d k
    | 2 => k0_off5_inb d k
    | 3 => k0_off2_inb d k
  ww r k := match r with
    | 0 => k0_off1_wordsbf16 d k
    | 1 => k0_off4_wordsbf16 d k
    | 2 => k0_off5_wordsbf16 d k
    | 3 => k0_off2_wordsbf16 d k
  ld r k := match r with
    | 0 => k0_off3 d (BitVec.ofNat 32 (256 * k.val))
    | 1 => k0_off6 d (BitVec.ofNat 32 (256 * k.val))
    | 2 => k0_off7 d (BitVec.ofNat 32 (256 * k.val))
    | 3 => k0_off8 d (BitVec.ofNat 32 (256 * k.val))
  hld r k := match r with
    | 0 => k0_off3_inb d k
    | 1 => k0_off6_inb d k
    | 2 => k0_off7_inb d k
    | 3 => k0_off8_inb d k
  bY := ⟨k0_dev1 d, k0_dev1_lt d⟩
  bX := ⟨k0_dev2 d, k0_dev2_lt d⟩
  bZ := ⟨k0_dev3 d, k0_dev3_lt d⟩
  dY k := match k with
    | 0 => ⟨k0_dev4 d, k0_dev4_lt d⟩
    | 1 => ⟨k0_dev5 d, k0_dev5_lt d⟩
    | 2 => ⟨k0_dev6 d, k0_dev6_lt d⟩
    | 3 => ⟨k0_dev7 d, k0_dev7_lt d⟩
    | 4 => ⟨k0_dev8 d, k0_dev8_lt d⟩
    | 5 => ⟨k0_dev9 d, k0_dev9_lt d⟩
    | 6 => ⟨k0_dev10 d, k0_dev10_lt d⟩
    | 7 => ⟨k0_dev11 d, k0_dev11_lt d⟩
  dQ k := match k with
    | 0 => ⟨k0_dev12 d, k0_dev12_lt d⟩
    | 1 => ⟨k0_dev13 d, k0_dev13_lt d⟩
    | 2 => ⟨k0_dev14 d, k0_dev14_lt d⟩
    | 3 => ⟨k0_dev15 d, k0_dev15_lt d⟩
  dA k := match k with
    | 0 => ⟨k0_dev16 d, k0_dev16_lt d⟩
    | 1 => ⟨k0_dev18 d, k0_dev18_lt d⟩
    | 2 => ⟨k0_dev20 d, k0_dev20_lt d⟩
    | 3 => ⟨k0_dev22 d, k0_dev22_lt d⟩
    | 4 => ⟨k0_dev24 d, k0_dev24_lt d⟩
    | 5 => ⟨k0_dev26 d, k0_dev26_lt d⟩
    | 6 => ⟨k0_dev28 d, k0_dev28_lt d⟩
    | 7 => ⟨k0_dev30 d, k0_dev30_lt d⟩
  dB k := match k with
    | 0 => ⟨k0_dev17 d, k0_dev17_lt d⟩
    | 1 => ⟨k0_dev19 d, k0_dev19_lt d⟩
    | 2 => ⟨k0_dev21 d, k0_dev21_lt d⟩
    | 3 => ⟨k0_dev23 d, k0_dev23_lt d⟩
    | 4 => ⟨k0_dev25 d, k0_dev25_lt d⟩
    | 5 => ⟨k0_dev27 d, k0_dev27_lt d⟩
    | 6 => ⟨k0_dev29 d, k0_dev29_lt d⟩
    | 7 => ⟨k0_dev31 d, k0_dev31_lt d⟩
  dCx k := match k with
    | 0 => ⟨k0_dev32 d, k0_dev32_lt d⟩
    | 1 => ⟨k0_dev33 d, k0_dev33_lt d⟩
  dCz k := match k with
    | 0 => ⟨k0_dev34 d, k0_dev34_lt d⟩
    | 1 => ⟨k0_dev35 d, k0_dev35_lt d⟩

/-- The printed body is the structured one. -/
theorem bodyAt0_eq : (bodyAt0 t0_0 : P F) = .op .deviceId fun d => all (printedEnv d) := by
  chain_rfl

end Cert.KernelIdeal.Body
-- ==== Proof.KernelIdeal.Env.lean ====
module

public import proofs.«01_k».proof.Proof.KernelIdeal.Body
public import Idealize.ShloMosaic.Lib.Rounds
public import Idealize.ShloMosaic.Lib.Transfers
public import Idealize.ShloMosaic.Lib.Pipeline.Kit
public import Idealize.ShloMosaic.Lib.Pipeline.RegionTalk
public import Idealize.ShloMosaic.Lib.StableHlo
public import Idealize.ShloMosaic.Lib.Tactic

@[expose] public section

set_option maxRecDepth 16384

noncomputable section

/-! The chunks' offsets and the neighbours at a device, as plain arithmetic; the chunks' elements. -/

namespace Cert.KernelIdeal.Body

open Cert.KernelIdeal Cert.KernelIdeal.Gen
open Idealize.ShloMosaic Idealize.ShloMosaic.TcCoe
open Idealize.SL Idealize.SL.Sem

variable {F : FTy → Type} [FloatOps F]

/-! ## Neighbours and quarters -/

def py (c : Dev nD) : Dev nD := if c.val / 2 % 2 = 0 then ⟨(c.val + 2) % 8, Nat.mod_lt _ (by decide)⟩ else ⟨(c.val + 6) % 8, Nat.mod_lt _ (by decide)⟩
def px (c : Dev nD) : Dev nD := ⟨(c.val + 4) % 8, Nat.mod_lt _ (by decide)⟩
def pz (c : Dev nD) : Dev nD := if c.val % 2 = 0 then ⟨(c.val + 1) % 8, Nat.mod_lt _ (by decide)⟩ else ⟨(c.val + 7) % 8, Nat.mod_lt _ (by decide)⟩

theorem py_py (c : Dev nD) : py (py c) = c := by revert c; decide
theorem px_px (c : Dev nD) : px (px c) = c := by revert c; decide
theorem pz_pz (c : Dev nD) : pz (pz c) = c := by revert c; decide
theorem px_pz (c : Dev nD) : px (pz c) = pz (px c) := by revert c; decide
theorem px_py (c : Dev nD) : px (py c) = py (px c) := by revert c; decide
theorem pz_py (c : Dev nD) : pz (py c) = py (pz c) := by revert c; decide

def eY : Dev nD ≃ Dev nD := ⟨py, py, py_py, py_py⟩
def eX : Dev nD ≃ Dev nD := ⟨px, px, px_px, px_px⟩
def eZ : Dev nD ≃ Dev nD := ⟨pz, pz, pz_pz, pz_pz⟩

/-- The quarter of the rows that device `c` handles `r`th: its own, its x neighbour's, its z neighbour's, the
    diagonal's. -/
def quar (c : Dev nD) : Fin 4 → Fin 4
  | 0 => ⟨(2 * (c.val / 4) + c.val % 2) % 4, Nat.mod_lt _ (by decide)⟩
  | 1 => ⟨(2 * (1 - c.val / 4) + c.val % 2) % 4, Nat.mod_lt _ (by decide)⟩
  | 2 => ⟨(2 * (c.val / 4) + (1 - c.val % 2)) % 4, Nat.mod_lt _ (by decide)⟩
  | 3 => ⟨(2 * (1 - c.val / 4) + (1 - c.val % 2)) % 4, Nat.mod_lt _ (by decide)⟩

theorem quar_inj (c : Dev nD) : ∀ r r', quar c r = quar c r' → r = r' := by revert c; decide
theorem quar_surj (c : Dev nD) : ∀ q, ∃ r, quar c r = q := by revert c; decide
/-- Which of the quarters a quarter is at the device. -/
def unquar (c : Dev nD) (q : Fin 4) : Fin 4 :=
  if quar c 0 = q then 0 else if quar c 1 = q then 1 else if quar c 2 = q then 2 else 3
theorem quar_unquar (c : Dev nD) (q : Fin 4) : quar c (unquar c q) = q := by revert c q; decide
theorem unquar_quar (c : Dev nD) (r : Fin 4) : unquar c (quar c r) = r := by revert c r; decide
def eQ (c : Dev nD) : Fin 4 ≃ Fin 4 := ⟨quar c, unquar c, unquar_quar c, quar_unquar c⟩

theorem quar_py (c : Dev nD) (r : Fin 4) : quar (py c) r = quar c r := by revert c r; decide
theorem quar_px0 (c : Dev nD) : quar (px c) 0 = quar c 1 := by revert c; decide
theorem quar_px1 (c : Dev nD) : quar (px c) 1 = quar c 0 := by revert c; decide
theorem quar_px2 (c : Dev nD) : quar (px c) 2 = quar c 3 := by revert c; decide
theorem quar_px3 (c : Dev nD) : quar (px c) 3 = quar c 2 := by revert c; decide
theorem quar_pz0 (c : Dev nD) : quar (pz c) 0 = quar c 2 := by revert c; decide
theorem quar_pz1 (c : Dev nD) : quar (pz c) 1 = quar c 3 := by revert c; decide
theorem quar_pz2 (c : Dev nD) : quar (pz c) 2 = quar c 0 := by revert c; decide
theorem quar_pz3 (c : Dev nD) : quar (pz c) 3 = quar c 1 := by revert c; decide

/-! ## Offsets -/

def aoff (q : Fin 4) (k : Fin 8) : Fin 2 → ℕ := ![2048 * q.val + 256 * k.val, 0]
theorem inbQ (q : Fin 4) (k : Fin 8) : ∀ a, aoff q k a + S256x2048.size a ≤ S8192x2048.size a := by
  revert q k; decide

theorem off1_eq (c : Dev nD) (k : Fin 8) : k0_off1 c (BitVec.ofNat 32 (256 * k.val)) = aoff (quar c 0) k := by
  revert c k; decide +kernel
theorem off4_eq (c : Dev nD) (k : Fin 8) : k0_off4 c (BitVec.ofNat 32 (256 * k.val)) = aoff (quar c 1) k := by
  revert c k; decide +kernel
theorem off5_eq (c : Dev nD) (k : Fin 8) : k0_off5 c (BitVec.ofNat 32 (256 * k.val)) = aoff (quar c 2) k := by
  revert c k; decide +kernel
theorem off2_eq (c : Dev nD) (k : Fin 8) : k0_off2 c (BitVec.ofNat 32 (256 * k.val)) = aoff (quar c 3) k := by
  revert c k; decide +kernel
theorem off3_eq (c : Dev nD) (k : Fin 8) : k0_off3 c (BitVec.ofNat 32 (256 * k.val)) = aoff (quar c 0) k := by
  revert c k; decide +kernel
theorem off6_eq (c : Dev nD) (k : Fin 8) : k0_off6 c (BitVec.ofNat 32 (256 * k.val)) = aoff (quar c 1) k := by
  revert c k; decide +kernel
theorem off7_eq (c : Dev nD) (k : Fin 8) : k0_off7 c (BitVec.ofNat 32 (256 * k.val)) = aoff (quar c 2) k := by
  revert c k; decide +kernel
theorem off8_eq (c : Dev nD) (k : Fin 8) : k0_off8 c (BitVec.ofNat 32 (256 * k.val)) = aoff (quar c 3) k := by
  revert c k; decide +kernel

theorem poff_eq (c : Dev nD) : (printedEnv c).off = fun r k => aoff (quar c r) k := by
  funext r k
  match r with
  | 0 => exact off1_eq c k
  | 1 => exact off4_eq c k
  | 2 => exact off5_eq c k
  | 3 => exact off2_eq c k
theorem pld_eq (c : Dev nD) : (printedEnv c).ld = fun r k => aoff (quar c r) k := by
  funext r k
  match r with
  | 0 => exact off3_eq c k
  | 1 => exact off6_eq c k
  | 2 => exact off7_eq c k
  | 3 => exact off8_eq c k

theorem wwQ' (c : Dev nD) (r : Fin 4) (k : Fin 8) :
    (Rect.unit (s := S8192x2048) (aoff (quar c r) k) S256x2048.size (inbQ (quar c r) k)).WholeWords (EltTy.packing .bf16) := by
  have h := (printedEnv c).ww r k
  have e : (printedEnv c).off r k = aoff (quar c r) k := congrFun (congrFun (poff_eq c) r) k
  revert h
  generalize (printedEnv c).hoff r k = h₁
  revert h₁
  rw [e]
  exact fun _ h => h

/-- The device's offsets and neighbours, plainly. -/
def canon (c : Dev nD) : Env where
  off r k := aoff (quar c r) k
  hoff r k := inbQ (quar c r) k
  ww r k := wwQ' c r k
  ld r k := aoff (quar c r) k
  hld r k := inbQ (quar c r) k
  bY := py c
  bX := px c
  bZ := pz c
  dY _ := py c
  dQ _ := py c
  dA _ := px c
  dB _ := pz c
  dCx _ := px c
  dCz _ := pz c

theorem printedEnv_eq (c : Dev nD) : printedEnv c = canon c := by
  apply Env.ext
  · exact poff_eq c
  · exact pld_eq c
  · show (⟨k0_dev1 c, _⟩ : Dev nD) = py c
    revert c; decide +kernel
  · show (⟨k0_dev2 c, _⟩ : Dev nD) = px c
    revert c; decide +kernel
  · show (⟨k0_dev3 c, _⟩ : Dev nD) = pz c
    revert c; decide +kernel
  · show (printedEnv c).dY = fun _ => py c
    revert c; decide +kernel
  · show (printedEnv c).dQ = fun _ => py c
    revert c; decide +kernel
  · show (printedEnv c).dA = fun _ => px c
    revert c; decide +kernel
  · show (printedEnv c).dB = fun _ => pz c
    revert c; decide +kernel
  · show (printedEnv c).dCx = fun _ => px c
    revert c; decide +kernel
  · show (printedEnv c).dCz = fun _ => pz c
    revert c; decide +kernel

/-! ## The chunks' elements -/

/-- The rows of chunk `k` of quarter `q`. -/
def CS (q : Fin 4) (k : Fin 8) : Finset S8192x2048.Idx := (Rect.unit (s := S8192x2048) (aoff q k) S256x2048.size (inbQ q k)).set

theorem mem_CS {q : Fin 4} {k : Fin 8} {i : S8192x2048.Idx} :
    i ∈ CS q k ↔ 2048 * q.val + 256 * k.val ≤ (i 0).val ∧ (i 0).val < 2048 * q.val + 256 * k.val + 256 := by
  unfold CS
  rw [Rect.mem_set_unit]
  constructor
  · intro h; exact h 0
  · intro h a
    match a with
    | 0 => exact h
    | 1 => exact ⟨Nat.zero_le _, (i 1).isLt.trans_le (Nat.le_add_left _ _)⟩

theorem CS_disjoint {p p' : Fin 4 × Fin 8} (h : p ≠ p') : Disjoint (CS p.1 p.2) (CS p'.1 p'.2) := by
  rw [Finset.disjoint_left]
  intro i hi hi'
  rw [mem_CS] at hi hi'
  have h1 := p.2.isLt; have h2 := p'.2.isLt
  exact h (Prod.ext (Fin.ext (by omega)) (Fin.ext (by omega)))

theorem CS_disj (s : Finset (Fin 4 × Fin 8)) : ∀ p ∈ s, ∀ p' ∈ s, p ≠ p' → Disjoint (CS p.1 p.2) (CS p'.1 p'.2) :=
  fun _ _ _ _ h => CS_disjoint h

/-- The chunk a row is in. -/
def chunkOf (i : S8192x2048.Idx) : Fin 4 × Fin 8 :=
  (⟨(i 0).val / 2048 % 4, Nat.mod_lt _ (by decide)⟩, ⟨(i 0).val / 256 % 8, Nat.mod_lt _ (by decide)⟩)
theorem mem_chunkOf (i : S8192x2048.Idx) : i ∈ CS (chunkOf i).1 (chunkOf i).2 := by
  rw [mem_CS]
  have h : (i 0).val < 8192 := (i 0).isLt
  simp only [chunkOf]
  omega
theorem CS_cover : (Finset.univ : Finset (Fin 4 × Fin 8)).biUnion (fun p => CS p.1 p.2) = Finset.univ :=
  Finset.eq_univ_iff_forall.mpr fun i => Finset.mem_biUnion.mpr ⟨chunkOf i, Finset.mem_univ _, mem_chunkOf i⟩
theorem chunkOf_eq {q : Fin 4} {k : Fin 8} {i : S8192x2048.Idx} (h : i ∈ CS q k) : chunkOf i = (q, k) := by
  by_contra hne
  exact Finset.disjoint_left.mp (CS_disjoint hne) (mem_chunkOf i) h

/-- The chunks of an array of 8192 rows, wherever they are. -/
abbrev ovQ (q : Fin 4) (k : Fin 8) := rows mOv (aoff q k) (inbQ q k)
abbrev slabQ (q : Fin 4) (k : Fin 8) := rows mSlab (aoff q k) (inbQ q k)
abbrev resQ (q : Fin 4) (k : Fin 8) := rows mRes (aoff q k) (inbQ q k)
abbrev outQ (q : Fin 4) (k : Fin 8) := rows mOut (aoff q k) (inbQ q k)

theorem ovQ_set (q : Fin 4) (k : Fin 8) : (ovQ q k).view.set = CS q k := View.set_slice_whole _ _
theorem slabQ_set (q : Fin 4) (k : Fin 8) : (slabQ q k).view.set = CS q k := View.set_slice_whole _ _
theorem resQ_set (q : Fin 4) (k : Fin 8) : (resQ q k).view.set = CS q k := View.set_slice_whole _ _
theorem outQ_set (q : Fin 4) (k : Fin 8) : (outQ q k).view.set = CS q k := View.set_slice_whole _ _

/-- A write of what a view reads of `g` is `g` on the view's elements. -/
theorem write_eq_on {sp : Space} {s : Shape} {e : EltTy} {Val : EltTy → Type} (v : View sig .tc sp s e) (f g : v.ty.Contents Val) (w : s.Idx → Val e)
    (h : w = v.read Val g) : ∀ i ∈ v.set, v.write Val f w Finset.univ i = g i := by
  subst h
  intro i hi
  obtain ⟨x, -, rfl⟩ := Finset.mem_map.mp hi
  rw [View.write_emb_of_mem _ _ (Finset.mem_univ x), View.read_apply, cast_cast, cast_eq]

end Cert.KernelIdeal.Body
-- ==== Proof.KernelIdeal.Sched.lean ====
module

public import proofs.«01_k».proof.Proof.KernelIdeal.Env

@[expose] public section

set_option maxRecDepth 16384

noncomputable section

/-! The protocol: the cells, what each one's payment hands over, what each device owes, the levels. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part, the protocol's, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

instance : (ER (F := F)).LandsIn (upEmb : UEmb _ 𝕄) := inferInstance

/-! ## Cells -/

/-- The DMA semaphore numbered `n`. -/
abbrev dsem (n : ℕ) : DmaSem sig := ⟨n % 69, Nat.mod_lt _ (by decide)⟩
abbrev barCell (c : Dev nD) : GSem nD τ sig := ((c : Thread nD τ), .reg bar)
abbrev cellN (c : Dev nD) (n : ℕ) : GSem nD τ sig := ((c : Thread nD τ), .dma (dsem n))

theorem sem_ys {k : ℕ} (h : k < 12) : sem12 cc0_scratch2 (f12 k) = dsem (1 + k) := by
  have : ∀ k : Fin 12, sem12 cc0_scratch2 (f12 k.val) = dsem (1 + k.val) := by decide
  exact this ⟨k, h⟩
theorem sem_yr {k : ℕ} (h : k < 12) : sem12 cc0_scratch3 (f12 k) = dsem (13 + k) := by
  have : ∀ k : Fin 12, sem12 cc0_scratch3 (f12 k.val) = dsem (13 + k.val) := by decide
  exact this ⟨k, h⟩
theorem sem_as {k : ℕ} (h : k < 8) : sem8 cc0_scratch4 (f8 k) = dsem (25 + k) := by
  have : ∀ k : Fin 8, sem8 cc0_scratch4 (f8 k.val) = dsem (25 + k.val) := by decide
  exact this ⟨k, h⟩
theorem sem_ar {k : ℕ} (h : k < 8) : sem8 cc0_scratch5 (f8 k) = dsem (33 + k) := by
  have : ∀ k : Fin 8, sem8 cc0_scratch5 (f8 k.val) = dsem (33 + k.val) := by decide
  exact this ⟨k, h⟩
theorem sem_bs {k : ℕ} (h : k < 8) : sem8 cc0_scratch6 (f8 k) = dsem (41 + k) := by
  have : ∀ k : Fin 8, sem8 cc0_scratch6 (f8 k.val) = dsem (41 + k.val) := by decide
  exact this ⟨k, h⟩
theorem sem_br {k : ℕ} (h : k < 8) : sem8 cc0_scratch7 (f8 k) = dsem (49 + k) := by
  have : ∀ k : Fin 8, sem8 cc0_scratch7 (f8 k.val) = dsem (49 + k.val) := by decide
  exact this ⟨k, h⟩
theorem sem_cxs {k : ℕ} (h : k < 2) : sem2 cc0_scratch8 (f2 (4 + k)) = dsem (57 + k) := by
  have : ∀ k : Fin 2, sem2 cc0_scratch8 (f2 (4 + k.val)) = dsem (57 + k.val) := by decide
  exact this ⟨k, h⟩
theorem sem_cxr {k : ℕ} (h : k < 2) : sem2 cc0_scratch9 (f2 (4 + k)) = dsem (59 + k) := by
  have : ∀ k : Fin 2, sem2 cc0_scratch9 (f2 (4 + k.val)) = dsem (59 + k.val) := by decide
  exact this ⟨k, h⟩
theorem sem_czs {k : ℕ} (h : k < 2) : sem2 cc0_scratch10 (f2 (6 + k)) = dsem (61 + k) := by
  have : ∀ k : Fin 2, sem2 cc0_scratch10 (f2 (6 + k.val)) = dsem (61 + k.val) := by decide
  exact this ⟨k, h⟩
theorem sem_czr {k : ℕ} (h : k < 2) : sem2 cc0_scratch11 (f2 (6 + k)) = dsem (63 + k) := by
  have : ∀ k : Fin 2, sem2 cc0_scratch11 (f2 (6 + k.val)) = dsem (63 + k.val) := by decide
  exact this ⟨k, h⟩
theorem sem_ld (i : Fin 2) : sem2 cc0_scratch14 i = dsem (65 + i.val) := by revert i; decide
theorem sem_wr (i : Fin 2) : sem2 cc0_scratch15 i = dsem (67 + i.val) := by revert i; decide

/-- The credit of a chunk of half-width elements. -/
abbrev NN : ℕ := (ovQ 0 0).view.dmaCredit
theorem NN_pos : 0 < NN := View.dmaCredit_pos _ (by decide)
theorem amt_ov (q : Fin 4) (k : Fin 8) : (ovQ q k).view.dmaCredit = NN := rfl
theorem amt_sv (k : Fin 8) : (svSlot k).view.dmaCredit = NN := rfl
theorem amt_qd (k : Fin 4) : (qdChunk k).view.dmaCredit = NN := rfl

/-! ## Contents -/

variable (V : Dev nD → Valuation τ sig (Elt F))

/-- What device `c` contributes: its slab plus its second summand, narrowed. -/
def HB (c : Dev nD) : (cc0_scratch0 : Ref sig .tc).ty.Contents (Elt F) :=
  truncf (s := S8192x2048) .bf16 (addf (F := F) (s := S8192x2048) (V c main_v1) (V c main_arg1)) bitsLt_bf16_f32

/-- The device whose contribution the `k`th chunk of the `r`th quarter receives. -/
def src (c : Dev nD) (r : Fin 4) (k : Fin 8) : Dev nD :=
  match r with
  | 0 => py c
  | 1 => py (px c)
  | 2 => py (pz c)
  | 3 => if k.val < 4 then py c else py (pz (px c))

/-- Chunk `(q, k)` of device `c`'s receive buffer at `f`. -/
def ovPt (c : Dev nD) (s : PosShare TreeShare) (q : Fin 4) (k : Fin 8) (f : (cc0_scratch0 : Ref sig .tc).ty.Contents (Elt F)) : sProp 𝕄 :=
  (ovQ q k).view.loc (c : Thread nD τ) ↦[(ovQ q k).view.set]{s} f
/-- The same, at contents not chosen. -/
def raw (c : Dev nD) (q : Fin 4) (k : Fin 8) : sProp 𝕄 := iprop(∃ f, ovPt (F := F) c fullShare q k f)
/-- Slot `k` of the send buffer. -/
def svRaw (c : Dev nD) (k : Fin 8) : sProp 𝕄 :=
  iprop(∃ f : (cc0_scratch1 : Ref sig .tc).ty.Contents (Elt F), (svSlot k).view.loc (c : Thread nD τ) ↦[(svSlot k).view.set]{fullShare} f)
def qdPt (c : Dev nD) (k : Fin 4) : sProp 𝕄 :=
  (qdChunk k).view.loc (c : Thread nD τ) ↦[(qdChunk k).view.set]{fullShare} V c main_v25

instance ovPt_storable (c : Dev nD) (s) (q : Fin 4) (k : Fin 8) (f) : BI.Storable (upEmb : UEmb _ 𝕄) (ovPt (F := F) c s q k f) := by unfold ovPt; infer_instance
instance raw_storable (c : Dev nD) (q : Fin 4) (k : Fin 8) : BI.Storable (upEmb : UEmb _ 𝕄) (raw (F := F) c q k) := by unfold raw; infer_instance
instance svRaw_storable (c : Dev nD) (k : Fin 8) : BI.Storable (upEmb : UEmb _ 𝕄) (svRaw (F := F) c k) := by unfold svRaw; infer_instance
instance qdPt_storable (c : Dev nD) (k : Fin 4) : BI.Storable (upEmb : UEmb _ 𝕄) (qdPt V c k) := by unfold qdPt; infer_instance

abbrev sL : PosShare TreeShare := fullShare.left
abbrev sR : PosShare TreeShare := fullShare.right

/-! ## The schedule -/

/-- What device `c` gets of its neighbour `d` at the barrier: the chunks it will write there, and that their receive
    cells are open. -/
def give (n : Dev nD) (q : Fin 4) (k : ℕ) (s : ℕ) : sProp 𝕄 := iprop(raw n q (f8 k) ∗ reached ER (cellN n s) 0)

def barPay (c : Dev nD) (d : Fin 3) : sProp 𝕄 :=
  match d with
  | 0 => iprop(bigSep (Finset.range 8) (fun k => give (py c) (quar c 0) k (13 + k)) ∗ bigSep (Finset.range 4) (fun k => give (py c) (quar c 3) k (21 + k)))
  | 1 => iprop(bigSep (Finset.range 8) (fun k => give (px c) (quar c 0) k (33 + k)) ∗ bigSep (Finset.range 2) (fun k => give (px c) (quar c 2) (4 + k) (59 + k)))
  | 2 => iprop(bigSep (Finset.range 8) (fun k => give (pz c) (quar c 0) k (49 + k)) ∗ bigSep (Finset.range 2) (fun k => give (pz c) (quar c 1) (6 + k) (63 + k)))

def payN (c : Dev nD) (n : ℕ) : sProp 𝕄 :=
  if n < 9 then svRaw c (f8 (n - 1))
  else if n < 13 then qdPt V c (f4 (n - 9))
  else if n < 21 then ovPt c fullShare (quar c 0) (f8 (n - 13)) (HB V (py c))
  else if n < 25 then ovPt c fullShare (quar c 3) (f8 (n - 21)) (HB V (py c))
  else if n < 33 then ovPt c sL (quar c 0) (f8 (n - 25)) (HB V (py c))
  else if n < 41 then ovPt c fullShare (quar c 1) (f8 (n - 33)) (HB V (py (px c)))
  else if n < 49 then ovPt c sR.left (quar c 0) (f8 (n - 41)) (HB V (py c))
  else if n < 57 then ovPt c fullShare (quar c 2) (f8 (n - 49)) (HB V (py (pz c)))
  else if n < 59 then ovPt c sL (quar c 2) (f8 (4 + (n - 57))) (HB V (py (pz c)))
  else if n < 61 then ovPt c fullShare (quar c 3) (f8 (4 + (n - 59))) (HB V (py (pz (px c))))
  else if n < 63 then ovPt c sL (quar c 1) (f8 (6 + (n - 61))) (HB V (py (px c)))
  else ovPt c fullShare (quar c 3) (f8 (6 + (n - 63))) (HB V (py (pz (px c))))

instance give_storable (n : Dev nD) (q : Fin 4) (k s : ℕ) : BI.Storable (upEmb : UEmb _ 𝕄) (give (F := F) n q k s) := by unfold give; infer_instance
instance barPay_storable (c : Dev nD) (d : Fin 3) : BI.Storable (upEmb : UEmb _ 𝕄) (barPay (F := F) c d) := by
  unfold barPay; split <;> infer_instance
theorem storable_ite {p : Prop} [Decidable p] {A B : sProp 𝕄} (hA : BI.Storable (upEmb : UEmb _ 𝕄) A) (hB : BI.Storable (upEmb : UEmb _ 𝕄) B) :
    BI.Storable (upEmb : UEmb _ 𝕄) (if p then A else B) := by
  by_cases h : p
  · rw [if_pos h]; exact hA
  · rw [if_neg h]; exact hB
instance payN_storable (c : Dev nD) (n : ℕ) : BI.Storable (upEmb : UEmb _ 𝕄) (payN V c n) := by
  unfold payN
  iterate 11 refine storable_ite inferInstance ?_
  infer_instance

def dutiesOf : SemLoc sig → Finset (Fin 3)
  | .reg _ => Finset.univ
  | .dma s => if 1 ≤ s.val ∧ s.val < 65 then {0} else ∅
def amountOf : SemLoc sig → ℕ
  | .reg _ => 1
  | .dma _ => NN
def payOf (c : Dev nD) (d : Fin 3) : SemLoc sig → sProp 𝕄
  | .reg _ => barPay c d
  | .dma s => payN V c s.val

instance payOf_storable (c : Dev nD) (d : Fin 3) (sm : SemLoc sig) : BI.Storable (upEmb : UEmb _ 𝕄) (payOf V c d sm) := by
  cases sm <;> (unfold payOf; infer_instance)

/-- One round on every cell: three single units on the barrier, one chunk's credit on each copy's two cells. -/
def Rd : Rounds.Schedule (GSem nD τ sig) (Fin 3) 𝕄 where
  duties g r := if r = 0 ∧ g.1.2 = .tc then dutiesOf g.2 else ∅
  unitless _ := False
  amount g _ _ := amountOf g.2
  payload g _ d := payOf V g.1.1 d g.2
  amount_pos g _ _ _ := by
    rcases g with ⟨t, sm⟩
    cases sm
    · exact Nat.one_pos
    · exact NN_pos

instance Rd_payload_storable (g : GSem nD τ sig) (r : ℕ) (d : Fin 3) : BI.Storable (upEmb : UEmb _ 𝕄) ((Rd V).payload g r d) :=
  payOf_storable V g.1.1 d g.2

section Facts
variable (c : Dev nD)

theorem duties_bar : (Rd V).duties (barCell c) 0 = Finset.univ := by
  show (if (0 : ℕ) = 0 ∧ (Proc.tc : Proc τ) = .tc then dutiesOf (.reg bar) else ∅) = Finset.univ
  exact if_pos ⟨rfl, rfl⟩
theorem duties_N {n : ℕ} (h1 : 1 ≤ n) (h2 : n < 65) : (Rd V).duties (cellN c n) 0 = {0} := by
  show (if (0 : ℕ) = 0 ∧ (Proc.tc : Proc τ) = .tc then dutiesOf (.dma (dsem n)) else ∅) = {0}
  rw [if_pos ⟨rfl, rfl⟩]
  show (if 1 ≤ n % 69 ∧ n % 69 < 65 then ({0} : Finset (Fin 3)) else ∅) = {0}
  rw [Nat.mod_eq_of_lt (by omega), if_pos ⟨h1, h2⟩]
theorem duties_later (g : GSem nD τ sig) : ∀ r, 1 ≤ r → (Rd V).duties g r = ∅ :=
  fun r hr => if_neg fun h => by omega
theorem amount_bar (d : Fin 3) : (Rd V).amount (barCell c) 0 d = 1 := rfl
theorem amount_N (n : ℕ) (d : Fin 3) : (Rd V).amount (cellN c n) 0 d = NN := rfl
theorem expect_bar : (Rd V).expect (barCell c) 0 = 3 := by
  unfold Schedule.expect Schedule.amountOf
  rw [duties_bar, Finset.sum_congr rfl fun d _ => amount_bar V c d]; rfl
theorem expect_N {n : ℕ} (h1 : 1 ≤ n) (h2 : n < 65) : (Rd V).expect (cellN c n) 0 = NN := by
  unfold Schedule.expect Schedule.amountOf
  rw [duties_N V c h1 h2, Finset.sum_singleton, amount_N]
theorem payload_bar (d : Fin 3) : (Rd V).payload (barCell c) 0 d = barPay c d := rfl
theorem payload_N {n : ℕ} (h2 : n < 65) (d : Fin 3) : (Rd V).payload (cellN c n) 0 d = payN V c n := by
  show payN V c (n % 69) = _
  rw [Nat.mod_eq_of_lt (by omega)]
theorem rest_bar : bigSep ((Rd V).duties (barCell c) 0 \ ∅) (fun d => (Rd V).payload (barCell c) 0 d)
    = iprop(barPay c 0 ∗ barPay c 1 ∗ barPay c 2) := by
  rw [Finset.sdiff_empty, duties_bar, bigSep_univ_eq_bigSepL [0, 1, 2] (by decide) (by decide)]
  rfl
theorem rest_N {n : ℕ} (h1 : 1 ≤ n) (h2 : n < 65) :
    bigSep ((Rd V).duties (cellN c n) 0 \ ∅) (fun d => (Rd V).payload (cellN c n) 0 d) = payN V c n := by
  rw [Finset.sdiff_empty, duties_N V c h1 h2, bigSep_singleton, payload_N V c h2]

theorem pay_ys {k : ℕ} (h : k < 8) : payN V c (1 + k) = svRaw c (f8 k) := by
  unfold payN; rw [if_pos (by omega), Nat.add_sub_cancel_left]
theorem pay_qs {k : ℕ} (h : k < 4) : payN V c (9 + k) = qdPt V c (f4 k) := by
  unfold payN; rw [if_neg (by omega), if_pos (by omega), Nat.add_sub_cancel_left]
theorem pay_yr {k : ℕ} (h : k < 8) : payN V c (13 + k) = ovPt c fullShare (quar c 0) (f8 k) (HB V (py c)) := by
  unfold payN; rw [if_neg (by omega), if_neg (by omega), if_pos (by omega), Nat.add_sub_cancel_left]
theorem pay_qr {k : ℕ} (h : k < 4) : payN V c (21 + k) = ovPt c fullShare (quar c 3) (f8 k) (HB V (py c)) := by
  unfold payN; rw [if_neg (by omega), if_neg (by omega), if_neg (by omega), if_pos (by omega), Nat.add_sub_cancel_left]
theorem pay_as {k : ℕ} (h : k < 8) : payN V c (25 + k) = ovPt c sL (quar c 0) (f8 k) (HB V (py c)) := by
  unfold payN; iterate 4 rw [if_neg (by omega)]
  rw [if_pos (by omega), Nat.add_sub_cancel_left]
theorem pay_ar {k : ℕ} (h : k < 8) : payN V c (33 + k) = ovPt c fullShare (quar c 1) (f8 k) (HB V (py (px c))) := by
  unfold payN; iterate 5 rw [if_neg (by omega)]
  rw [if_pos (by omega), Nat.add_sub_cancel_left]
theorem pay_bs {k : ℕ} (h : k < 8) : payN V c (41 + k) = ovPt c sR.left (quar c 0) (f8 k) (HB V (py c)) := by
  unfold payN; iterate 6 rw [if_neg (by omega)]
  rw [if_pos (by omega), Nat.add_sub_cancel_left]
theorem pay_br {k : ℕ} (h : k < 8) : payN V c (49 + k) = ovPt c fullShare (quar c 2) (f8 k) (HB V (py (pz c))) := by
  unfold payN; iterate 7 rw [if_neg (by omega)]
  rw [if_pos (by omega), Nat.add_sub_cancel_left]
theorem pay_cxs {k : ℕ} (h : k < 2) : payN V c (57 + k) = ovPt c sL (quar c 2) (f8 (4 + k)) (HB V (py (pz c))) := by
  unfold payN; iterate 8 rw [if_neg (by omega)]
  rw [if_pos (by omega), Nat.add_sub_cancel_left]
theorem pay_cxr {k : ℕ} (h : k < 2) : payN V c (59 + k) = ovPt c fullShare (quar c 3) (f8 (4 + k)) (HB V (py (pz (px c)))) := by
  unfold payN; iterate 9 rw [if_neg (by omega)]
  rw [if_pos (by omega), Nat.add_sub_cancel_left]
theorem pay_czs {k : ℕ} (h : k < 2) : payN V c (61 + k) = ovPt c sL (quar c 1) (f8 (6 + k)) (HB V (py (px c))) := by
  unfold payN; iterate 10 rw [if_neg (by omega)]
  rw [if_pos (by omega), Nat.add_sub_cancel_left]
theorem pay_czr {k : ℕ} (h : k < 2) : payN V c (63 + k) = ovPt c fullShare (quar c 3) (f8 (6 + k)) (HB V (py (pz (px c)))) := by
  unfold payN; iterate 11 rw [if_neg (by omega)]
  rw [Nat.add_sub_cancel_left]

end Facts

/-! ## What a device owes, as a list in the order of payment -/

abbrev Debt := List (GSem nD τ sig × ℕ)

def owed : Debt → CellTallies nD τ sig Unit
  | [] => 0
  | p :: l => owed l + tallyAt p.1 () p.2

/-- `f i ++ f (i+1) ++ … ++ f (i+m-1) ++ l`. -/
def debts (f : ℕ → Debt) : ℕ → ℕ → Debt → Debt
  | 0, _, l => l
  | m + 1, i, l => f i ++ debts f m (i + 1) l

theorem debts_step (f : ℕ → Debt) {n i : ℕ} (h : i < n) (l : Debt) : debts f (n - i) i l = f i ++ debts f (n - (i + 1)) (i + 1) l := by
  rw [show n - i = (n - (i + 1)) + 1 by omega]; rfl
theorem debts_done (f : ℕ → Debt) (n : ℕ) (l : Debt) : debts f (n - n) n l = l := by rw [Nat.sub_self]; rfl

theorem mem_debts {f : ℕ → Debt} {p : GSem nD τ sig × ℕ} : ∀ {m i : ℕ} {l : Debt}, p ∈ debts f m i l → (∃ j, i ≤ j ∧ j < i + m ∧ p ∈ f j) ∨ p ∈ l
  | 0, _, _, h => .inr h
  | m + 1, i, l, h => by
    rcases List.mem_append.mp h with h | h
    · exact .inl ⟨i, le_refl _, by omega, h⟩
    · rcases mem_debts h with ⟨j, h1, h2, h3⟩ | h
      · exact .inl ⟨j, by omega, by omega, h3⟩
      · exact .inr h

def dXZ (c : Dev nD) (k : ℕ) : Debt := if 6 ≤ k then [(cellN (pz c) (57 + k), NN)] else if 4 ≤ k then [(cellN (px c) (55 + k), NN)] else []
def dM (c : Dev nD) (k : ℕ) : Debt := [(cellN (px c) (33 + k), NN), (cellN (pz c) (49 + k), NN)]
def dQ (c : Dev nD) (k : ℕ) : Debt := [(cellN (py c) (21 + k), NN)]
def dY (c : Dev nD) (k : ℕ) : Debt := [(cellN (py c) (13 + k), NN)]

def lXZ (c : Dev nD) (i : ℕ) : Debt := debts (dXZ c) (8 - i) i []
def lM (c : Dev nD) (i : ℕ) : Debt := debts (dM c) (8 - i) i (lXZ c 0)
def lQ (c : Dev nD) (i : ℕ) : Debt := debts (dQ c) (4 - i) i (lM c 0)
def lY (c : Dev nD) (i : ℕ) : Debt := debts (dY c) (8 - i) i (lQ c 0)
def lAll (c : Dev nD) : Debt := (barCell (py c), 1) :: (barCell (px c), 1) :: (barCell (pz c), 1) :: lY c 0

def O₀ (c : Dev nD) : CellTallies nD τ sig Unit := owed (lAll c)

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvN (n : ℕ) : ℕ :=
  if n < 13 then 0 else if n < 25 then 2 else if n < 33 then 0 else if n < 41 then 3 else if n < 49 then 0 else if n < 57 then 3
  else if n < 59 then 0 else if n < 61 then 4 else if n < 63 then 0 else if n < 65 then 4 else 0
def lvS : SemLoc sig → ℕ
  | .reg _ => 1
  | .dma s => lvN s.val
def lv (g : GSem nD τ sig) (_ : Unit) : ℕ := lvS g.2

theorem owed_pos {l : Debt} {g : GSem nD τ sig} {u : Unit} (h : 0 < owed l g u) : ∃ p ∈ l, p.1 = g := by
  induction l with
  | nil => exact absurd h (Nat.lt_irrefl 0)
  | cons p l ih =>
    unfold owed at h
    rw [Pi.add_apply, Finsupp.add_apply, tallyAt_apply] at h
    by_cases e : g = p.1 ∧ u = ()
    · exact ⟨p, List.mem_cons_self, e.1.symm⟩
    · rw [if_neg e, Nat.add_zero] at h
      obtain ⟨p', h1, h2⟩ := ih h
      exact ⟨p', List.mem_cons_of_mem _ h1, h2⟩

/-- A wait at level `n` is allowed while all that is owed is above. -/
theorem mayWait (c : Dev nD) (sm : SemLoc sig) (n : ℕ) (l : Debt) (hsm : lvS sm ≤ n)
    (hl : ∀ p ∈ l, p.1.1.2 = .tc ∧ n < lvS p.1.2) :
    (levAts L lv : sProp 𝕄) ⊢ MayWait (c : Thread nD τ) sm () (owed l) :=
  MayOwe.of_cut (L := L) (lev := lv) n (fun p hp => by rw [Finset.mem_singleton.mp hp, L_tc]; exact Finset.mem_singleton_self _)
    (fun g u hg => by
      obtain ⟨p, h1, rfl⟩ := owed_pos hg
      unfold L; rw [if_pos (hl p h1).1]; exact Finset.mem_singleton_self _)
    (fun p hp => by rw [Finset.mem_singleton.mp hp]; exact hsm)
    (fun g u hg => by
      obtain ⟨p, h1, rfl⟩ := owed_pos hg
      exact (hl p h1).2)

theorem lvS_N {n : ℕ} (h : n < 69) : lvS (.dma (dsem n)) = lvN n := by
  show lvN (n % 69) = _
  rw [Nat.mod_eq_of_lt h]

theorem lXZ_lv (c : Dev nD) (i : ℕ) : ∀ p ∈ lXZ c i, p.1.1.2 = .tc ∧ 3 < lvS p.1.2 := by
  intro p hp
  rcases mem_debts hp with ⟨j, h1, h2, h3⟩ | h
  · unfold dXZ at h3
    split at h3
    · rw [List.mem_singleton.mp h3]
      refine ⟨rfl, ?_⟩
      show 3 < lvS (.dma (dsem (57 + j)))
      rw [lvS_N (by omega)]; unfold lvN
      (repeat' split) <;> omega
    · split at h3
      · rw [List.mem_singleton.mp h3]
        refine ⟨rfl, ?_⟩
        show 3 < lvS (.dma (dsem (55 + j)))
        rw [lvS_N (by omega)]; unfold lvN
        (repeat' split) <;> omega
      · exact absurd h3 List.not_mem_nil
  · exact absurd h List.not_mem_nil

theorem lM_lv (c : Dev nD) (i : ℕ) : ∀ p ∈ lM c i, p.1.1.2 = .tc ∧ 2 < lvS p.1.2 := by
  intro p hp
  rcases mem_debts hp with ⟨j, h1, h2, h3⟩ | h
  · unfold dM at h3
    rcases List.mem_cons.mp h3 with rfl | h3
    · refine ⟨rfl, ?_⟩
      show 2 < lvS (.dma (dsem (33 + j)))
      rw [lvS_N (by omega)]; unfold lvN
      (repeat' split) <;> omega
    · rw [List.mem_singleton.mp h3]
      refine ⟨rfl, ?_⟩
      show 2 < lvS (.dma (dsem (49 + j)))
      rw [lvS_N (by omega)]; unfold lvN
      (repeat' split) <;> omega
  · exact ⟨(lXZ_lv c 0 p h).1, by have := (lXZ_lv c 0 p h).2; omega⟩

theorem lQ_lv (c : Dev nD) (i : ℕ) : ∀ p ∈ lQ c i, p.1.1.2 = .tc ∧ 1 < lvS p.1.2 := by
  intro p hp
  rcases mem_debts hp with ⟨j, h1, h2, h3⟩ | h
  · unfold dQ at h3
    rw [List.mem_singleton.mp h3]
    refine ⟨rfl, ?_⟩
    show 1 < lvS (.dma (dsem (21 + j)))
    rw [lvS_N (by omega)]; unfold lvN
    (repeat' split) <;> omega
  · exact ⟨(lM_lv c 0 p h).1, by have := (lM_lv c 0 p h).2; omega⟩

theorem lY_lv (c : Dev nD) (i : ℕ) : ∀ p ∈ lY c i, p.1.1.2 = .tc ∧ 1 < lvS p.1.2 := by
  intro p hp
  rcases mem_debts hp with ⟨j, h1, h2, h3⟩ | h
  · unfold dY at h3
    rw [List.mem_singleton.mp h3]
    refine ⟨rfl, ?_⟩
    show 1 < lvS (.dma (dsem (13 + j)))
    rw [lvS_N (by omega)]; unfold lvN
    (repeat' split) <;> omega
  · exact lQ_lv c 0 p h

theorem lAll_lv (c : Dev nD) : ∀ p ∈ lAll c, p.1.1.2 = .tc ∧ 0 < lvS p.1.2 := by
  intro p hp
  unfold lAll at hp
  rcases List.mem_cons.mp hp with rfl | hp
  · exact ⟨rfl, Nat.one_pos⟩
  rcases List.mem_cons.mp hp with rfl | hp
  · exact ⟨rfl, Nat.one_pos⟩
  rcases List.mem_cons.mp hp with rfl | hp
  · exact ⟨rfl, Nat.one_pos⟩
  exact ⟨(lY_lv c 0 p hp).1, by have := (lY_lv c 0 p hp).2; omega⟩

end Cert.KernelIdeal.Body
-- ==== Proof.KernelIdeal.Steps.lean ====
module

public import proofs.«01_k».proof.Proof.KernelIdeal.Sched

@[expose] public section

set_option maxRecDepth 16384

noncomputable section

/-! One lemma for each kind of operation of the body. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none
abbrev WP (c : Dev nD) (p : P F) (Q : PUnit → sProp 𝕄) : sProp 𝕄 := wp frame (wpE (defs₀ (F := F)) 𝒱₀ (c : Thread nD τ) none) Set.univ p Q

variable (V : Dev nD → Valuation τ sig (Elt F)) (K : GSem nD τ sig → ℕ)

/-! ## What is known throughout -/

/-- The cells' invariants and the levels. -/
def recs : sProp 𝕄 :=
  iprop((bigSep Finset.univ fun c : Dev nD => cellInv ER (Rd V) (K (barCell c)) (barCell c))
    ∗ (bigSep Finset.univ fun c : Dev nD => bigSep (Finset.Ico 1 65) fun n => cellInv ER (Rd V) (K (cellN c n)) (cellN c n)) ∗ levAts L lv)
/-- The device's own cells are open. -/
def opn (c : Dev nD) : sProp 𝕄 := bigSep (Finset.Ico 1 65) fun n => (reached ER (cellN c n) 0 : sProp 𝕄)
def known (c : Dev nD) : sProp 𝕄 := iprop(recs V K ∗ opn c)

instance recs_persistent : BI.Persistent (recs V K) := by unfold recs; infer_instance
instance opn_persistent (c : Dev nD) : BI.Persistent (opn (F := F) c) := by unfold opn; infer_instance
instance known_persistent (c : Dev nD) : BI.Persistent (known V K c) := by unfold known; infer_instance

theorem known_bar (c d : Dev nD) : known V K c ⊢ cellInv ER (Rd V) (K (barCell d)) (barCell d) := by
  unfold known recs
  refine BIBase.Entails.trans ?_ (bigSep_elim (M := 𝕄) (Φ := fun c : Dev nD => cellInv ER (Rd V) (K (barCell c)) (barCell c)) (Finset.mem_univ d))
  iintro ⟨⟨H, -, -⟩, -⟩
  iexact H
theorem known_inv (c d : Dev nD) {n : ℕ} (h1 : 1 ≤ n) (h2 : n < 65) : known V K c ⊢ cellInv ER (Rd V) (K (cellN d n)) (cellN d n) := by
  unfold known recs
  refine BIBase.Entails.trans ?_ (bigSep_elim (M := 𝕄) (Φ := fun n : ℕ => cellInv ER (Rd V) (K (cellN d n)) (cellN d n)) (Finset.mem_Ico.mpr ⟨h1, h2⟩))
  refine BIBase.Entails.trans ?_ (bigSep_elim (M := 𝕄) (Φ := fun c : Dev nD => bigSep (Finset.Ico 1 65) fun n => cellInv ER (Rd V) (K (cellN c n)) (cellN c n)) (Finset.mem_univ d))
  iintro ⟨⟨-, H, -⟩, -⟩
  iexact H
theorem known_lev (c : Dev nD) : known V K c ⊢ levAts L lv := by
  unfold known recs
  iintro ⟨⟨-, -, H⟩, -⟩; iexact H
theorem known_open (c : Dev nD) {n : ℕ} (h1 : 1 ≤ n) (h2 : n < 65) : known V K c ⊢ reached ER (cellN c n) 0 := by
  unfold known opn
  refine BIBase.Entails.trans ?_ (bigSep_elim (M := 𝕄) (Φ := fun n : ℕ => (reached ER (cellN c n) 0 : sProp 𝕄)) (Finset.mem_Ico.mpr ⟨h1, h2⟩))
  iintro ⟨-, H⟩
  iexact H

/-- The device owing the list. -/
def owe (c : Dev nD) (l : Debt) : sProp 𝕄 := iprop(∃ W, owes (c : Thread nD τ) (owed l) W)
abbrev tok (c : Dev nD) (n : ℕ) : sProp 𝕄 := dutyTok ER (cellN c n) 0 (0 : Fin 3)
abbrev crd (c : Dev nD) (n : ℕ) : sProp 𝕄 := cred (tallyAt (cellN c n) () NN)
abbrev at0 (c : Dev nD) (n : ℕ) : sProp 𝕄 := atPos ER (cellN c n) 0 ∅ 0
abbrev at1 (c : Dev nD) (n : ℕ) : sProp 𝕄 := atPos ER (cellN c n) 1 ∅ 0

/-- The device may wait at level `n` owing `l`. -/
def Ok (sm : SemLoc sig) (l : Debt) : Prop := ∀ p ∈ l, p.1.1.2 = .tc ∧ lvS sm < lvS p.1.2

/-! ## Remote copies and their waits -/

theorem send_step {c c' : Dev nD} {sp : Space} {v : Memref sig .tc sp S256x2048 .bf16} {q : Fin 4} {k : Fin 8} {sS sR : DmaSem sig} {a b : ℕ}
    {hsrc : v.view.WordExact} {hdst : (ovQ q k).view.WordExact} {hsem : DmaTarget.Typed sp (.dma sR) (.remote (Dev.tc c') (ovQ q k) (.dma sS))}
    {s : PosShare TreeShare} {fs : Buf (Elt F) (v.view.loc (c : Thread nD τ))} {l : Debt} {Kt : P F} {Q : PUnit → sProp 𝕄}
    {A B : sProp 𝕄} (hA : payN V c a = A) (hB : payN V c' b = B)
    (hS : sS = dsem a) (hR : sR = dsem b) (ha : 1 ≤ a ∧ a < 65) (hb : 1 ≤ b ∧ b < 65)
    (h1 : (v.view.loc (c : Thread nD τ) ↦[v.view.set]{s} fs) ⊢ A)
    (h2 : ∀ fd, ovPt c' fullShare q k ((ovQ q k).view.write (Elt F) fd (v.view.read (Elt F) fs) Finset.univ) ⊢ B) :
    iprop(known V K c ∗ (v.view.loc (c : Thread nD τ) ↦[v.view.set]{s} fs) ∗ raw c' q k ∗ reached ER (cellN c' b) 0 ∗ tok c a ∗ tok c' b
        ∗ owe c ((cellN c' b, NN) :: l))
      ⊢ iprop((crd c a ∗ owe c l -∗ WP c Kt Q)
        -∗ WP c (.op (.enqueueDma v (.remote (Dev.tc c') (ovQ q k) (.dma sS)) (.dma sR) hsrc hdst hsem) fun _ => Kt) Q) := by
  subst hS hR hA hB
  unfold owe raw
  iintro ⟨#HK, Hs, ⟨%fd, Hd⟩, #Hr, Ht, Ht', ⟨%W, HO⟩⟩ Hk
  iapply (Rounds.wp_send_pointsTo 𝒱₀ ER (Rd V) (c : Thread nD τ) none (c' := (c' : Thread nD τ)) (src := v) (dst := ovQ q k)
      (sS := .dma (dsem a)) (sem := .dma (dsem b)) (q := s) (fs := fs) (κ₁ := K (cellN c a)) (κ₂ := K (cellN c' b))
      (r₁ := 0) (r₂ := 0) (d₁ := 0) (d₂ := 0) (fd := fd)
      (by rw [duties_N V c ha.1 ha.2]; exact Finset.mem_singleton_self _) (by rw [duties_N V c' hb.1 hb.2]; exact Finset.mem_singleton_self _)
      () () NN rfl (amount_N V c a 0) (amount_N V c' b 0) (owed l) rfl (W := W)
      (by rw [payload_N V c ha.2]; exact h1) (by rw [payload_N V c' hb.2]; exact h2 fd)) $$ [Hs Hd HO Ht Ht']
  · isplitr; · iapply (known_inv V K c c ha.1 ha.2); iexact HK
    isplitr; · iapply (known_inv V K c c' hb.1 hb.2); iexact HK
    isplitl [Hs]; · iexact Hs
    isplitl [Hd]; · unfold ovPt; iexact Hd
    isplitl [HO]; · iexact HO
    isplitl [Ht]; · iexact Ht
    isplitr; · iapply (known_open V K c ha.1 ha.2); iexact HK
    isplitl [Ht']; · iexact Ht'
    iexact Hr
  iintro ⟨Hc, HO⟩
  iapply Hk
  isplitl [Hc]; · iexact Hc
  iexists W; iexact HO

theorem wait_step {c : Dev nD} {sp sp' : Space} {s' : Shape} {e' : EltTy} {v : Memref sig .tc sp' s' e'} {w : Memref sig .tc sp S256x2048 .bf16}
    {sm : DmaSem sig} {n : ℕ} {hsrc : v.view.WordExact} {hdst : w.view.WordExact} {l : Debt} {Kt : P F} {Q : PUnit → sProp 𝕄}
    {A : sProp 𝕄} (hA : payN V c n = A)
    (hS : sm = dsem n) (hn : 1 ≤ n ∧ n < 65) (hN : w.view.dmaCredit = NN) (hl : Ok (.dma (dsem n)) l) :
    iprop(known V K c ∗ crd c n ∗ at0 c n ∗ owe c l)
      ⊢ iprop((A ∗ at1 c n ∗ owe c l -∗ WP c Kt Q) -∗ WP c (.op (.waitDma2 sm v w hsrc hdst) fun _ => Kt) Q) := by
  subst hS hA
  unfold owe
  iintro ⟨#HK, Hc, Hat, ⟨%W, HO⟩⟩ Hk
  iapply (Rounds.wp_wait_rest_token 𝒱₀ ER (Rd V) (c : Thread nD τ) none (κ := K (cellN c n))
      (wpE_waitDma2_eq (src := v) (dst := w) 𝒱₀ (c : Thread nD τ) none Set.univ) (Set.mem_univ _) () (O := owed l) (W := W) (R := 0) (m := 0) (T := ∅)
      ((Nat.zero_add _).trans (hN.trans (expect_N V c hn.1 hn.2).symm))) $$ [Hc HO Hat]
  · isplitr; · iapply (known_inv V K c c hn.1 hn.2); iexact HK
    isplitl [Hc]; · rw [hN]; iexact Hc
    isplitl [HO]; · iexact HO
    isplitr
    · iapply (mayWait c (.dma (dsem n)) (lvS (.dma (dsem n))) l le_rfl hl)
      iapply (known_lev V K c); iexact HK
    iexact Hat
  iintro ⟨HO, Hat, -, Hpay⟩
  iapply Hk
  isplitl [Hpay]; · iapply (Entails.of_eq (rest_N V c hn.1 hn.2)); iexact Hpay
  isplitl [Hat]; · iexact Hat
  iexists _; iexact HO

/-! ## Local copies -/

/-- The credit of a chunk of full-width elements. -/
abbrev NL : ℕ := (lvSlot 0).view.dmaCredit
theorem NL_pos : 0 < NL := View.dmaCredit_pos _ (by decide)

abbrev lvPt (c : Dev nD) (i : Fin 2) (f : (cc0_scratch12 : Ref sig .tc).ty.Contents (Elt F)) : sProp 𝕄 :=
  (lvSlot i).view.loc (c : Thread nD τ) ↦[(lvSlot i).view.set]{fullShare} f
abbrev wvPt (c : Dev nD) (i : Fin 2) (f : (cc0_scratch13 : Ref sig .tc).ty.Contents (Elt F)) : sProp 𝕄 :=
  (wvSlot i).view.loc (c : Thread nD τ) ↦[(wvSlot i).view.set]{fullShare} f

/-- A load slot with nothing under way. -/
def ldFree (c : Dev nD) (i : Fin 2) : sProp 𝕄 := iprop((∃ f, lvPt c i f) ∗ semVal (cellN c (65 + i.val)) 0)
def wrFree (c : Dev nD) (i : Fin 2) : sProp 𝕄 := iprop((∃ f, wvPt c i f) ∗ semVal (cellN c (67 + i.val)) 0)
/-- A load slot holding the values `w`. -/
def ldHas (c : Dev nD) (i : Fin 2) (w : S256x2048.Idx → Elt F .f32) : sProp 𝕄 := iprop(∃ f, ⌜(lvSlot i).view.read (Elt F) f = w⌝ ∗ lvPt c i f)
def ldFly (c : Dev nD) (i : Fin 2) (D : sProp 𝕄) : sProp 𝕄 := Transfers.Flight EC (c : Thread nD τ) (.dma (dsem (65 + i.val))) () NL D
def wrFly (c : Dev nD) (i : Fin 2) (D : sProp 𝕄) : sProp 𝕄 := Transfers.Flight EC (c : Thread nD τ) (.dma (dsem (67 + i.val))) () NL D

theorem ldHas_free (c : Dev nD) (i : Fin 2) (w : S256x2048.Idx → Elt F .f32) :
    iprop(ldHas c i w ∗ semVal (cellN c (65 + i.val)) 0) ⊢ ldFree c i := by
  unfold ldHas ldFree
  iintro ⟨⟨%f, -, H⟩, Hv⟩
  isplitl [H]; · iexists f; iexact H
  iexact Hv

theorem load_step {c : Dev nD} (i : Fin 2) (v : Memref sig .tc .hbm S256x2048 .f32) {s : PosShare TreeShare}
    {fs : Buf (Elt F) (v.view.loc (c : Thread nD τ))} {Kt : P F} {Q : PUnit → sProp 𝕄} :
    iprop((v.view.loc (c : Thread nD τ) ↦[v.view.set]{s} fs) ∗ ldFree c i)
      ⊢ iprop((ldFly c i iprop(ldHas c i (v.view.read (Elt F) fs) ∗ (v.view.loc (c : Thread nD τ) ↦[v.view.set]{s} fs)) -∗ WP c Kt Q)
        -∗ WP c (load0 i v Kt) Q) := by
  unfold ldFree ldFly
  rw [show (load0 i v Kt : P F) = .op (.enqueueDma v (.here (lvSlot i)) (.dma (dsem (65 + i.val))) (View.wordExact_bits rfl)
    ((View.wordExact_bits rfl).reshape _ _) ⟨Or.inl rfl, trivial⟩) fun _ => Kt from by rw [← sem_ld i]]
  iintro ⟨Hs, ⟨%f, Hd⟩, Hv⟩ Hk
  iapply (Transfers.wp_dmaLocal EC 𝒱₀ (c : Thread nD τ) none (src := v) (dst := lvSlot i) (q := s) (fs := fs) (fd := (show Buf (Elt F) ((lvSlot i).view.loc (c : Thread nD τ)) from f))
    () NL rfl NL_pos (Finset.Subset.refl _)) $$ [Hs Hd Hv]
  · isplitl [Hs]; · iexact Hs
    isplitl [Hd]; · iexact Hd
    iexact Hv
  iintro HF
  iapply Hk
  iapply (Transfers.Flight_mono EC (c : Thread nD τ) (D' := iprop(ldHas c i (v.view.read (Elt F) fs) ∗ (v.view.loc (c : Thread nD τ) ↦[v.view.set]{s} fs))) ?_) $$ HF
  unfold ldHas
  iintro ⟨Hd, Hs⟩
  isplitl [Hd]
  · iexists ((lvSlot i).view.write (Elt F) f (v.view.read (Elt F) fs) Finset.univ)
    isplitr [Hd]
    · ipureintro
      exact View.read_write_univ _ _
    · iexact Hd
  iexact Hs

theorem loaded_step {c : Dev nD} (i : Fin 2) (v : Memref sig .tc .hbm S256x2048 .f32) {D : sProp 𝕄} {l : Debt} (hl : Ok (.dma (dsem (65 + i.val))) l)
    {Kt : P F} {Q : PUnit → sProp 𝕄} :
    iprop(known V K c ∗ ldFly c i D ∗ owe c l)
      ⊢ iprop((D ∗ semVal (cellN c (65 + i.val)) 0 ∗ owe c l -∗ WP c Kt Q) -∗ WP c (wait0 i v Kt) Q) := by
  unfold ldFly owe
  rw [show (wait0 i v Kt : P F) = .op (.waitDma2 (dsem (65 + i.val)) v (lvSlot i) (View.wordExact_bits rfl) ((View.wordExact_bits rfl).reshape _ _)) fun _ => Kt
    from by rw [← sem_ld i]]
  iintro ⟨#HK, HF, ⟨%W, HO⟩⟩ Hk
  iapply (Transfers.wp_waitLocalO EC 𝒱₀ (c : Thread nD τ) none (srcw := v) (dstw := lvSlot i) (sem := dsem (65 + i.val)) () (N := NL) (O := owed l) (W := W) rfl) $$ [HF HO]
  · isplitl [HF]; · iexact HF
    isplitl [HO]; · iexact HO
    iapply (mayWait c (.dma (dsem (65 + i.val))) (lvS (.dma (dsem (65 + i.val)))) l le_rfl hl)
    iapply (known_lev V K c); iexact HK
  iintro ⟨HD, Hv, HO⟩
  iapply Hk
  isplitl [HD]; · iexact HD
  isplitl [Hv]; · iexact Hv
  iexists _; iexact HO

theorem lv_step {c : Dev nD} (i : Fin 2) {w : S256x2048.Idx → Elt F .f32} {Kt : Vec F S1x256x2048 .f32 → P F} {Q : PUnit → sProp 𝕄} :
    ldHas c i w
      ⊢ iprop((∀ a : Vec F S1x256x2048 .f32, ⌜shapeCast S256x2048 a shapeCasts_S1x256x2048_S256x2048 = w⌝ -∗ ldHas c i w -∗ WP c (Kt a) Q)
        -∗ WP c (lvLoad i Kt) Q) := by
  unfold ldHas
  iintro ⟨%f, %hf, H⟩ Hk
  iapply (wp_load 𝒱₀ (c : Thread nD τ) none Set.univ (m := mLv) (S := (lvSlot i).view.set) (f := f) ?_) $$ H
  · show _ ⊆ ((mLv.access (Rect.unit (s := S2x256x2048) ![i.val, 0, 0] S1x256x2048.size (inb2 i))).reshape S256x2048 squeezes_S1x256x2048_S256x2048.numel_eq).set
    rw [View.set_reshape, View.set_slice]; exact Finset.Subset.refl _
  iintro H
  iapply Hk $$ %_ %_ [H]
  · exact hf
  iexists f
  isplitr [H]
  · ipureintro; exact hf
  · iexact H

end Cert.KernelIdeal.Body
-- ==== Proof.KernelIdeal.Pipe.lean ====
module

public import proofs.«01_k».proof.Proof.KernelIdeal.Steps
public import Idealize.ShloMosaic.Lib.Pipeline.Value
public import Idealize.SL.BI.BigOpNat
public import Mathlib.Algebra.Order.Interval.Finset.Basic

@[expose] public section

set_option maxRecDepth 16384

noncomputable section

/-! The loop over the 32 chunks of the result: a chunk of the slab comes in while the one before is finished and
copied back, two copies back under way at most. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F)) (K : GSem nD τ sig → ℕ)

/-! ## Runs of consecutive indices -/

/-- Over no index nothing is held. -/
theorem run_nil (a : ℕ) (A : ℕ → sProp 𝕄) : bigSep (Finset.Ico a a) A = iprop(emp) := by
  rw [Finset.Ico_self, bigSep_empty]; rfl
/-- A run cut in two. -/
theorem run_cut {a b c : ℕ} (h1 : a ≤ b) (h2 : b ≤ c) (A : ℕ → sProp 𝕄) :
    bigSep (Finset.Ico a c) A = iprop(bigSep (Finset.Ico a b) A ∗ bigSep (Finset.Ico b c) A) := by
  rw [← Finset.Ico_union_Ico_eq_Ico h1 h2, bigSep_union (Finset.Ico_disjoint_Ico_consecutive a b c)]; rfl
/-- A run counted from another start. -/
theorem run_from (A : ℕ → sProp 𝕄) (k a n : ℕ) : bigSep (Finset.Ico (k + a) (k + n)) A = bigSep (Finset.Ico a n) fun j => A (k + j) := by
  rw [← Finset.map_add_left_Ico a n k, bigSep_map]; rfl

/-! ## Iteration -/

theorem loop {c : Dev nD} {f : ℕ → P F → P F} {I R S : ℕ → sProp 𝕄} {Q : PUnit → sProp 𝕄} :
    ∀ (m i : ℕ), (∀ j, i ≤ j → j < i + m → ∀ Kt : P F, iprop(known V K c ∗ I j ∗ R j) ⊢ iprop((I (j + 1) ∗ S j -∗ WP c Kt Q) -∗ WP c (f j Kt) Q)) →
      ∀ Kt : P F, iprop(known V K c ∗ I i ∗ bigSep (Finset.Ico i (i + m)) R)
        ⊢ iprop((I (i + m) ∗ bigSep (Finset.Ico i (i + m)) S -∗ WP c Kt Q) -∗ WP c (iter f m i Kt) Q)
  | 0, i, _, Kt => by
    show _ ⊢ iprop((I i ∗ bigSep (Finset.Ico i i) S -∗ WP c Kt Q) -∗ WP c Kt Q)
    rw [Nat.add_zero, run_nil i, run_nil i]
    iintro ⟨-, HI, -⟩ Hk
    iapply Hk
    isplitl [HI]; · iexact HI
    iempintro
  | m + 1, i, h, Kt => by
    have ih := loop (c := c) (f := f) (I := I) (R := R) (S := S) (Q := Q) m (i + 1)
      (fun j h1 h2 => h j (by omega) (by omega)) Kt
    have h0 := h i (le_refl i) (by omega) (iter f m (i + 1) Kt)
    rw [bigSep_Ico_succ_bot (by omega) R, bigSep_Ico_succ_bot (by omega) S, show i + (m + 1) = (i + 1) + m by omega]
    iintro ⟨#HK, HI, HR, HRs⟩ Hk
    iapply h0 $$ [HI HR]
    · isplitr; · iexact HK
      isplitl [HI]; · iexact HI
      iexact HR
    iintro ⟨HI, HS⟩
    iapply ih $$ [HI HRs]
    · isplitr; · iexact HK
      isplitl [HI]; · iexact HI
      iexact HRs
    iintro ⟨HI, HSs⟩
    iapply Hk
    isplitl [HI]; · iexact HI
    isplitl [HS]; · iexact HS
    iexact HSs

/-! ## Finishing a chunk -/

/-- A finished chunk's values. -/
def outVal (w : FVec F S256x2048 .f32) (b : FVec F S256x2048 .bf16) (g : FVec F S1x2048 .f32) : FVec F S256x2048 .f32 :=
  have v940 : FVec F S256x2048 .f32 := addf w (extf .f32 b bitsLt_bf16_f32)
  have v942 : FVec F S256 .f32 := multiReduction .add [1] S256 (mulf v940 v940) 0x00000000#32 reduces_S256x2048_S256 (.inl rfl) rfl
  have v945 : FVec F S256x1 .f32 := mulf (shapeCast S256x1 v942 shapeCasts_S256_S256x1) (broadcast S256x1 (Scalar.ofBits .f32 0x3A000000#32 : F .f32))
  have v948 : FVec F S256x1 .f32 := rsqrt (addf v945 (broadcast S256x1 (Scalar.ofBits .f32 0x358637BD#32 : F .f32)))
  have v950 : FVec F S256x2048 .f32 := mulf v940 (broadcastTo S256x2048 v948 broadcasts_S256x1_S256x2048)
  mulf v950 (broadcastTo S256x2048 (shapeCast S1x2048 g shapeCasts_S1x2048_S1x2048) broadcasts_S1x2048_S256x2048)

theorem outPay_eq (a : Vec F S1x256x2048 .f32) (b : Vec F S256x2048 .bf16) (g : Vec F S1x2048 .f32) :
    outPay a b g = shapeCast S1x256x2048 (outVal (shapeCast S256x2048 a shapeCasts_S1x256x2048_S256x2048) b g) shapeCasts_S256x2048_S1x256x2048 := rfl

/-- The scale's buffer at the values `X`. -/
abbrev gam (c : Dev nD) (X : S1x2048.Idx → Elt F .f32) : sProp 𝕄 := owns (c : Thread nD τ) mGam fullShare X

theorem gam_read (f : mGam.view.ty.Contents (Elt F)) :
    mGam.view.readAt (Elt F) (Rect.unit (s := S1x2048) ![0, 0] S1x2048.size inb_S1x2048_S1x2048_0_0).toLoadRect f = mGam.view.read (Elt F) f := by
  funext x
  rw [View.readAt_apply]
  congr 1
  funext a
  apply Fin.ext
  show (![0, 0] : Fin 2 → ℕ) a + 1 * (x a).val = (x a).val
  rw [Nat.one_mul]
  fin_cases a <;> exact Nat.zero_add _

def outRaw (c : Dev nD) (q : Fin 4) (k : Fin 8) : sProp 𝕄 :=
  iprop(∃ f : (main_v27 : Ref sig .tc).ty.Contents (Elt F), (outQ q k).view.loc (c : Thread nD τ) ↦[(outQ q k).view.set]{fullShare} f)
/-- A chunk of the result holding the values `w`. -/
def outHas (c : Dev nD) (q : Fin 4) (k : Fin 8) (w : S256x2048.Idx → Elt F .f32) : sProp 𝕄 :=
  iprop(∃ f : (main_v27 : Ref sig .tc).ty.Contents (Elt F), ⌜(outQ q k).view.read (Elt F) f = w⌝
    ∗ ((outQ q k).view.loc (c : Thread nD τ) ↦[(outQ q k).view.set]{fullShare} f))

/-- Both with the chunk, the slot and the counter variables. -/
def tailAt (sm : DmaSem sig) (i : Fin 2) (q : Fin 4) (k : Fin 8) (K : P F) : P F :=
  lvLoad i fun a =>
  .op (.load mOv (Rect.unit (s := S8192x2048) (aoff q k) S256x2048.size (inbQ q k)).toLoadRect (View.loadsAt_vmem h_S256x2048)) fun b =>
  .op (.load mGam (Rect.unit (s := S1x2048) ![0, 0] S1x2048.size inb_S1x2048_S1x2048_0_0).toLoadRect (View.loadsAt_vmem h_S1x2048)) fun g =>
  .op (.load mWv (Rect.unit (s := S2x256x2048) ![i.val, 0, 0] S1x256x2048.size (inb2 i)).toLoadRect (View.loadsAt_vmem h_S1x256x2048)) fun _ =>
  .op (.store mWv (Rect.unit (s := S2x256x2048) ![i.val, 0, 0] S1x256x2048.size (inb2 i)) (outPay a b g) Finset.univ
    (View.stores_vmem_bits_univ h_S1x256x2048 rfl) (.inl rfl)) fun _ =>
  .op (.enqueueDma (wvSlot i) (.here (outQ q k)) (.dma sm) ((View.wordExact_bits rfl).reshape _ _) (View.wordExact_bits rfl) ⟨Or.inl rfl, trivial⟩) fun _ => K
def waitAt (sm : DmaSem sig) (i : Fin 2) (q : Fin 4) (k : Fin 8) (K : P F) : P F :=
  .op (.waitDma2 sm (wvSlot i) (outQ q k) ((View.wordExact_bits rfl).reshape _ _) (View.wordExact_bits rfl)) fun _ => K
theorem flushTail_canon (c : Dev nD) (m : ℕ) (Kt : P F) :
    flushTail (canon c) m Kt = tailAt (sem2 cc0_scratch15 (f2 m)) (f2 m) (quar c (qOf m)) (kOf m) Kt := rfl
theorem waitOut_canon (c : Dev nD) (m : ℕ) (Kt : P F) :
    waitOut (canon c) m Kt = waitAt (sem2 cc0_scratch15 (f2 m)) (f2 m) (quar c (qOf m)) (kOf m) Kt := rfl

theorem flushTail_step {c : Dev nD} {m : ℕ} {w : S256x2048.Idx → Elt F .f32} {X : S1x2048.Idx → Elt F .f32} {s : PosShare TreeShare}
    {f : (cc0_scratch0 : Ref sig .tc).ty.Contents (Elt F)} {Kt : P F} {Q : PUnit → sProp 𝕄} :
    iprop(ldHas c (f2 m) w ∗ ovPt c s (quar c (qOf m)) (kOf m) f ∗ gam c X ∗ wrFree c (f2 m) ∗ outRaw c (quar c (qOf m)) (kOf m))
      ⊢ iprop((ldHas c (f2 m) w ∗ ovPt c s (quar c (qOf m)) (kOf m) f ∗ gam c X
          ∗ wrFly c (f2 m) iprop(outHas c (quar c (qOf m)) (kOf m) (outVal w ((ovQ (quar c (qOf m)) (kOf m)).view.read (Elt F) f) X) ∗ ∃ f, wvPt c (f2 m) f)
          -∗ WP c Kt Q) -∗ WP c (flushTail (canon c) m Kt) Q) := by
  rw [flushTail_canon, sem_wr]
  generalize f2 m = i
  generalize quar c (qOf m) = q
  generalize kOf m = k
  unfold tailAt wrFree outRaw wrFly gam owns
  iintro ⟨Hl, Ho, ⟨%fg, %hg, Hg⟩, ⟨⟨%fw, Hw⟩, Hv⟩, ⟨%fo, Hx⟩⟩ Hk
  iapply (lv_step i) $$ Hl
  iintro %a %ha Hl
  unfold ovPt
  iapply (wp_load 𝒱₀ (c : Thread nD τ) none Set.univ (m := mOv) (S := (ovQ q k).view.set) (f := f) ?_) $$ Ho
  · show _ ⊆ (mOv.view.slice (Rect.unit (s := S8192x2048) (aoff q k) S256x2048.size (inbQ q k))).set
    rw [View.set_slice]; exact Finset.Subset.refl _
  iintro Ho
  iapply (wp_load 𝒱₀ (c : Thread nD τ) none Set.univ (m := mGam) (S := mGam.view.set) (f := fg) (View.setOn_subset_set _ _)) $$ Hg
  iintro Hg
  iapply (wp_load 𝒱₀ (c : Thread nD τ) none Set.univ (m := mWv) (S := (wvSlot i).view.set) (f := fw) ?_) $$ Hw
  · show _ ⊆ ((mWv.access (Rect.unit (s := S2x256x2048) ![i.val, 0, 0] S1x256x2048.size (inb2 i))).reshape S256x2048 squeezes_S1x256x2048_S256x2048.numel_eq).set
    rw [View.set_reshape, View.set_slice]; exact Finset.Subset.refl _
  iintro Hw
  iapply (wp_store 𝒱₀ (c : Thread nD τ) none Set.univ (m := mWv) (r := Rect.unit (s := S2x256x2048) ![i.val, 0, 0] S1x256x2048.size (inb2 i)) (S := (wvSlot i).view.set) (f := fw) ?_) $$ Hw
  · show _ ⊆ ((mWv.access (Rect.unit (s := S2x256x2048) ![i.val, 0, 0] S1x256x2048.size (inb2 i))).reshape S256x2048 squeezes_S1x256x2048_S256x2048.numel_eq).set
    rw [View.set_reshape, View.setOn_univ]
  iintro Hw
  iapply (Transfers.wp_dmaLocal EC 𝒱₀ (c : Thread nD τ) none (src := wvSlot i) (dst := outQ q k) (q := fullShare)
    (fs := (mWv.access (Rect.unit (s := S2x256x2048) ![i.val, 0, 0] S1x256x2048.size (inb2 i))).write (Elt F) fw _ Finset.univ) (fd := fo) (sm := .dma (dsem (67 + i.val)))
    () NL rfl NL_pos (Finset.Subset.refl _)) $$ [Hw Hx Hv]
  · isplitl [Hw]; · iexact Hw
    isplitl [Hx]; · iexact Hx
    iexact Hv
  iintro HF
  iapply Hk
  isplitl [Hl]; · iexact Hl
  isplitl [Ho]; · iexact Ho
  isplitl [Hg]
  · iexists fg
    isplitr [Hg]
    · ipureintro; exact hg
    · iexact Hg
  iapply (Transfers.Flight_mono EC (c : Thread nD τ) ?_) $$ HF
  unfold outHas
  iintro ⟨Hd, Hs⟩
  isplitl [Hd]
  · iexists ((outQ q k).view.write (Elt F) fo ((wvSlot i).view.read (Elt F)
      ((mWv.access (Rect.unit (s := S2x256x2048) ![i.val, 0, 0] S1x256x2048.size (inb2 i))).write (Elt F) fw
        (outPay a (mOv.view.readAt (Elt F) (Rect.unit (s := S8192x2048) (aoff q k) S256x2048.size (inbQ q k)).toLoadRect f)
          (mGam.view.readAt (Elt F) (Rect.unit (s := S1x2048) ![0, 0] S1x2048.size inb_S1x2048_S1x2048_0_0).toLoadRect fg)) Finset.univ)) Finset.univ)
    isplitr [Hd]
    · ipureintro
      refine (View.read_write_univ _ _).trans ?_
      show shapeCast S256x2048 ((mWv.access (Rect.unit (s := S2x256x2048) ![i.val, 0, 0] S1x256x2048.size (inb2 i))).read (Elt F)
        ((mWv.access (Rect.unit (s := S2x256x2048) ![i.val, 0, 0] S1x256x2048.size (inb2 i))).write (Elt F) fw (outPay a _ _) Finset.univ)) shapeCasts_S1x256x2048_S256x2048 = _
      rw [View.read_write_univ, outPay_eq, ha, gam_read, hg]
      exact shapeCast_shapeCast _ _ _
    · iexact Hd
  iexists _; iexact Hs

theorem waitOut_step {c : Dev nD} {m : ℕ} {D : sProp 𝕄} {l : Debt} (hl : Ok (.dma (dsem (67 + (f2 m).val))) l)
    {Kt : P F} {Q : PUnit → sProp 𝕄} :
    iprop(known V K c ∗ wrFly c (f2 m) iprop(D ∗ ∃ f, wvPt c (f2 m) f) ∗ owe c l)
      ⊢ iprop((D ∗ wrFree c (f2 m) ∗ owe c l -∗ WP c Kt Q) -∗ WP c (waitOut (canon c) m Kt) Q) := by
  rw [waitOut_canon, sem_wr]
  generalize f2 m = i at hl
  unfold wrFly wrFree owe waitAt
  iintro ⟨#HK, HF, ⟨%W, HO⟩⟩ Hk
  iapply (Transfers.wp_waitLocalO EC 𝒱₀ (c : Thread nD τ) none (srcw := wvSlot i) (dstw := outQ (quar c (qOf m)) (kOf m)) (sem := dsem (67 + i.val)) () (N := NL) (O := owed l) (W := W) rfl) $$ [HF HO]
  · isplitl [HF]; · iexact HF
    isplitl [HO]; · iexact HO
    iapply (mayWait c (.dma (dsem (67 + i.val))) (lvS (.dma (dsem (67 + i.val)))) l le_rfl hl)
    iapply (known_lev V K c); iexact HK
  iintro ⟨⟨HD, Hw⟩, Hv, HO⟩
  iapply Hk
  isplitl [HD]; · iexact HD
  isplitl [Hw Hv]
  · isplitl [Hw]; · iexact Hw
    iexact Hv
  iexists _; iexact HO

/-! ## The loop's state -/

/-- Share of chunk `n` of the receive buffer that stays while the chunk is passed on. -/
def shr (n : ℕ) : PosShare TreeShare :=
  if n < 8 then sR.right else if n < 24 then (if n % 2 = 0 then (if 20 ≤ n then sR else fullShare) else (if 17 ≤ n ∧ n < 20 then sR else fullShare)) else fullShare

/-- What chunk `n` of the receive buffer holds. -/
abbrev got (c : Dev nD) (n : ℕ) : (cc0_scratch0 : Ref sig .tc).ty.Contents (Elt F) := HB V (src c (qOf n) (kOf n))
def ovHas (c : Dev nD) (n : ℕ) : sProp 𝕄 := ovPt c (shr n) (quar c (qOf n)) (kOf n) (got V c n)
/-- Chunk `n` of the slab. -/
abbrev slabVal (c : Dev nD) (n : ℕ) : S256x2048.Idx → Elt F .f32 := (slabQ (quar c (qOf n)) (kOf n)).view.read (Elt F) (V c main_v1)
def slabPt (c : Dev nD) (n : ℕ) : sProp 𝕄 :=
  (slabQ (quar c (qOf n)) (kOf n)).view.loc (c : Thread nD τ) ↦[(slabQ (quar c (qOf n)) (kOf n)).view.set]{fullShare} V c main_v1
def outR (c : Dev nD) (n : ℕ) : sProp 𝕄 := outRaw c (quar c (qOf n)) (kOf n)
variable (X : S1x2048.Idx → Elt F .f32)
/-- Chunk `n` of the result, finished. -/
def outH (c : Dev nD) (n : ℕ) : sProp 𝕄 :=
  outHas c (quar c (qOf n)) (kOf n) (outVal (slabVal V c n) ((ovQ (quar c (qOf n)) (kOf n)).view.read (Elt F) (got V c n)) X)

/-- Write slot `n % 2` before chunk `n` is finished: free, or with chunk `n - 2` on its way back. -/
def wrSt (c : Dev nD) (n : ℕ) : sProp 𝕄 := if n < 2 then wrFree c (f2 n) else wrFly c (f2 n) iprop(outH V X c (n - 2) ∗ ∃ f, wvPt c (f2 n) f)
theorem f2_add_two (n : ℕ) : f2 (n + 2) = f2 n := Fin.ext (by show (n + 2) % 2 = n % 2; omega)
theorem wrSt_lt {c : Dev nD} {n : ℕ} (h : n < 2) : wrSt V X c n = wrFree c (f2 n) := if_pos h
theorem wrSt_ge (c : Dev nD) (n : ℕ) : wrSt V X c (n + 2) = wrFly c (f2 n) iprop(outH V X c n ∗ ∃ f, wvPt c (f2 n) f) := by
  unfold wrSt
  rw [if_neg (by omega), f2_add_two, Nat.add_sub_cancel]
def ldSt (c : Dev nD) (n : ℕ) : sProp 𝕄 := ldFly c (f2 n) iprop(ldHas c (f2 n) (slabVal V c n) ∗ slabPt V c n)

/-- Chunk `n` of the slab on its way, the chunks before finished, received or not yet written the others. -/
def pipe (c : Dev nD) (n : ℕ) : sProp 𝕄 :=
  iprop(ldSt V c n ∗ ldFree c (f2 (n + 1)) ∗ wrSt V X c n ∗ wrSt V X c (n + 1) ∗ gam c X
    ∗ bigSep (Finset.Ico (n + 1) 32) (slabPt V c) ∗ bigSep (Finset.Ico n 32) (outR (F := F) c)
    ∗ bigSep (Finset.range (n - 2)) (outH V X c) ∗ bigSep (Finset.range (n + 1)) (ovHas V c))

/-- Nothing below the receive level is owed. -/
def Quiet (l : Debt) : Prop := ∀ p ∈ l, p.1.1.2 = .tc ∧ 0 < lvS p.1.2
theorem Quiet.ok {l : Debt} (h : Quiet l) {n : ℕ} (hn : lvS (.dma (dsem n)) = 0) : Ok (.dma (dsem n)) l := fun p hp => by
  rw [hn]; exact h p hp
theorem lv_ld (i : Fin 2) : lvS (.dma (dsem (65 + i.val))) = 0 := by revert i; decide
theorem lv_wr (i : Fin 2) : lvS (.dma (dsem (67 + i.val))) = 0 := by revert i; decide

theorem stage_canon (c : Dev nD) (n : ℕ) (Kt : P F) : stage (canon c) n Kt = load0 (f2 n) (slabQ (quar c (qOf n)) (kOf n)) Kt := rfl

theorem stage_step {c : Dev nD} {n : ℕ} {Kt : P F} {Q : PUnit → sProp 𝕄} :
    iprop(slabPt V c n ∗ ldFree c (f2 n)) ⊢ iprop((ldSt V c n -∗ WP c Kt Q) -∗ WP c (stage (canon c) n Kt) Q) := by
  rw [stage_canon]
  unfold slabPt ldSt
  iintro ⟨Hs, Hl⟩ Hk
  iapply (load_step (f2 n) (slabQ (quar c (qOf n)) (kOf n)) (s := fullShare) (fs := V c main_v1)) $$ [Hs Hl]
  · isplitl [Hs]; · iexact Hs
    iexact Hl
  iintro HF
  iapply Hk
  iexact HF

/-- The write slot is freed if it has to be. -/
theorem flush_step {c : Dev nD} {m : ℕ} {l : Debt} (hl : Quiet l) {Kt : P F} {Q : PUnit → sProp 𝕄} :
    iprop(known V K c ∗ ldSt V c m ∗ wrSt V X c m ∗ ovHas V c m ∗ gam c X ∗ outR c m ∗ bigSep (Finset.range (m - 2)) (outH V X c) ∗ owe c l)
      ⊢ iprop((ldFree c (f2 m) ∗ wrSt V X c (m + 2) ∗ ovHas V c m ∗ gam c X ∗ bigSep (Finset.range (m + 1 - 2)) (outH V X c) ∗ owe c l -∗ WP c Kt Q)
        -∗ WP c (flush (canon c) m Kt) Q) := by
  have tail : iprop(ldHas c (f2 m) (slabVal V c m) ∗ ovHas V c m ∗ gam c X ∗ wrFree c (f2 m) ∗ outR c m)
      ⊢ iprop((ldHas c (f2 m) (slabVal V c m) ∗ ovHas V c m ∗ gam c X ∗ wrSt V X c (m + 2) -∗ WP c Kt Q) -∗ WP c (flushTail (canon c) m Kt) Q) := by
    rw [wrSt_ge]
    exact flushTail_step
  unfold flush ldSt
  by_cases h : m < 2
  · rw [wrSt_lt V X h, if_neg (by omega), show m + 1 - 2 = m - 2 by omega]
    iintro ⟨#HK, HF, Hw, Ho, Hg, Hx, Hd, HO⟩ Hk
    iapply (loaded_step V K (f2 m) (slabQ (quar c (qOf m)) (kOf m)) (hl.ok (lv_ld _))) $$ [HF HO]
    · isplitr; · iexact HK
      isplitl [HF]; · iexact HF
      iexact HO
    iintro ⟨⟨Hl, -⟩, Hv, HO⟩
    iapply tail $$ [Hl Ho Hg Hw Hx]
    · isplitl [Hl]; · iexact Hl
      isplitl [Ho]; · iexact Ho
      isplitl [Hg]; · iexact Hg
      isplitl [Hw]; · iexact Hw
      iexact Hx
    iintro ⟨Hl, Ho, Hg, Hw⟩
    iapply Hk
    isplitl [Hl Hv]
    · iapply (ldHas_free c (f2 m) (slabVal V c m))
      isplitl [Hl]; · iexact Hl
      iexact Hv
    isplitl [Hw]; · iexact Hw
    isplitl [Ho]; · iexact Ho
    isplitl [Hg]; · iexact Hg
    isplitl [Hd]; · iexact Hd
    iexact HO
  · have h2 : 2 ≤ m := by omega
    rw [if_pos h2, show m + 1 - 2 = (m - 2) + 1 by omega, bigSep_range_succ]
    have hm : f2 (m - 2) = f2 m := by rw [← f2_add_two (m - 2), show m - 2 + 2 = m by omega]
    have hw : wrSt V X c m = wrFly c (f2 (m - 2)) iprop(outH V X c (m - 2) ∗ ∃ f, wvPt c (f2 (m - 2)) f) := by
      rw [← wrSt_ge, show m - 2 + 2 = m by omega]
    rw [hw]
    iintro ⟨#HK, HF, Hw, Ho, Hg, Hx, Hd, HO⟩ Hk
    iapply (loaded_step V K (f2 m) (slabQ (quar c (qOf m)) (kOf m)) (hl.ok (lv_ld _))) $$ [HF HO]
    · isplitr; · iexact HK
      isplitl [HF]; · iexact HF
      iexact HO
    iintro ⟨⟨Hl, -⟩, Hv, HO⟩
    iapply (waitOut_step V K (m := m - 2) (D := outH V X c (m - 2)) (hl.ok (lv_wr _))) $$ [Hw HO]
    · isplitr; · iexact HK
      isplitl [Hw]; · iexact Hw
      iexact HO
    iintro ⟨HD, Hw, HO⟩
    iapply tail $$ [Hl Ho Hg Hw Hx]
    · isplitl [Hl]; · iexact Hl
      isplitl [Ho]; · iexact Ho
      isplitl [Hg]; · iexact Hg
      isplitl [Hw]; · iapply (Entails.of_eq (congrArg (wrFree (F := F) c) hm)); iexact Hw
      iexact Hx
    iintro ⟨Hl, Ho, Hg, Hw⟩
    iapply Hk
    isplitl [Hl Hv]
    · iapply (ldHas_free c (f2 m) (slabVal V c m))
      isplitl [Hl]; · iexact Hl
      iexact Hv
    isplitl [Hw]; · iexact Hw
    isplitl [Ho]; · iexact Ho
    isplitl [Hg]; · iexact Hg
    isplitl [HD Hd]
    · isplitl [HD]; · iexact HD
      iexact Hd
    iexact HO

/-- The loop's step: the next chunk in, this one finished. -/
theorem pipe_step {c : Dev nD} {n : ℕ} (hn : n + 1 < 32) {l : Debt} (hl : Quiet l) {Kt : P F} {Q : PUnit → sProp 𝕄} :
    iprop(known V K c ∗ pipe V X c n ∗ ovHas V c (n + 1) ∗ owe c l)
      ⊢ iprop((pipe V X c (n + 1) ∗ owe c l -∗ WP c Kt Q) -∗ WP c (stage (canon c) (n + 1) (flush (canon c) n Kt)) Q) := by
  unfold pipe
  rw [bigSep_Ico_succ_bot hn (slabPt V c), bigSep_Ico_succ_bot (by omega : n < 32) (outR (F := F) c), bigSep_range_succ (n + 1) (ovHas V c), bigSep_range_succ n (ovHas V c)]
  iintro ⟨#HK, ⟨HF, Hl, Hw, Hw', Hg, ⟨Hs, Hss⟩, ⟨Hx, Hxs⟩, Hd, Ho, Hos⟩, Hn, HO⟩ Hk
  iapply (stage_step V (n := n + 1)) $$ [Hs Hl]
  · isplitl [Hs]; · iexact Hs
    iexact Hl
  iintro HF'
  iapply (flush_step V K X hl) $$ [HF Hw Ho Hg Hx Hd HO]
  · isplitr; · iexact HK
    isplitl [HF]; · iexact HF
    isplitl [Hw]; · iexact Hw
    isplitl [Ho]; · iexact Ho
    isplitl [Hg]; · iexact Hg
    isplitl [Hx]; · iexact Hx
    isplitl [Hd]; · iexact Hd
    iexact HO
  iintro ⟨Hl, Hw, Ho, Hg, Hd, HO⟩
  iapply Hk
  isplitr [HO]
  · isplitl [HF']; · iexact HF'
    isplitl [Hl]; · rw [f2_add_two]; iexact Hl
    isplitl [Hw']; · iexact Hw'
    isplitl [Hw]; · iexact Hw
    isplitl [Hg]; · iexact Hg
    isplitl [Hss]; · iexact Hss
    isplitl [Hxs]; · iexact Hxs
    isplitl [Hd]; · iexact Hd
    isplitl [Hn]; · iexact Hn
    isplitl [Ho]; · iexact Ho
    iexact Hos
  iexact HO

/-- The last chunk, and the last two copies back. -/
theorem pipe_last {c : Dev nD} {l : Debt} (hl : Quiet l) {Kt : P F} {Q : PUnit → sProp 𝕄} :
    iprop(known V K c ∗ pipe V X c 31 ∗ owe c l)
      ⊢ iprop((ldFree c 0 ∗ ldFree c 1 ∗ wrFree c 0 ∗ wrFree c 1 ∗ gam c X ∗ bigSep (Finset.range 32) (outH V X c) ∗ bigSep (Finset.range 32) (ovHas V c) ∗ owe c l
          -∗ WP c Kt Q) -∗ WP c (flush (canon c) 31 (waitOut (canon c) 30 (waitOut (canon c) 31 Kt))) Q) := by
  unfold pipe
  rw [bigSep_Ico_succ_bot (by omega : 31 < 32) (outR (F := F) c), bigSep_range_succ 31 (ovHas V c), bigSep_range_succ 31 (outH V X c), bigSep_range_succ 30 (outH V X c)]
  iintro ⟨#HK, ⟨HF, Hl, Hw, Hw', Hg, -, ⟨Hx, -⟩, Hd, Ho, Hos⟩, HO⟩ Hk
  iapply (flush_step V K X hl) $$ [HF Hw Ho Hg Hx Hd HO]
  · isplitr; · iexact HK
    isplitl [HF]; · iexact HF
    isplitl [Hw]; · iexact Hw
    isplitl [Ho]; · iexact Ho
    isplitl [Hg]; · iexact Hg
    isplitl [Hx]; · iexact Hx
    isplitl [Hd]; · iexact Hd
    iexact HO
  iintro ⟨Hl', Hw, Ho, Hg, Hd, HO⟩
  iapply (waitOut_step V K (m := 30) (D := outH V X c 30) (hl.ok (lv_wr _))) $$ [Hw' HO]
  · isplitr; · iexact HK
    isplitl [Hw']; · iapply (Entails.of_eq (wrSt_ge V X c 30)); iexact Hw'
    iexact HO
  iintro ⟨HD, Hw', HO⟩
  iapply (waitOut_step V K (m := 31) (D := outH V X c 31) (hl.ok (lv_wr _))) $$ [Hw HO]
  · isplitr; · iexact HK
    isplitl [Hw]; · iapply (Entails.of_eq (wrSt_ge V X c 31)); iexact Hw
    iexact HO
  iintro ⟨HD', Hw, HO⟩
  iapply Hk
  isplitl [Hl]; · iexact Hl
  isplitl [Hl']; · iexact Hl'
  isplitl [Hw']; · iexact Hw'
  isplitl [Hw]; · iexact Hw
  isplitl [Hg]; · iexact Hg
  isplitl [HD HD' Hd]
  · isplitl [HD']; · iexact HD'
    isplitl [HD]; · iexact HD
    iexact Hd
  isplitl [Ho Hos]
  · isplitl [Ho]; · iexact Ho
    iexact Hos
  iexact HO

end Cert.KernelIdeal.Body
-- ==== Proof.KernelIdeal.PhaseY.lean ====
module

public import proofs.«01_k».proof.Proof.KernelIdeal.Pipe

@[expose] public section

set_option maxRecDepth 16384

noncomputable section

/-! The exchanges along y. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F)) (K : GSem nD τ sig → ℕ)

/-- A chunk that landed, by what was read at its source. -/
theorem landed {c' : Dev nD} {q : Fin 4} {k : Fin 8} (g : (cc0_scratch0 : Ref sig .tc).ty.Contents (Elt F)) {w : S256x2048.Idx → Elt F .bf16}
    (h : w = (ovQ q k).view.read (Elt F) g) (fd : (cc0_scratch0 : Ref sig .tc).ty.Contents (Elt F)) :
    ovPt c' fullShare q k ((ovQ q k).view.write (Elt F) fd w Finset.univ) ⊢ ovPt c' fullShare q k g := by
  unfold ovPt
  exact Entails.of_eq (pointsTo_congr (write_eq_on (ovQ q k).view fd g w h))

abbrev slabW (c : Dev nD) : sProp 𝕄 := ((c : Thread nD τ).loc main_v1) ↦{fullShare} V c main_v1
abbrev resW (c : Dev nD) : sProp 𝕄 := ((c : Thread nD τ).loc main_arg1) ↦{fullShare} V c main_arg1

/-- A part of a buffer is lent for a step. -/
theorem lend {ℓ : Loc nD τ sig} {q : PosShare TreeShare} {f : Buf (Elt F) ℓ} (S : Finset (Idx ℓ)) :
    (ℓ ↦{q} f : sProp 𝕄) ⊢ iprop((ℓ ↦[S]{q} f) ∗ ((ℓ ↦[S]{q} f) -∗ (ℓ ↦{q} f))) := by
  refine BIBase.Entails.trans (pointsTo_split_subset (Finset.subset_univ S)).1 ?_
  iintro ⟨H, H'⟩
  isplitl [H]; · iexact H
  iintro H
  iapply (pointsTo_split_subset (Finset.subset_univ S)).2
  isplitl [H]; · iexact H
  iexact H'

/-- What stays through the exchange along y. -/
def stY (c : Dev nD) (l : Debt) : sProp 𝕄 := iprop(slabW V c ∗ resW V c ∗ ldFree c 0 ∗ ldFree c 1 ∗ owe c l)
/-- What sending chunk `k` takes. -/
def inY (c : Dev nD) (k : ℕ) : sProp 𝕄 := iprop(svRaw c (f8 k) ∗ give (py c) (quar c 0) k (13 + k) ∗ tok c (1 + k) ∗ tok (py c) (13 + k))

/-- The step of chunk `n` with the chunk and the counters variables. -/
def yAt (d : Dev nD) (q : Fin 4) (k : Fin 8) (sS sR : DmaSem sig) (hw : (ovQ q k).view.WordExact) (K : P F) : P F :=
  load0 0 (slabQ q k) <| load0 1 (resQ q k) <| wait0 0 (slabQ q k) <| wait0 1 (resQ q k) <|
  lvLoad 0 fun a => lvLoad 1 fun b =>
  .op (.load mSv (Rect.unit (s := S8x256x2048) ![k.val, 0, 0] S1x256x2048.size (inb8 k)).toLoadRect (View.loadsAt_vmem h_S1x256x2048)) fun _ =>
  .op (.store mSv (Rect.unit (s := S8x256x2048) ![k.val, 0, 0] S1x256x2048.size (inb8 k)) (sumPay a b) Finset.univ
    (View.stores_vmem h_S1x256x2048 ((Memref.isWhole_whole cc0_scratch1).storeExact_slice rfl _ (pr8 k)) (fun _ => rfl)) (.inl rfl)) fun _ =>
  .op (.enqueueDma (svSlot k) (.remote (Dev.tc d) (ovQ q k) (.dma sS)) (.dma sR) (sv_we k) hw ⟨⟨rfl, Or.inl rfl⟩, trivial⟩) fun _ => K
theorem yStep_canon (c : Dev nD) (n : ℕ) (Kt : P F) :
    yStep (canon c) n Kt = yAt (py c) (quar c 0) (f8 n) (sem12 cc0_scratch2 (f12 n)) (sem12 cc0_scratch3 (f12 n)) (ovC_we (canon c) 0 (f8 n)) Kt := rfl

theorem sum_eq (a b : Vec F S1x256x2048 .f32) :
    shapeCast S256x2048 (sumPay a b) shapeCasts_S1x256x2048_S256x2048
      = truncf .bf16 (addf (shapeCast S256x2048 a shapeCasts_S1x256x2048_S256x2048) (shapeCast S256x2048 b shapeCasts_S1x256x2048_S256x2048)) bitsLt_bf16_f32 :=
  shapeCast_shapeCast _ _ _

theorem quiet_lY (c : Dev nD) (i : ℕ) : Quiet (lY c i) := fun p hp => ⟨(lY_lv c i p hp).1, by have := (lY_lv c i p hp).2; omega⟩

theorem yStep_step {c : Dev nD} {n : ℕ} (hn : n < 8) {Kt : P F} {Q : PUnit → sProp 𝕄} :
    iprop(known V K c ∗ stY V c (lY c n) ∗ inY c n)
      ⊢ iprop((stY V c (lY c (n + 1)) ∗ crd c (1 + n) -∗ WP c Kt Q) -∗ WP c (yStep (canon c) n Kt) Q) := by
  have hl : Quiet (lY c n) := quiet_lY c n
  have hd : lY c n = (cellN (py c) (13 + n), NN) :: lY c (n + 1) := debts_step (dY c) hn (lQ c 0)
  have hpay := (pay_yr V (py c) hn)
  rw [quar_py, py_py] at hpay
  rw [yStep_canon, sem_ys (by omega), sem_yr (by omega)]
  unfold stY inY svRaw give yAt
  generalize ovC_we (canon c) 0 (f8 n) = hw
  have hs := pay_ys V c hn
  revert hw hpay hs
  generalize f8 n = k
  intro hpay hw hs
  have hwq : (ovQ (quar c 0) k).view.WordExact := hw
  iintro ⟨#HK, ⟨Hsl, Hre, Hl0, Hl1, HO⟩, ⟨%fw, Hsv⟩, ⟨Hraw, #Hr⟩, Ht, Ht'⟩ Hk
  ihave Hsl := (lend (slabQ (quar c 0) k).view.set) $$ Hsl
  icases Hsl with ⟨Hsl, Hbs⟩
  ihave Hre := (lend (resQ (quar c 0) k).view.set) $$ Hre
  icases Hre with ⟨Hre, Hbr⟩
  iapply (load_step 0 (slabQ (quar c 0) k) (s := fullShare) (fs := V c main_v1)) $$ [Hsl Hl0]
  · isplitl [Hsl]; · iexact Hsl
    iexact Hl0
  iintro HF0
  iapply (load_step 1 (resQ (quar c 0) k) (s := fullShare) (fs := V c main_arg1)) $$ [Hre Hl1]
  · isplitl [Hre]; · iexact Hre
    iexact Hl1
  iintro HF1
  iapply (loaded_step V K 0 (slabQ (quar c 0) k) (hl.ok (lv_ld _))) $$ [HF0 HO]
  · isplitr; · iexact HK
    isplitl [HF0]; · iexact HF0
    iexact HO
  iintro ⟨⟨Hl0, Hsl⟩, Hv0, HO⟩
  iapply (loaded_step V K 1 (resQ (quar c 0) k) (hl.ok (lv_ld _))) $$ [HF1 HO]
  · isplitr; · iexact HK
    isplitl [HF1]; · iexact HF1
    iexact HO
  iintro ⟨⟨Hl1, Hre⟩, Hv1, HO⟩
  iapply (lv_step 0) $$ Hl0
  iintro %a %ha Hl0
  iapply (lv_step 1) $$ Hl1
  iintro %b %hb Hl1
  iapply (wp_load 𝒱₀ (c : Thread nD τ) none Set.univ (m := mSv) (S := (svSlot k).view.set) (f := fw) ?_) $$ Hsv
  · show _ ⊆ ((mSv.access (Rect.unit (s := S8x256x2048) ![k.val, 0, 0] S1x256x2048.size (inb8 k))).reshape S256x2048 squeezes_S1x256x2048_S256x2048.numel_eq).set
    rw [View.set_reshape, View.set_slice]; exact Finset.Subset.refl _
  iintro Hsv
  iapply (wp_store 𝒱₀ (c : Thread nD τ) none Set.univ (m := mSv) (r := Rect.unit (s := S8x256x2048) ![k.val, 0, 0] S1x256x2048.size (inb8 k)) (S := (svSlot k).view.set) (f := fw) ?_) $$ Hsv
  · show _ ⊆ ((mSv.access (Rect.unit (s := S8x256x2048) ![k.val, 0, 0] S1x256x2048.size (inb8 k))).reshape S256x2048 squeezes_S1x256x2048_S256x2048.numel_eq).set
    rw [View.set_reshape, View.setOn_univ]
  iintro Hsv
  rw [hd]
  iapply (send_step V K (c := c) (c' := py c) (v := svSlot k) (q := quar c 0) (k := k) (s := fullShare)
    (fs := (mSv.access (Rect.unit (s := S8x256x2048) ![k.val, 0, 0] S1x256x2048.size (inb8 k))).write (Elt F) fw (sumPay a b) Finset.univ)
    hs hpay rfl rfl ⟨by omega, by omega⟩ ⟨by omega, by omega⟩ ?_ ?_) $$ [Hsv Hraw Ht Ht' HO]
  · unfold svRaw
    iintro H; iexists _; iexact H
  · intro fd
    refine landed (HB V c) ?_ fd
    show shapeCast S256x2048 ((mSv.access (Rect.unit (s := S8x256x2048) ![k.val, 0, 0] S1x256x2048.size (inb8 k))).read (Elt F)
      ((mSv.access (Rect.unit (s := S8x256x2048) ![k.val, 0, 0] S1x256x2048.size (inb8 k))).write (Elt F) fw (sumPay a b) Finset.univ)) shapeCasts_S1x256x2048_S256x2048 = _
    rw [View.read_write_univ, sum_eq, ha, hb]
    rfl
  · isplitr; · iexact HK
    isplitl [Hsv]; · iexact Hsv
    isplitl [Hraw]; · iexact Hraw
    isplitr; · iexact Hr
    isplitl [Ht]; · iexact Ht
    isplitl [Ht']; · iexact Ht'
    iexact HO
  iintro ⟨Hc, HO⟩
  iapply Hk
  isplitr [Hc]
  · isplitl [Hsl Hbs]; · iapply Hbs; iexact Hsl
    isplitl [Hre Hbr]; · iapply Hbr; iexact Hre
    isplitl [Hl0 Hv0]
    · iapply (ldHas_free c 0 ((slabQ (quar c 0) k).view.read (Elt F) (V c main_v1)))
      isplitl [Hl0]; · iexact Hl0
      iexact Hv0
    isplitl [Hl1 Hv1]
    · iapply (ldHas_free c 1 ((resQ (quar c 0) k).view.read (Elt F) (V c main_arg1)))
      isplitl [Hl1]; · iexact Hl1
      iexact Hv1
    iexact HO
  iexact Hc

/-! ## The host's sums -/

/-- What sending the `k`th of the host's sums takes. -/
def inQ (c : Dev nD) (k : ℕ) : sProp 𝕄 := iprop(qdPt V c (f4 k) ∗ give (py c) (quar c 3) k (21 + k) ∗ tok c (9 + k) ∗ tok (py c) (21 + k))

theorem qStep_step {c : Dev nD} {n : ℕ} (hn : n < 4)
    (hq : (qdChunk (f4 n)).view.read (Elt F) (V c main_v25) = (ovQ (quar c 3) (f8 n)).view.read (Elt F) (HB V c)) {Kt : P F} {Q : PUnit → sProp 𝕄} :
    iprop(known V K c ∗ owe c (lQ c n) ∗ inQ V c n)
      ⊢ iprop((owe c (lQ c (n + 1)) ∗ crd c (9 + n) -∗ WP c Kt Q) -∗ WP c (qStep (canon c) n Kt) Q) := by
  have hd : lQ c n = (cellN (py c) (21 + n), NN) :: lQ c (n + 1) := debts_step (dQ c) hn (lM c 0)
  have hpay := (pay_qr V (py c) hn)
  rw [quar_py, py_py] at hpay
  have hs : sem12 cc0_scratch2 (f12 (8 + n)) = dsem (9 + n) := by rw [sem_ys (by omega), show 1 + (8 + n) = 9 + n by omega]
  have hr : sem12 cc0_scratch3 (f12 (8 + n)) = dsem (21 + n) := by rw [sem_yr (by omega), show 13 + (8 + n) = 21 + n by omega]
  unfold inQ give qStep qdPt
  rw [hd]
  iintro ⟨#HK, HO, Hq, ⟨Hraw, #Hr⟩, Ht, Ht'⟩ Hk
  iapply (send_step V K (c := c) (c' := py c) (v := qdChunk (f4 n)) (q := quar c 3) (k := f8 n) (s := fullShare) (fs := V c main_v25)
    (pay_qs V c hn) hpay hs hr ⟨by omega, by omega⟩ ⟨by omega, by omega⟩ (BI.Entails.refl _) (fun fd => landed (HB V c) hq fd)) $$ [Hq Hraw Ht Ht' HO]
  · isplitr; · iexact HK
    isplitl [Hq]; · iexact Hq
    isplitl [Hraw]; · iexact Hraw
    isplitr; · iexact Hr
    isplitl [Ht]; · iexact Ht
    isplitl [Ht']; · iexact Ht'
    iexact HO
  iintro ⟨Hc, HO⟩
  iapply Hk
  isplitl [HO]; · iexact HO
  iexact Hc

end Cert.KernelIdeal.Body
-- ==== Proof.KernelIdeal.PhaseM.lean ====
module

public import proofs.«01_k».proof.Proof.KernelIdeal.PhaseY

@[expose] public section

set_option maxRecDepth 16384

noncomputable section

/-! What is received is passed on, and the results are finished on the way. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F)) (K : GSem nD τ sig → ℕ)

/-! ## Single receives and forwards -/

theorem fwd_step {c c' : Dev nD} {r : Fin 4} {k : ℕ} {sS sR : DmaSem sig} {a b : ℕ} {s : PosShare TreeShare}
    {g : (cc0_scratch0 : Ref sig .tc).ty.Contents (Elt F)} {l : Debt} {Kt : P F} {Q : PUnit → sProp 𝕄}
    (hA : payN V c a = ovPt c s (quar c r) (f8 k) g) (hB : payN V c' b = ovPt c' fullShare (quar c r) (f8 k) g)
    (hS : sS = dsem a) (hR : sR = dsem b) (ha : 1 ≤ a ∧ a < 65) (hb : 1 ≤ b ∧ b < 65) :
    iprop(known V K c ∗ ovPt c s (quar c r) (f8 k) g ∗ give c' (quar c r) k b ∗ tok c a ∗ tok c' b ∗ owe c ((cellN c' b, NN) :: l))
      ⊢ iprop((crd c a ∗ owe c l -∗ WP c Kt Q) -∗ WP c (fwd (canon c) c' r (f8 k) sS sR Kt) Q) := by
  unfold give fwd
  iintro ⟨#HK, Hs, ⟨Hraw, #Hr⟩, Ht, Ht', HO⟩ Hk
  iapply (send_step V K (c := c) (c' := c') (v := ovQ (quar c r) (f8 k)) (q := quar c r) (k := f8 k) (s := s) (fs := g)
    hA hB hS hR ha hb (BI.Entails.refl _) (fun fd => landed g rfl fd)) $$ [Hs Hraw Ht Ht' HO]
  · isplitr; · iexact HK
    isplitl [Hs]; · unfold ovPt; iexact Hs
    isplitl [Hraw]; · iexact Hraw
    isplitr; · iexact Hr
    isplitl [Ht]; · iexact Ht
    isplitl [Ht']; · iexact Ht'
    iexact HO
  iintro H
  iapply Hk
  iexact H

theorem rcv_step {c : Dev nD} {r : Fin 4} {k : Fin 8} {sm : DmaSem sig} {n : ℕ} {l : Debt} {Kt : P F} {Q : PUnit → sProp 𝕄}
    {A : sProp 𝕄} (hA : payN V c n = A) (hS : sm = dsem n) (hn : 1 ≤ n ∧ n < 65) (hl : Ok (.dma (dsem n)) l) :
    iprop(known V K c ∗ crd c n ∗ at0 c n ∗ owe c l)
      ⊢ iprop((A ∗ at1 c n ∗ owe c l -∗ WP c Kt Q) -∗ WP c (rcv (canon c) sm r k Kt) Q) := by
  unfold rcv
  exact wait_step V K (w := ovQ (quar c r) k) hA hS hn rfl hl

theorem share_split (c : Dev nD) (s : PosShare TreeShare) (q : Fin 4) (k : Fin 8) (f : (cc0_scratch0 : Ref sig .tc).ty.Contents (Elt F)) :
    (ovPt c s q k f : sProp 𝕄) ⊣⊢ iprop(ovPt c s.left q k f ∗ ovPt c s.right q k f) := by
  unfold ovPt
  exact pointsTo_share (PosShare.mem_left_op_right s)

/-! ## The own quarter -/

theorem ovHas_M (c : Dev nD) {n : ℕ} (h : n < 8) : ovHas V c n = ovPt c sR.right (quar c 0) (f8 n) (HB V (py c)) := by
  unfold ovHas got shr qOf kOf; simp only [if_pos h]; rfl

/-- What receiving chunk `n` and passing it on takes. -/
def inM (c : Dev nD) (n : ℕ) : sProp 𝕄 :=
  iprop(crd c (13 + n) ∗ at0 c (13 + n) ∗ (give (px c) (quar c 0) n (33 + n) ∗ tok c (25 + n) ∗ tok (px c) (33 + n))
    ∗ give (pz c) (quar c 0) n (49 + n) ∗ tok c (41 + n) ∗ tok (pz c) (49 + n))
def outM (c : Dev nD) (n : ℕ) : sProp 𝕄 := iprop(at1 c (13 + n) ∗ crd c (25 + n) ∗ crd c (41 + n))

theorem ok_of {c : Dev nD} {l : Debt} {n j : ℕ} (hl : ∀ p ∈ l, p.1.1.2 = .tc ∧ j < lvS p.1.2) (hn : n < 69) (h : lvN n = j) : Ok (.dma (dsem n)) l := fun p hp => by
  rw [lvS_N hn, h]; exact hl p hp

theorem rcvM_step {c : Dev nD} {n : ℕ} (hn : n < 8) {Kt : P F} {Q : PUnit → sProp 𝕄} :
    iprop(known V K c ∗ owe c (lM c n) ∗ inM c n)
      ⊢ iprop((ovHas V c n ∗ owe c (lM c (n + 1)) ∗ outM c n -∗ WP c Kt Q) -∗ WP c (rcvM (canon c) n Kt) Q) := by
  have hd : lM c n = (cellN (px c) (33 + n), NN) :: (cellN (pz c) (49 + n), NN) :: lM c (n + 1) := debts_step (dM c) hn (lXZ c 0)
  have hx := pay_ar V (px c) hn
  rw [quar_px1, px_px] at hx
  have hz := pay_br V (pz c) hn
  rw [quar_pz2, pz_pz] at hz
  have hl : Ok (.dma (dsem (13 + n))) (lM c n) := ok_of (c := c) (lM_lv c n) (by omega) (by unfold lvN; rw [if_neg (by omega), if_pos (by omega)])
  rw [ovHas_M V c hn]
  unfold inM outM rcvM
  iintro ⟨#HK, HO, Hc, Ha, ⟨Hgx, Htx, Htx'⟩, Hgz, Htz, Htz'⟩ Hk
  iapply (wait_step V K (v := svSlot (f8 n)) (w := ovQ (quar c 0) (f8 n)) (hsrc := sv_we (f8 n)) (hdst := ovC_we (canon c) 0 (f8 n)) (pay_yr V c hn) (sem_yr (by omega)) ⟨by omega, by omega⟩ rfl hl) $$ [Hc Ha HO]
  · isplitr; · iexact HK
    isplitl [Hc]; · iexact Hc
    isplitl [Ha]; · iexact Ha
    iexact HO
  iintro ⟨Hp, Ha, HO⟩
  ihave Hp := (share_split c fullShare (quar c 0) (f8 n) (HB V (py c))).1 $$ Hp
  icases Hp with ⟨HpL, HpR⟩
  ihave HpR := (share_split c sR (quar c 0) (f8 n) (HB V (py c))).1 $$ HpR
  icases HpR with ⟨HpRL, HpRR⟩
  ihave HO := (Entails.of_eq (congrArg (owe (F := F) c) hd)) $$ HO
  iapply (fwd_step V K (c := c) (c' := px c) (r := 0) (k := n) (pay_as V c hn) hx (sem_as hn) (sem_ar hn) ⟨by omega, by omega⟩ ⟨by omega, by omega⟩) $$ [HpL Hgx Htx Htx' HO]
  · isplitr; · iexact HK
    isplitl [HpL]; · iexact HpL
    isplitl [Hgx]; · iexact Hgx
    isplitl [Htx]; · iexact Htx
    isplitl [Htx']; · iexact Htx'
    iexact HO
  iintro ⟨Hcx, HO⟩
  iapply (fwd_step V K (c := c) (c' := pz c) (r := 0) (k := n) (pay_bs V c hn) hz (sem_bs hn) (sem_br hn) ⟨by omega, by omega⟩ ⟨by omega, by omega⟩) $$ [HpRL Hgz Htz Htz' HO]
  · isplitr; · iexact HK
    isplitl [HpRL]; · iexact HpRL
    isplitl [Hgz]; · iexact Hgz
    isplitl [Htz]; · iexact Htz
    isplitl [Htz']; · iexact Htz'
    iexact HO
  iintro ⟨Hcz, HO⟩
  iapply Hk
  isplitl [HpRR]; · iexact HpRR
  isplitl [HO]; · iexact HO
  isplitl [Ha]; · iexact Ha
  isplitl [Hcx]; · iexact Hcx
  iexact Hcz

theorem quiet_lM (c : Dev nD) (i : ℕ) : Quiet (lM c i) := fun p hp => ⟨(lM_lv c i p hp).1, by have := (lM_lv c i p hp).2; omega⟩
theorem quiet_lXZ (c : Dev nD) (i : ℕ) : Quiet (lXZ c i) := fun p hp => ⟨(lXZ_lv c i p hp).1, by have := (lXZ_lv c i p hp).2; omega⟩

variable (X : S1x2048.Idx → Elt F .f32)

theorem stepM_step {c : Dev nD} {n : ℕ} (h1 : 1 ≤ n) (hn : n < 8) {Kt : P F} {Q : PUnit → sProp 𝕄} :
    iprop(known V K c ∗ (pipe V X c (n - 1) ∗ owe c (lM c n)) ∗ inM c n)
      ⊢ iprop(((pipe V X c n ∗ owe c (lM c (n + 1))) ∗ outM c n -∗ WP c Kt Q) -∗ WP c (stepM (canon c) n Kt) Q) := by
  obtain ⟨m, rfl⟩ : ∃ m, n = m + 1 := ⟨n - 1, by omega⟩
  rw [Nat.add_sub_cancel]
  unfold stepM
  rw [Nat.add_sub_cancel]
  iintro ⟨#HK, ⟨HP, HO⟩, Hi⟩ Hk
  iapply (rcvM_step V K hn) $$ [HO Hi]
  · isplitr; · iexact HK
    isplitl [HO]; · iexact HO
    iexact Hi
  iintro ⟨Ho, HO, Hx⟩
  iapply (pipe_step V K X (by omega) (quiet_lM c _)) $$ [HP Ho HO]
  · isplitr; · iexact HK
    isplitl [HP]; · iexact HP
    isplitl [Ho]; · iexact Ho
    iexact HO
  iintro ⟨HP, HO⟩
  iapply Hk
  isplitr [Hx]
  · isplitl [HP]; · iexact HP
    iexact HO
  iexact Hx

/-! ## The neighbours' quarters -/

theorem ovHas_X (c : Dev nD) {k : ℕ} (h : k < 8) : ovHas V c (8 + 2 * k) = ovPt c (if 6 ≤ k then sR else fullShare) (quar c 1) (f8 k) (HB V (py (px c))) := by
  have hq : qOf (8 + 2 * k) = 1 := by unfold qOf; rw [if_neg (by omega), if_pos (by omega), if_pos (by omega)]
  have hk : kOf (8 + 2 * k) = f8 k := by unfold kOf; rw [if_neg (by omega), if_pos (by omega), Nat.add_sub_cancel_left, Nat.mul_div_cancel_left _ (by decide)]
  have hs : shr (8 + 2 * k) = if 6 ≤ k then sR else fullShare := by
    unfold shr; rw [if_neg (by omega), if_pos (by omega), if_pos (by omega)]
    by_cases h6 : 6 ≤ k
    · rw [if_pos h6, if_pos (by omega)]
    · rw [if_neg h6, if_neg (by omega)]
  unfold ovHas got
  rw [hq, hk, hs]
  rfl
theorem ovHas_Z (c : Dev nD) {k : ℕ} (h : k < 8) : ovHas V c (9 + 2 * k) = ovPt c (if 4 ≤ k ∧ k < 6 then sR else fullShare) (quar c 2) (f8 k) (HB V (py (pz c))) := by
  have hq : qOf (9 + 2 * k) = 2 := by unfold qOf; rw [if_neg (by omega), if_pos (by omega), if_neg (by omega)]
  have hk : kOf (9 + 2 * k) = f8 k := by unfold kOf; rw [if_neg (by omega), if_pos (by omega), show (9 + 2 * k - 8) / 2 = k by omega]
  have hs : shr (9 + 2 * k) = if 4 ≤ k ∧ k < 6 then sR else fullShare := by
    unfold shr; rw [if_neg (by omega), if_pos (by omega), if_neg (by omega)]
    by_cases h6 : 4 ≤ k ∧ k < 6
    · rw [if_pos h6, if_pos (by omega)]
    · rw [if_neg h6, if_neg (by omega)]
  unfold ovHas got
  rw [hq, hk, hs]
  rfl
theorem ovHas_D (c : Dev nD) (k : ℕ) (h : k < 8) : ovHas V c (24 + k) = ovPt c fullShare (quar c 3) (f8 k) (HB V (if k < 4 then py c else py (pz (px c)))) := by
  have hq : qOf (24 + k) = 3 := by unfold qOf; rw [if_neg (by omega), if_neg (by omega)]
  have hk : kOf (24 + k) = f8 k := by unfold kOf; rw [if_neg (by omega), if_neg (by omega), Nat.add_sub_cancel_left]
  have hs : shr (24 + k) = fullShare := by unfold shr; rw [if_neg (by omega), if_neg (by omega)]
  have hc : src c 3 (f8 k) = if k < 4 then py c else py (pz (px c)) := by
    show (if k % 8 < 4 then py c else py (pz (px c))) = _
    rw [Nat.mod_eq_of_lt h]
  unfold ovHas got
  rw [hq, hk, hs, hc]

/-- What passing chunk `k` of the x neighbour's quarter on to the z neighbour takes, the last two chunks; -/
def inX (c : Dev nD) (k : ℕ) : sProp 𝕄 :=
  iprop(crd c (33 + k) ∗ at0 c (33 + k) ∗ if 6 ≤ k then iprop(give (pz c) (quar c 1) k (57 + k) ∗ tok c (55 + k) ∗ tok (pz c) (57 + k)) else iprop(emp))
def outX (c : Dev nD) (k : ℕ) : sProp 𝕄 := iprop(at1 c (33 + k) ∗ if 6 ≤ k then crd c (55 + k) else iprop(emp))
/-- and chunk `k` of the z neighbour's quarter on to the x neighbour, the two before. -/
def inZ (c : Dev nD) (k : ℕ) : sProp 𝕄 :=
  iprop(crd c (49 + k) ∗ at0 c (49 + k) ∗ if 4 ≤ k ∧ k < 6 then iprop(give (px c) (quar c 2) k (55 + k) ∗ tok c (53 + k) ∗ tok (px c) (55 + k)) else iprop(emp))
def outZ (c : Dev nD) (k : ℕ) : sProp 𝕄 := iprop(at1 c (49 + k) ∗ if 4 ≤ k ∧ k < 6 then crd c (53 + k) else iprop(emp))
/-- What is owed between the two. -/
def lX' (c : Dev nD) (k : ℕ) : Debt := if 6 ≤ k then lXZ c (k + 1) else lXZ c k

theorem lXZ_hi (c : Dev nD) {k : ℕ} (h6 : 6 ≤ k) (h : k < 8) : lXZ c k = (cellN (pz c) (57 + k), NN) :: lXZ c (k + 1) :=
  (debts_step (dXZ c) h []).trans (by unfold dXZ lXZ; rw [if_pos h6]; rfl)
theorem lXZ_mid (c : Dev nD) {k : ℕ} (h4 : 4 ≤ k ∧ k < 6) : lXZ c k = (cellN (px c) (55 + k), NN) :: lXZ c (k + 1) :=
  (debts_step (dXZ c) (by omega) []).trans (by unfold dXZ lXZ; rw [if_neg (by omega), if_pos h4.1]; rfl)
theorem lXZ_lo (c : Dev nD) {k : ℕ} (h : k < 4) : lXZ c k = lXZ c (k + 1) :=
  (debts_step (dXZ c) (by omega) []).trans (by unfold dXZ lXZ; rw [if_neg (by omega), if_neg (by omega)]; rfl)
theorem lX'_lv (c : Dev nD) (k : ℕ) : ∀ p ∈ lX' c k, p.1.1.2 = .tc ∧ 3 < lvS p.1.2 := by
  unfold lX'; split
  · exact lXZ_lv c _
  · exact lXZ_lv c _

theorem rcvX_step {c : Dev nD} {k : ℕ} (hk : k < 8) {Kt : P F} {Q : PUnit → sProp 𝕄} :
    iprop(known V K c ∗ owe c (lXZ c k) ∗ inX c k)
      ⊢ iprop((ovHas V c (8 + 2 * k) ∗ owe c (lX' c k) ∗ outX c k -∗ WP c Kt Q) -∗ WP c (rcvX (canon c) k Kt) Q) := by
  have hl : Ok (.dma (dsem (33 + k))) (lXZ c k) := ok_of (c := c) (lXZ_lv c k) (by omega) (by
    unfold lvN; rw [if_neg (by omega), if_neg (by omega), if_neg (by omega), if_pos (by omega)])
  rw [ovHas_X V c hk]
  unfold inX outX rcvX lX'
  by_cases h6 : 6 ≤ k
  · obtain ⟨j, rfl⟩ : ∃ j, k = 6 + j := ⟨k - 6, by omega⟩
    have hj : j < 2 := by omega
    have hz := pay_czr V (pz c) hj
    rw [quar_pz3, ← px_pz, pz_pz] at hz
    have hz : payN V (pz c) (57 + (6 + j)) = ovPt (pz c) fullShare (quar c 1) (f8 (6 + j)) (HB V (py (px c))) := by
      rw [← hz, show 57 + (6 + j) = 63 + j by omega]
    have hs : payN V c (55 + (6 + j)) = ovPt c sL (quar c 1) (f8 (6 + j)) (HB V (py (px c))) := by
      rw [← pay_czs V c hj, show 55 + (6 + j) = 61 + j by omega]
    simp only [if_pos h6]
    iintro ⟨#HK, HO, Hc, Ha, Hg, Ht, Ht'⟩ Hk
    iapply (rcv_step V K (pay_ar V c hk) (sem_ar hk) ⟨by omega, by omega⟩ hl) $$ [Hc Ha HO]
    · isplitr; · iexact HK
      isplitl [Hc]; · iexact Hc
      isplitl [Ha]; · iexact Ha
      iexact HO
    iintro ⟨Hp, Ha, HO⟩
    ihave Hp := (share_split c fullShare (quar c 1) (f8 (6 + j)) (HB V (py (px c)))).1 $$ Hp
    icases Hp with ⟨HpL, HpR⟩
    ihave HO := (Entails.of_eq (congrArg (owe (F := F) c) (lXZ_hi c h6 hk))) $$ HO
    iapply (fwd_step V K (c := c) (c' := pz c) (r := 1) (k := 6 + j) hs hz
      ((sem_czs hj).trans (congrArg dsem (by omega))) ((sem_czr hj).trans (congrArg dsem (by omega))) ⟨by omega, by omega⟩ ⟨by omega, by omega⟩) $$ [HpL Hg Ht Ht' HO]
    · isplitr; · iexact HK
      isplitl [HpL]; · iexact HpL
      isplitl [Hg]; · iexact Hg
      isplitl [Ht]; · iexact Ht
      isplitl [Ht']; · iexact Ht'
      iexact HO
    iintro ⟨Hc, HO⟩
    iapply Hk
    isplitl [HpR]; · iexact HpR
    isplitl [HO]; · iexact HO
    isplitl [Ha]; · iexact Ha
    iexact Hc
  · simp only [if_neg h6]
    iintro ⟨#HK, HO, Hc, Ha, -⟩ Hk
    iapply (rcv_step V K (pay_ar V c hk) (sem_ar hk) ⟨by omega, by omega⟩ hl) $$ [Hc Ha HO]
    · isplitr; · iexact HK
      isplitl [Hc]; · iexact Hc
      isplitl [Ha]; · iexact Ha
      iexact HO
    iintro ⟨Hp, Ha, HO⟩
    iapply Hk
    isplitl [Hp]; · iexact Hp
    isplitl [HO]; · iexact HO
    isplitl [Ha]; · iexact Ha
    iempintro

theorem rcvZ_step {c : Dev nD} {k : ℕ} (hk : k < 8) {Kt : P F} {Q : PUnit → sProp 𝕄} :
    iprop(known V K c ∗ owe c (lX' c k) ∗ inZ c k)
      ⊢ iprop((ovHas V c (9 + 2 * k) ∗ owe c (lXZ c (k + 1)) ∗ outZ c k -∗ WP c Kt Q) -∗ WP c (rcvZ (canon c) k Kt) Q) := by
  have hl : Ok (.dma (dsem (49 + k))) (lX' c k) := ok_of (c := c) (lX'_lv c k) (by omega) (by
    unfold lvN; iterate 5 rw [if_neg (by omega)]
    rw [if_pos (by omega)])
  rw [ovHas_Z V c hk]
  unfold inZ outZ rcvZ
  by_cases h4 : 4 ≤ k ∧ k < 6
  · have hd : lX' c k = (cellN (px c) (55 + k), NN) :: lXZ c (k + 1) := by unfold lX'; rw [if_neg (by omega), lXZ_mid c h4]
    obtain ⟨j, rfl⟩ : ∃ j, k = 4 + j := ⟨k - 4, by omega⟩
    have hj : j < 2 := by omega
    have hz := pay_cxr V (px c) hj
    rw [quar_px3, px_px] at hz
    have hz : payN V (px c) (55 + (4 + j)) = ovPt (px c) fullShare (quar c 2) (f8 (4 + j)) (HB V (py (pz c))) := by
      rw [← hz, show 55 + (4 + j) = 59 + j by omega]
    have hs : payN V c (53 + (4 + j)) = ovPt c sL (quar c 2) (f8 (4 + j)) (HB V (py (pz c))) := by
      rw [← pay_cxs V c hj, show 53 + (4 + j) = 57 + j by omega]
    simp only [if_pos h4]
    iintro ⟨#HK, HO, Hc, Ha, Hg, Ht, Ht'⟩ Hk
    iapply (rcv_step V K (pay_br V c hk) (sem_br hk) ⟨by omega, by omega⟩ hl) $$ [Hc Ha HO]
    · isplitr; · iexact HK
      isplitl [Hc]; · iexact Hc
      isplitl [Ha]; · iexact Ha
      iexact HO
    iintro ⟨Hp, Ha, HO⟩
    ihave Hp := (share_split c fullShare (quar c 2) (f8 (4 + j)) (HB V (py (pz c)))).1 $$ Hp
    icases Hp with ⟨HpL, HpR⟩
    ihave HO := (Entails.of_eq (congrArg (owe (F := F) c) hd)) $$ HO
    iapply (fwd_step V K (c := c) (c' := px c) (r := 2) (k := 4 + j) hs hz
      ((sem_cxs hj).trans (congrArg dsem (by omega))) ((sem_cxr hj).trans (congrArg dsem (by omega))) ⟨by omega, by omega⟩ ⟨by omega, by omega⟩) $$ [HpL Hg Ht Ht' HO]
    · isplitr; · iexact HK
      isplitl [HpL]; · iexact HpL
      isplitl [Hg]; · iexact Hg
      isplitl [Ht]; · iexact Ht
      isplitl [Ht']; · iexact Ht'
      iexact HO
    iintro ⟨Hc, HO⟩
    iapply Hk
    isplitl [HpR]; · iexact HpR
    isplitl [HO]; · iexact HO
    isplitl [Ha]; · iexact Ha
    iexact Hc
  · have hd : lX' c k = lXZ c (k + 1) := by
      unfold lX'; split
      · rfl
      · exact lXZ_lo c (by omega)
    rw [← hd]
    simp only [if_neg h4]
    iintro ⟨#HK, HO, Hc, Ha, -⟩ Hk
    iapply (rcv_step V K (pay_br V c hk) (sem_br hk) ⟨by omega, by omega⟩ hl) $$ [Hc Ha HO]
    · isplitr; · iexact HK
      isplitl [Hc]; · iexact Hc
      isplitl [Ha]; · iexact Ha
      iexact HO
    iintro ⟨Hp, Ha, HO⟩
    iapply Hk
    isplitl [Hp]; · iexact Hp
    isplitl [HO]; · iexact HO
    isplitl [Ha]; · iexact Ha
    iempintro

theorem stepXZ_step {c : Dev nD} {k : ℕ} (hk : k < 8) {Kt : P F} {Q : PUnit → sProp 𝕄} :
    iprop(known V K c ∗ (pipe V X c (7 + 2 * k) ∗ owe c (lXZ c k)) ∗ (inX c k ∗ inZ c k))
      ⊢ iprop(((pipe V X c (7 + 2 * (k + 1)) ∗ owe c (lXZ c (k + 1))) ∗ (outX c k ∗ outZ c k) -∗ WP c Kt Q) -∗ WP c (stepXZ (canon c) k Kt) Q) := by
  have hX : Quiet (lX' c k) := fun p hp => ⟨(lX'_lv c k p hp).1, by have := (lX'_lv c k p hp).2; omega⟩
  have e1 : 8 + 2 * k = (7 + 2 * k) + 1 := by omega
  have e2 : 9 + 2 * k = ((7 + 2 * k) + 1) + 1 := by omega
  have e3 : 7 + 2 * (k + 1) = ((7 + 2 * k) + 1) + 1 := by omega
  have hx := rcvX_step V K (c := c) hk (Kt := stage (canon c) (8 + 2 * k) (flush (canon c) (7 + 2 * k) (rcvZ (canon c) k (stage (canon c) (9 + 2 * k) (flush (canon c) (8 + 2 * k) Kt))))) (Q := Q)
  have hz := rcvZ_step V K (c := c) hk (Kt := stage (canon c) (9 + 2 * k) (flush (canon c) (8 + 2 * k) Kt)) (Q := Q)
  unfold stepXZ
  rw [e2, e1] at hz
  rw [e2, e1] at hx
  rw [e2, e1, e3]
  iintro ⟨#HK, ⟨HP, HO⟩, Hi, Hi'⟩ Hk
  iapply hx $$ [HO Hi]
  · isplitr; · iexact HK
    isplitl [HO]; · iexact HO
    iexact Hi
  iintro ⟨Ho, HO, Hx⟩
  iapply (pipe_step V K X (by omega) hX) $$ [HP Ho HO]
  · isplitr; · iexact HK
    isplitl [HP]; · iexact HP
    isplitl [Ho]; · iexact Ho
    iexact HO
  iintro ⟨HP, HO⟩
  iapply hz $$ [HO Hi']
  · isplitr; · iexact HK
    isplitl [HO]; · iexact HO
    iexact Hi'
  iintro ⟨Ho, HO, Hx'⟩
  iapply (pipe_step V K X (by omega) (quiet_lXZ c _)) $$ [HP Ho HO]
  · isplitr; · iexact HK
    isplitl [HP]; · iexact HP
    isplitl [Ho]; · iexact Ho
    iexact HO
  iintro ⟨HP, HO⟩
  iapply Hk
  isplitl [HP HO]
  · isplitl [HP]; · iexact HP
    iexact HO
  isplitl [Hx]; · iexact Hx
  iexact Hx'

/-! ## The diagonal's quarter -/

/-- The cell by which chunk `k` of the diagonal's quarter comes. -/
def nD' (k : ℕ) : ℕ := if k < 4 then 21 + k else if k < 6 then 55 + k else 57 + k
def inD (c : Dev nD) (k : ℕ) : sProp 𝕄 := iprop(crd c (nD' k) ∗ at0 c (nD' k))
def outD (c : Dev nD) (k : ℕ) : sProp 𝕄 := at1 c (nD' k)

theorem ok_nil (sm : SemLoc sig) : Ok sm [] := fun p hp => absurd hp List.not_mem_nil
theorem quiet_nil : Quiet [] := fun p hp => absurd hp List.not_mem_nil

theorem rcvD_step {c : Dev nD} {k : ℕ} (hk : k < 8) {Kt : P F} {Q : PUnit → sProp 𝕄} :
    iprop(known V K c ∗ owe c [] ∗ inD c k)
      ⊢ iprop((ovHas V c (24 + k) ∗ owe c [] ∗ outD c k -∗ WP c Kt Q) -∗ WP c (rcvD (canon c) k Kt) Q) := by
  rw [ovHas_D V c k hk]
  unfold inD outD rcvD nD'
  by_cases h4 : k < 4
  · simp only [if_pos h4]
    iintro ⟨#HK, HO, Hc, Ha⟩ Hk
    iapply (wait_step V K (v := qdChunk (f4 k)) (w := ovQ (quar c 3) (f8 k)) (hsrc := qd_we (f4 k)) (hdst := ovC_we (canon c) 3 (f8 k)) (pay_qr V c h4)
      ((sem_yr (k := 8 + k) (by omega)).trans (congrArg dsem (by omega))) ⟨by omega, by omega⟩ rfl (ok_nil _)) $$ [Hc Ha HO]
    · isplitr; · iexact HK
      isplitl [Hc]; · iexact Hc
      isplitl [Ha]; · iexact Ha
      iexact HO
    iintro ⟨Hp, Ha, HO⟩
    iapply Hk
    isplitl [Hp]; · iexact Hp
    isplitl [HO]; · iexact HO
    iexact Ha
  · simp only [if_neg h4]
    by_cases h6 : k < 6
    · obtain ⟨j, rfl⟩ : ∃ j, k = 4 + j := ⟨k - 4, by omega⟩
      have hj : j < 2 := by omega
      have hp : payN V c (55 + (4 + j)) = ovPt c fullShare (quar c 3) (f8 (4 + j)) (HB V (py (pz (px c)))) := by
        rw [← pay_cxr V c hj, show 55 + (4 + j) = 59 + j by omega]
      simp only [if_pos h6]
      iintro ⟨#HK, HO, Hc, Ha⟩ Hk
      iapply (rcv_step V K hp ((sem_cxr hj).trans (congrArg dsem (by omega))) ⟨by omega, by omega⟩ (ok_nil _)) $$ [Hc Ha HO]
      · isplitr; · iexact HK
        isplitl [Hc]; · iexact Hc
        isplitl [Ha]; · iexact Ha
        iexact HO
      iintro ⟨Hp, Ha, HO⟩
      iapply Hk
      isplitl [Hp]; · iexact Hp
      isplitl [HO]; · iexact HO
      iexact Ha
    · obtain ⟨j, rfl⟩ : ∃ j, k = 6 + j := ⟨k - 6, by omega⟩
      have hj : j < 2 := by omega
      have hp : payN V c (57 + (6 + j)) = ovPt c fullShare (quar c 3) (f8 (6 + j)) (HB V (py (pz (px c)))) := by
        rw [← pay_czr V c hj, show 57 + (6 + j) = 63 + j by omega]
      simp only [if_neg h6]
      iintro ⟨#HK, HO, Hc, Ha⟩ Hk
      iapply (rcv_step V K hp ((sem_czr hj).trans (congrArg dsem (by omega))) ⟨by omega, by omega⟩ (ok_nil _)) $$ [Hc Ha HO]
      · isplitr; · iexact HK
        isplitl [Hc]; · iexact Hc
        isplitl [Ha]; · iexact Ha
        iexact HO
      iintro ⟨Hp, Ha, HO⟩
      iapply Hk
      isplitl [Hp]; · iexact Hp
      isplitl [HO]; · iexact HO
      iexact Ha

theorem stepD_step {c : Dev nD} {k : ℕ} (hk : k < 8) {Kt : P F} {Q : PUnit → sProp 𝕄} :
    iprop(known V K c ∗ (pipe V X c (23 + k) ∗ owe c []) ∗ inD c k)
      ⊢ iprop(((pipe V X c (23 + (k + 1)) ∗ owe c []) ∗ outD c k -∗ WP c Kt Q) -∗ WP c (stepD (canon c) k Kt) Q) := by
  have e1 : 24 + k = (23 + k) + 1 := by omega
  have h := rcvD_step V K (c := c) hk (Kt := stage (canon c) (24 + k) (flush (canon c) (23 + k) Kt)) (Q := Q)
  unfold stepD
  rw [e1] at h
  rw [e1, ← Nat.add_assoc]
  iintro ⟨#HK, ⟨HP, HO⟩, Hi⟩ Hk
  iapply h $$ [HO Hi]
  · isplitr; · iexact HK
    isplitl [HO]; · iexact HO
    iexact Hi
  iintro ⟨Ho, HO, Hx⟩
  iapply (pipe_step V K X (by omega) quiet_nil) $$ [HP Ho HO]
  · isplitr; · iexact HK
    isplitl [HP]; · iexact HP
    isplitl [Ho]; · iexact Ho
    iexact HO
  iintro ⟨HP, HO⟩
  iapply Hk
  isplitr [Hx]
  · isplitl [HP]; · iexact HP
    iexact HO
  iexact Hx

end Cert.KernelIdeal.Body
-- ==== Proof.KernelIdeal.Ends.lean ====
module

public import proofs.«01_k».proof.Proof.KernelIdeal.PhaseM

@[expose] public section

set_option maxRecDepth 16384

noncomputable section

/-! The barrier before, the waits for what was sent after, and the whole body. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F)) (K : GSem nD τ sig → ℕ)

/-- A run from `a` to `b`. -/
abbrev run (a b : ℕ) (A : ℕ → sProp 𝕄) : sProp 𝕄 := bigSep (Finset.Ico a b) A

theorem run_congr {a b : ℕ} {A B : ℕ → sProp 𝕄} (h : ∀ n, a ≤ n → n < b → A n = B n) : run a b A = run a b B :=
  bigSep_congr fun n hn => h n (Finset.mem_Ico.mp hn).1 (Finset.mem_Ico.mp hn).2
theorem run_emp (a b : ℕ) : run a b (fun _ => (iprop(emp) : sProp 𝕄)) = iprop(emp) := bigSep_emp_const _

/-- A run whose last terms only count. -/
theorem run_hi {a b c : ℕ} (h1 : a ≤ b) (h2 : b ≤ c) (A : ℕ → sProp 𝕄) :
    run b c A ⊢ run a c (fun n => if b ≤ n then A n else iprop(emp)) := by
  have e1 : run a b (fun n => if b ≤ n then A n else iprop(emp)) = iprop(emp) :=
    (run_congr fun n _ hn => if_neg (by omega)).trans (run_emp a b)
  have e2 : run b c (fun n => if b ≤ n then A n else iprop(emp)) = run b c A := run_congr fun n hn _ => if_pos hn
  unfold run at *
  rw [run_cut h1 h2, e1, e2]
  iintro H
  isplitr; · iempintro
  iexact H
theorem run_hi' {a b c : ℕ} (h1 : a ≤ b) (h2 : b ≤ c) (A : ℕ → sProp 𝕄) :
    run a c (fun n => if b ≤ n then A n else iprop(emp)) ⊢ run b c A := by
  have e2 : run b c (fun n => if b ≤ n then A n else iprop(emp)) = run b c A := run_congr fun n hn _ => if_pos hn
  unfold run at *
  rw [run_cut h1 h2, e2]
  iintro ⟨-, H⟩
  iexact H
/-- A run whose middle terms only count. -/
theorem run_mid {a b c d : ℕ} (h1 : a ≤ b) (h2 : b ≤ c) (h3 : c ≤ d) (A : ℕ → sProp 𝕄) :
    run b c A ⊢ run a d (fun n => if b ≤ n ∧ n < c then A n else iprop(emp)) := by
  have e1 : run a b (fun n => if b ≤ n ∧ n < c then A n else iprop(emp)) = iprop(emp) :=
    (run_congr fun n _ hn => if_neg (by omega)).trans (run_emp a b)
  have e2 : run b c (fun n => if b ≤ n ∧ n < c then A n else iprop(emp)) = run b c A := run_congr fun n hn hn' => if_pos ⟨hn, hn'⟩
  have e3 : run c d (fun n => if b ≤ n ∧ n < c then A n else iprop(emp)) = iprop(emp) :=
    (run_congr fun n hn _ => if_neg (by omega)).trans (run_emp c d)
  unfold run at *
  rw [run_cut h1 (h2.trans h3), run_cut h2 h3, e1, e2, e3]
  iintro H
  isplitr; · iempintro
  isplitl [H]; · iexact H
  iempintro
theorem run_mid' {a b c d : ℕ} (h1 : a ≤ b) (h2 : b ≤ c) (h3 : c ≤ d) (A : ℕ → sProp 𝕄) :
    run a d (fun n => if b ≤ n ∧ n < c then A n else iprop(emp)) ⊢ run b c A := by
  have e2 : run b c (fun n => if b ≤ n ∧ n < c then A n else iprop(emp)) = run b c A := run_congr fun n hn hn' => if_pos ⟨hn, hn'⟩
  unfold run at *
  rw [run_cut h1 (h2.trans h3), run_cut h2 h3, e2]
  iintro ⟨-, H, -⟩
  iexact H

/-! ## The barrier -/

/-- The barrier's amounts as plain numbers. -/
theorem hello_eq (c : Dev nD) (Kt : P F) : hello (canon c) Kt =
    .op (.semSignal (Dev.tc (py c)) bar ((1 : ℕ) : ℤ)) fun _ => .op (.semSignal (Dev.tc (px c)) bar ((1 : ℕ) : ℤ)) fun _ =>
    .op (.semSignal (Dev.tc (pz c)) bar ((1 : ℕ) : ℤ)) fun _ => .op (.semWait bar ((3 : ℕ) : ℤ)) fun _ => Kt := rfl

/-- The chunks of one quarter of the device's receive buffer. -/
abbrev rawR (c : Dev nD) (r : Fin 4) (k : ℕ) : sProp 𝕄 := raw c (quar c r) (f8 k)

theorem give_of (c : Dev nD) (q : Fin 4) {k s : ℕ} (h1 : 1 ≤ s) (h2 : s < 65) : iprop(known V K c ∗ raw c q (f8 k)) ⊢ give c q k s := by
  unfold give
  iintro ⟨#HK, H⟩
  isplitl [H]; · iexact H
  iapply (known_open V K c h1 h2); iexact HK

theorem give_run (c : Dev nD) (q : Fin 4) {a b s : ℕ} (h1 : 1 ≤ s + a) (h2 : s + b ≤ 65) :
    iprop(known V K c ∗ run a b (fun k => raw c q (f8 k))) ⊢ run a b (fun k => give c q k (s + k)) :=
  bigSep_with_persistent (R := known V K c) fun k hk => by
    have := Finset.mem_Ico.mp hk
    exact give_of V K c q (by omega) (by omega)

theorem barPay_py (c : Dev nD) : (barPay (py c) 0 : sProp 𝕄) = iprop(run 0 8 (fun k => give c (quar c 0) k (13 + k)) ∗ run 0 4 (fun k => give c (quar c 3) k (21 + k))) := by
  unfold barPay
  simp only [py_py, quar_py, Finset.range_eq_Ico]
theorem shift (A : ℕ → ℕ → sProp 𝕄) (a m s : ℕ) : bigSep (Finset.Ico 0 m) (fun k => A (a + k) (s + a + k)) = run a (a + m) (fun k => A k (s + k)) := by
  have h := run_from (fun k => A k (s + k)) a 0 m
  rw [Nat.add_zero] at h
  unfold run
  rw [h]
  exact bigSep_congr fun k _ => by rw [Nat.add_assoc]
theorem barPay_px (c : Dev nD) : (barPay (px c) 1 : sProp 𝕄) = iprop(run 0 8 (fun k => give c (quar c 1) k (33 + k)) ∗ run 4 6 (fun k => give c (quar c 3) k (55 + k))) := by
  unfold barPay
  simp only [px_px, quar_px0, quar_px2, Finset.range_eq_Ico]
  exact congrArg (fun x => iprop(run 0 8 (fun k => give c (quar c 1) k (33 + k)) ∗ x)) (shift (fun k s => give c (quar c 3) k s) 4 2 55)
theorem barPay_pz (c : Dev nD) : (barPay (pz c) 2 : sProp 𝕄) = iprop(run 0 8 (fun k => give c (quar c 2) k (49 + k)) ∗ run 6 8 (fun k => give c (quar c 3) k (57 + k))) := by
  unfold barPay
  simp only [pz_pz, quar_pz0, quar_pz1, Finset.range_eq_Ico]
  exact congrArg (fun x => iprop(run 0 8 (fun k => give c (quar c 2) k (49 + k)) ∗ x)) (shift (fun k s => give c (quar c 3) k s) 6 2 57)
theorem barPay_0 (c : Dev nD) : (barPay c 0 : sProp 𝕄) = iprop(run 0 8 (fun k => give (py c) (quar c 0) k (13 + k)) ∗ run 0 4 (fun k => give (py c) (quar c 3) k (21 + k))) := by
  unfold barPay
  simp only [Finset.range_eq_Ico]
theorem barPay_1 (c : Dev nD) : (barPay c 1 : sProp 𝕄) = iprop(run 0 8 (fun k => give (px c) (quar c 0) k (33 + k)) ∗ run 4 6 (fun k => give (px c) (quar c 2) k (55 + k))) := by
  unfold barPay
  simp only [Finset.range_eq_Ico]
  exact congrArg (fun x => iprop(run 0 8 (fun k => give (px c) (quar c 0) k (33 + k)) ∗ x)) (shift (fun k s => give (px c) (quar c 2) k s) 4 2 55)
theorem barPay_2 (c : Dev nD) : (barPay c 2 : sProp 𝕄) = iprop(run 0 8 (fun k => give (pz c) (quar c 0) k (49 + k)) ∗ run 6 8 (fun k => give (pz c) (quar c 1) k (57 + k))) := by
  unfold barPay
  simp only [Finset.range_eq_Ico]
  exact congrArg (fun x => iprop(run 0 8 (fun k => give (pz c) (quar c 0) k (49 + k)) ∗ x)) (shift (fun k s => give (pz c) (quar c 1) k s) 6 2 57)

/-- What the barrier takes of the device beside its chunks. -/
def inBar (c : Dev nD) : sProp 𝕄 :=
  iprop(reached ER (barCell (py c)) 0 ∗ reached ER (barCell (px c)) 0 ∗ reached ER (barCell (pz c)) 0
    ∗ dutyTok ER (barCell (py c)) 0 (0 : Fin 3) ∗ dutyTok ER (barCell (px c)) 0 (1 : Fin 3) ∗ dutyTok ER (barCell (pz c)) 0 (2 : Fin 3)
    ∗ atPos ER (barCell c) 0 ∅ 0 ∗ cred (tallyAt (barCell c) () 3))

theorem hello_step {c : Dev nD} {Kt : P F} {Q : PUnit → sProp 𝕄} :
    iprop(known V K c ∗ inBar c ∗ run 0 8 (rawR c 0) ∗ run 0 8 (rawR c 1) ∗ run 0 8 (rawR c 2) ∗ run 0 8 (rawR c 3) ∗ owe c (lAll c))
      ⊢ iprop((atPos ER (barCell c) 1 ∅ 0 ∗ barPay c 0 ∗ barPay c 1 ∗ barPay c 2 ∗ owe c (lY c 0) -∗ WP c Kt Q) -∗ WP c (hello (canon c) Kt) Q) := by
  rw [hello_eq]
  unfold inBar owe
  have hw : ∀ p ∈ lY c 0, p.1.1.2 = .tc ∧ 1 < lvS p.1.2 := lY_lv c 0
  rw [show run 0 8 (rawR (F := F) c 3) = iprop(run 0 4 (rawR c 3) ∗ run 4 6 (rawR c 3) ∗ run 6 8 (rawR c 3)) from by
    unfold run; rw [run_cut (by omega : 0 ≤ 4) (by omega : 4 ≤ 8), run_cut (by omega : 4 ≤ 6) (by omega : 6 ≤ 8)]]
  iintro ⟨#HK, ⟨#Hry, #Hrx, #Hrz, Hty, Htx, Htz, Hat, Hc⟩, H0, H1, H2, ⟨H3a, H3b, H3c⟩, ⟨%W, HO⟩⟩ Hk
  iapply (Rounds.wp_signal 𝒱₀ ER (Rd V) (c : Thread nD τ) none (dst := (py c : Thread nD τ)) (sem := bar) (r := 0) (d := (0 : Fin 3)) (k' := 1) (κ := K (barCell (py c)))
      (by rw [duties_bar]; exact Finset.mem_univ _) (amount_bar V (py c) 0) () (owed ((barCell (px c), 1) :: (barCell (pz c), 1) :: lY c 0)) rfl (W := W)) $$ [HO Hty H0 H3a]
  · isplitr; · iapply (known_bar V K c (py c)); iexact HK
    isplitl [HO]; · iexact HO
    isplitl [Hty]; · iexact Hty
    isplitl [H0 H3a]
    · rw [payload_bar, barPay_py]
      isplitl [H0]
      · iapply (give_run V K c (quar c 0) (by omega) (by omega)); isplitr; · iexact HK
        iexact H0
      · iapply (give_run V K c (quar c 3) (by omega) (by omega)); isplitr; · iexact HK
        iexact H3a
    iexact Hry
  iintro HO
  iapply (Rounds.wp_signal 𝒱₀ ER (Rd V) (c : Thread nD τ) none (dst := (px c : Thread nD τ)) (sem := bar) (r := 0) (d := (1 : Fin 3)) (k' := 1) (κ := K (barCell (px c)))
      (by rw [duties_bar]; exact Finset.mem_univ _) (amount_bar V (px c) 1) () (owed ((barCell (pz c), 1) :: lY c 0)) rfl (W := W)) $$ [HO Htx H1 H3b]
  · isplitr; · iapply (known_bar V K c (px c)); iexact HK
    isplitl [HO]; · iexact HO
    isplitl [Htx]; · iexact Htx
    isplitl [H1 H3b]
    · rw [payload_bar, barPay_px]
      isplitl [H1]
      · iapply (give_run V K c (quar c 1) (by omega) (by omega)); isplitr; · iexact HK
        iexact H1
      · iapply (give_run V K c (quar c 3) (by omega) (by omega)); isplitr; · iexact HK
        iexact H3b
    iexact Hrx
  iintro HO
  iapply (Rounds.wp_signal 𝒱₀ ER (Rd V) (c : Thread nD τ) none (dst := (pz c : Thread nD τ)) (sem := bar) (r := 0) (d := (2 : Fin 3)) (k' := 1) (κ := K (barCell (pz c)))
      (by rw [duties_bar]; exact Finset.mem_univ _) (amount_bar V (pz c) 2) () (owed (lY c 0)) rfl (W := W)) $$ [HO Htz H2 H3c]
  · isplitr; · iapply (known_bar V K c (pz c)); iexact HK
    isplitl [HO]; · iexact HO
    isplitl [Htz]; · iexact Htz
    isplitl [H2 H3c]
    · rw [payload_bar, barPay_pz]
      isplitl [H2]
      · iapply (give_run V K c (quar c 2) (by omega) (by omega)); isplitr; · iexact HK
        iexact H2
      · iapply (give_run V K c (quar c 3) (by omega) (by omega)); isplitr; · iexact HK
        iexact H3c
    iexact Hrz
  iintro HO
  iapply (Rounds.wp_wait_rest_token 𝒱₀ ER (Rd V) (c : Thread nD τ) none (κ := K (barCell c))
      (wpE_semWait_eq 𝒱₀ (c : Thread nD τ) none Set.univ) (Set.mem_univ _) () (O := owed (lY c 0)) (W := W) (R := 0) (m := 0) (T := ∅)
      ((Nat.zero_add 3).trans (expect_bar V c).symm)) $$ [Hc HO Hat]
  · isplitr; · iapply (known_bar V K c c); iexact HK
    isplitl [Hc]; · iexact Hc
    isplitl [HO]; · iexact HO
    isplitr
    · iapply (mayWait c (.reg bar) 1 (lY c 0) le_rfl hw)
      iapply (known_lev V K c); iexact HK
    iexact Hat
  iintro ⟨HO, Hat, -, Hpay⟩
  ihave Hpay := (Entails.of_eq (rest_bar V c)) $$ Hpay
  icases Hpay with ⟨Ha, Hb, Hz⟩
  iapply Hk
  isplitl [Hat]; · iexact Hat
  isplitl [Ha]; · iexact Ha
  isplitl [Hb]; · iexact Hb
  isplitl [Hz]; · iexact Hz
  iexists _; iexact HO

/-! ## The waits for what was sent -/

/-- What a wait for the `n`th cell takes. -/
def inE (c : Dev nD) (n : ℕ) : sProp 𝕄 := iprop(crd c n ∗ at0 c n)
/-- What it gives: the payment. -/
def outE (c : Dev nD) (n : ℕ) : sProp 𝕄 := iprop(payN V c n ∗ at1 c n)

theorem endY_step {c : Dev nD} {k : ℕ} (hk : k < 8) {Kt : P F} {Q : PUnit → sProp 𝕄} :
    iprop(known V K c ∗ owe c [] ∗ inE c (1 + k))
      ⊢ iprop((owe c [] ∗ outE V c (1 + k) -∗ WP c Kt Q) -∗ WP c (endY (canon c) k Kt) Q) := by
  unfold inE outE endY
  iintro ⟨#HK, HO, Hc, Ha⟩ Hk
  iapply (wait_step V K (v := ovQ (quar c 0) (f8 k)) (w := svSlot (f8 k)) (hsrc := ovC_we (canon c) 0 (f8 k)) (hdst := sv_we (f8 k)) rfl
    (sem_ys (by omega)) ⟨by omega, by omega⟩ rfl (ok_nil _)) $$ [Hc Ha HO]
  · isplitr; · iexact HK
    isplitl [Hc]; · iexact Hc
    isplitl [Ha]; · iexact Ha
    iexact HO
  iintro ⟨Hp, Ha, HO⟩
  iapply Hk
  isplitl [HO]; · iexact HO
  isplitl [Hp]; · iexact Hp
  iexact Ha
theorem endQ_step {c : Dev nD} {k : ℕ} (hk : k < 4) {Kt : P F} {Q : PUnit → sProp 𝕄} :
    iprop(known V K c ∗ owe c [] ∗ inE c (9 + k))
      ⊢ iprop((owe c [] ∗ outE V c (9 + k) -∗ WP c Kt Q) -∗ WP c (endQ (canon c) k Kt) Q) := by
  unfold inE outE endQ
  iintro ⟨#HK, HO, Hc, Ha⟩ Hk
  iapply (wait_step V K (v := ovQ (quar c 3) (f8 k)) (w := qdChunk (f4 k)) (hsrc := ovC_we (canon c) 3 (f8 k)) (hdst := qd_we (f4 k)) (n := 9 + k) rfl
    ((sem_ys (k := 8 + k) (by omega)).trans (congrArg dsem (by omega))) ⟨by omega, by omega⟩ rfl (ok_nil _)) $$ [Hc Ha HO]
  · isplitr; · iexact HK
    isplitl [Hc]; · iexact Hc
    isplitl [Ha]; · iexact Ha
    iexact HO
  iintro ⟨Hp, Ha, HO⟩
  iapply Hk
  isplitl [HO]; · iexact HO
  isplitl [Hp]; · iexact Hp
  iexact Ha

theorem rcvE_step {c : Dev nD} {r : Fin 4} {k : Fin 8} {sm : DmaSem sig} {n : ℕ} {Kt : P F} {Q : PUnit → sProp 𝕄} (hS : sm = dsem n) (hn : 1 ≤ n ∧ n < 65) :
    iprop(known V K c ∗ owe c [] ∗ inE c n)
      ⊢ iprop((owe c [] ∗ outE V c n -∗ WP c Kt Q) -∗ WP c (rcv (canon c) sm r k Kt) Q) := by
  unfold inE outE
  iintro ⟨#HK, HO, Hc, Ha⟩ Hk
  iapply (rcv_step V K (A := payN V c n) rfl hS hn (ok_nil _)) $$ [Hc Ha HO]
  · isplitr; · iexact HK
    isplitl [Hc]; · iexact Hc
    isplitl [Ha]; · iexact Ha
    iexact HO
  iintro ⟨Hp, Ha, HO⟩
  iapply Hk
  isplitl [HO]; · iexact HO
  isplitl [Hp]; · iexact Hp
  iexact Ha

theorem endAB_step {c : Dev nD} {k : ℕ} (hk : k < 8) {Kt : P F} {Q : PUnit → sProp 𝕄} :
    iprop(known V K c ∗ owe c [] ∗ (inE c (25 + k) ∗ inE c (41 + k)))
      ⊢ iprop((owe c [] ∗ (outE V c (25 + k) ∗ outE V c (41 + k)) -∗ WP c Kt Q) -∗ WP c (endAB (canon c) k Kt) Q) := by
  unfold endAB
  iintro ⟨#HK, HO, Hi, Hi'⟩ Hk
  iapply (rcvE_step V K (sem_as hk) ⟨by omega, by omega⟩) $$ [HO Hi]
  · isplitr; · iexact HK
    isplitl [HO]; · iexact HO
    iexact Hi
  iintro ⟨HO, Hx⟩
  iapply (rcvE_step V K (sem_bs hk) ⟨by omega, by omega⟩) $$ [HO Hi']
  · isplitr; · iexact HK
    isplitl [HO]; · iexact HO
    iexact Hi'
  iintro ⟨HO, Hx'⟩
  iapply Hk
  isplitl [HO]; · iexact HO
  isplitl [Hx]; · iexact Hx
  iexact Hx'
theorem endX_step {c : Dev nD} {k : ℕ} (h4 : 4 ≤ k) (hk : k < 6) {Kt : P F} {Q : PUnit → sProp 𝕄} :
    iprop(known V K c ∗ owe c [] ∗ inE c (53 + k))
      ⊢ iprop((owe c [] ∗ outE V c (53 + k) -∗ WP c Kt Q) -∗ WP c (endX (canon c) k Kt) Q) := by
  obtain ⟨j, rfl⟩ : ∃ j, k = 4 + j := ⟨k - 4, by omega⟩
  exact rcvE_step V K ((sem_cxs (by omega)).trans (congrArg dsem (by omega))) ⟨by omega, by omega⟩
theorem endZ_step {c : Dev nD} {k : ℕ} (h6 : 6 ≤ k) (hk : k < 8) {Kt : P F} {Q : PUnit → sProp 𝕄} :
    iprop(known V K c ∗ owe c [] ∗ inE c (55 + k))
      ⊢ iprop((owe c [] ∗ outE V c (55 + k) -∗ WP c Kt Q) -∗ WP c (endZ (canon c) k Kt) Q) := by
  obtain ⟨j, rfl⟩ : ∃ j, k = 6 + j := ⟨k - 6, by omega⟩
  exact rcvE_step V K ((sem_czs (by omega)).trans (congrArg dsem (by omega))) ⟨by omega, by omega⟩

end Cert.KernelIdeal.Body
-- ==== Proof.KernelIdeal.Phases.lean ====
module

public import proofs.«01_k».proof.Proof.KernelIdeal.Ends

@[expose] public section

set_option maxRecDepth 16384

noncomputable section

/-! The body, phase by phase. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F)) (K : GSem nD τ sig → ℕ) (X : S1x2048.Idx → Elt F .f32)

/-- The host's sums are the device's contribution's rows. -/
def HostRows (c : Dev nD) : Prop :=
  ∀ n, n < 4 → (qdChunk (f4 n)).view.read (Elt F) (V c main_v25) = (ovQ (quar c 3) (f8 n)).view.read (Elt F) (HB V c)

/-- The tokens of the exchange along y. -/
def toksY (c : Dev nD) : sProp 𝕄 :=
  iprop(run 0 8 (fun k => tok c (1 + k)) ∗ run 0 8 (fun k => tok (py c) (13 + k)) ∗ run 0 4 (fun k => tok c (9 + k)) ∗ run 0 4 (fun k => tok (py c) (21 + k)))

theorem phaseY {c : Dev nD} (hq : HostRows V c) {Kt : P F} {Q : PUnit → sProp 𝕄} :
    iprop(known V K c ∗ inBar c ∗ (run 0 8 (rawR c 0) ∗ run 0 8 (rawR c 1) ∗ run 0 8 (rawR c 2) ∗ run 0 8 (rawR c 3)) ∗ owe c (lAll c)
        ∗ run 0 8 (fun k => svRaw c (f8 k)) ∗ run 0 4 (fun k => qdPt V c (f4 k)) ∗ toksY c ∗ slabW V c ∗ resW V c ∗ ldFree c 0 ∗ ldFree c 1)
      ⊢ iprop((atPos ER (barCell c) 1 ∅ 0 ∗ barPay c 1 ∗ barPay c 2 ∗ slabW V c ∗ resW V c ∗ ldFree c 0 ∗ ldFree c 1
          ∗ run 0 8 (fun k => crd c (1 + k)) ∗ run 0 4 (fun k => crd c (9 + k)) ∗ owe c (lM c 0) -∗ WP c Kt Q)
        -∗ WP c (hello (canon c) (iter (yStep (canon c)) 8 0 (iter (qStep (canon c)) 4 0 Kt))) Q) := by
  have hY := loop V K (c := c) (f := yStep (canon c)) (I := fun n => stY V c (lY c n)) (R := inY c) (S := fun k => crd c (1 + k)) (Q := Q) 8 0
    (fun j _ h Kt => yStep_step V K (by omega)) (iter (qStep (canon c)) 4 0 Kt)
  have hQ := loop V K (c := c) (f := qStep (canon c)) (I := fun n => owe c (lQ c n)) (R := inQ V c) (S := fun k => crd c (9 + k)) (Q := Q) 4 0
    (fun j _ h Kt => qStep_step V K (by omega) (hq j (by omega))) Kt
  have jY : iprop(run 0 8 (fun k => svRaw (F := F) c (f8 k)) ∗ run 0 8 (fun k => give (py c) (quar c 0) k (13 + k)) ∗ run 0 8 (fun k => tok c (1 + k)) ∗ run 0 8 (fun k => tok (py c) (13 + k)))
      = bigSep (Finset.Ico 0 (0 + 8)) (inY (F := F) c) := by
    unfold inY; simp only [bigSep_sep']
  have jQ : iprop(run 0 4 (fun k => qdPt V c (f4 k)) ∗ run 0 4 (fun k => give (py c) (quar c 3) k (21 + k)) ∗ run 0 4 (fun k => tok c (9 + k)) ∗ run 0 4 (fun k => tok (py c) (21 + k)))
      = bigSep (Finset.Ico 0 (0 + 4)) (inQ V c) := by
    unfold inQ; simp only [bigSep_sep']
  have e1 : lY c (0 + 8) = lQ c 0 := debts_done (dY c) 8 (lQ c 0)
  have e2 : lQ c (0 + 4) = lM c 0 := debts_done (dQ c) 4 (lM c 0)
  rw [e2] at hQ
  rw [e1] at hY
  unfold toksY
  iintro ⟨#HK, Hbar, ⟨H0, H1, H2, H3⟩, HO, Hsv, Hqd, ⟨Ht1, Ht2, Ht3, Ht4⟩, Hsl, Hre, Hl0, Hl1⟩ Hk
  iapply (hello_step V K) $$ [Hbar H0 H1 H2 H3 HO]
  · isplitr; · iexact HK
    isplitl [Hbar]; · iexact Hbar
    isplitl [H0]; · iexact H0
    isplitl [H1]; · iexact H1
    isplitl [H2]; · iexact H2
    isplitl [H3]; · iexact H3
    iexact HO
  iintro ⟨Hat, Hp0, Hp1, Hp2, HO⟩
  ihave Hp0 := (Entails.of_eq (barPay_0 c)) $$ Hp0
  icases Hp0 with ⟨Hp0, Hp0'⟩
  iapply hY $$ [Hsl Hre Hl0 Hl1 HO Hsv Hp0 Ht1 Ht2]
  · isplitr; · iexact HK
    isplitl [Hsl Hre Hl0 Hl1 HO]
    · unfold stY
      isplitl [Hsl]; · iexact Hsl
      isplitl [Hre]; · iexact Hre
      isplitl [Hl0]; · iexact Hl0
      isplitl [Hl1]; · iexact Hl1
      iexact HO
    iapply (Entails.of_eq jY)
    isplitl [Hsv]; · iexact Hsv
    isplitl [Hp0]; · iexact Hp0
    isplitl [Ht1]; · iexact Ht1
    iexact Ht2
  unfold stY
  iintro ⟨⟨Hsl, Hre, Hl0, Hl1, HO⟩, Hc⟩
  iapply hQ $$ [HO Hqd Hp0' Ht3 Ht4]
  · isplitr; · iexact HK
    isplitl [HO]; · iexact HO
    iapply (Entails.of_eq jQ)
    isplitl [Hqd]; · iexact Hqd
    isplitl [Hp0']; · iexact Hp0'
    isplitl [Ht3]; · iexact Ht3
    iexact Ht4
  iintro ⟨HO, Hc'⟩
  iapply Hk
  isplitl [Hat]; · iexact Hat
  isplitl [Hp1]; · iexact Hp1
  isplitl [Hp2]; · iexact Hp2
  isplitl [Hsl]; · iexact Hsl
  isplitl [Hre]; · iexact Hre
  isplitl [Hl0]; · iexact Hl0
  isplitl [Hl1]; · iexact Hl1
  isplitl [Hc]; · iexact Hc
  isplitl [Hc']; · iexact Hc'
  iexact HO

theorem phaseM {c : Dev nD} {Kt : P F} {Q : PUnit → sProp 𝕄} :
    iprop(known V K c ∗ owe c (lM c 0) ∗ run 0 8 (inM c) ∗ run 0 32 (slabPt V c) ∗ ldFree c 0 ∗ ldFree c 1 ∗ wrFree c 0 ∗ wrFree c 1 ∗ gam c X ∗ run 0 32 (outR c))
      ⊢ iprop((pipe V X c 7 ∗ owe c (lXZ c 0) ∗ run 0 8 (outM c) -∗ WP c Kt Q)
        -∗ WP c (rcvM (canon c) 0 (stage (canon c) 0 (iter (stepM (canon c)) 7 1 Kt))) Q) := by
  have hL := loop V K (c := c) (f := stepM (canon c)) (I := fun n => iprop(pipe V X c (n - 1) ∗ owe c (lM c n))) (R := inM c) (S := outM c) (Q := Q) 7 1
    (fun j h1 h Kt => stepM_step V K X h1 (by omega)) Kt
  have e1 : lM c (1 + 7) = lXZ c 0 := debts_done (dM c) 8 (lXZ c 0)
  rw [e1] at hL
  have ei : run 0 8 (inM c) = iprop(inM (F := F) c 0 ∗ run 1 8 (inM c)) := bigSep_Ico_succ_bot (by omega) _
  have eo : run 0 8 (outM c) = iprop(outM (F := F) c 0 ∗ run 1 8 (outM c)) := bigSep_Ico_succ_bot (by omega) _
  have es : run 0 32 (slabPt V c) = iprop(slabPt V c 0 ∗ run 1 32 (slabPt V c)) := bigSep_Ico_succ_bot (by omega) _
  have ew0 : wrSt V X c 0 = wrFree c 0 := wrSt_lt V X (by omega)
  have ew1 : wrSt V X c (0 + 1) = wrFree c 1 := wrSt_lt V X (by omega)
  have ev : bigSep (Finset.range (0 + 1)) (ovHas V c) = ovHas V c 0 := by
    rw [show Finset.range (0 + 1) = {0} from rfl, bigSep_singleton]
  have eh : bigSep (Finset.range (0 - 2)) (outH V X c) = iprop(emp) := by
    rw [show Finset.range (0 - 2) = ∅ from rfl, bigSep_empty]; rfl
  have ep : iprop(ldSt V c 0 ∗ ldFree c 1 ∗ wrFree c 0 ∗ wrFree c 1 ∗ gam c X ∗ run 1 32 (slabPt V c) ∗ run 0 32 (outR c) ∗ ovHas V c 0) ⊢ pipe V X c (1 - 1) := by
    show _ ⊢ pipe V X c 0
    unfold pipe
    rw [ew0, ew1, ev, eh]
    iintro ⟨Hs, Hl, Hw, Hw', Hg, Hss, Hx, Ho⟩
    isplitl [Hs]; · iexact Hs
    isplitl [Hl]; · iexact Hl
    isplitl [Hw]; · iexact Hw
    isplitl [Hw']; · iexact Hw'
    isplitl [Hg]; · iexact Hg
    isplitl [Hss]; · iexact Hss
    isplitl [Hx]; · iexact Hx
    isplitr; · iempintro
    iexact Ho
  rw [ei, eo, es]
  iintro ⟨#HK, HO, ⟨Hi, His⟩, ⟨Hs, Hss⟩, Hl0, Hl1, Hw0, Hw1, Hg, Hx⟩ Hk
  iapply (rcvM_step V K (n := 0) (by omega)) $$ [HO Hi]
  · isplitr; · iexact HK
    isplitl [HO]; · iexact HO
    iexact Hi
  iintro ⟨Ho, HO, Hy⟩
  iapply (stage_step V (n := 0)) $$ [Hs Hl0]
  · isplitl [Hs]; · iexact Hs
    iexact Hl0
  iintro HF
  iapply hL $$ [HF Hl1 Hw0 Hw1 Hg Hss Hx Ho HO His]
  · isplitr; · iexact HK
    isplitr [His]
    · isplitr [HO]
      · iapply ep
        isplitl [HF]; · iexact HF
        isplitl [Hl1]; · iexact Hl1
        isplitl [Hw0]; · iexact Hw0
        isplitl [Hw1]; · iexact Hw1
        isplitl [Hg]; · iexact Hg
        isplitl [Hss]; · iexact Hss
        isplitl [Hx]; · iexact Hx
        iexact Ho
      iexact HO
    iexact His
  iintro ⟨⟨HP, HO⟩, Hys⟩
  iapply Hk
  isplitl [HP]; · iexact HP
  isplitl [HO]; · iexact HO
  isplitl [Hy]; · iexact Hy
  iexact Hys

theorem phaseXD {c : Dev nD} {Kt : P F} {Q : PUnit → sProp 𝕄} :
    iprop(known V K c ∗ pipe V X c 7 ∗ owe c (lXZ c 0) ∗ run 0 8 (inX c) ∗ run 0 8 (inZ c) ∗ run 0 8 (inD c))
      ⊢ iprop((pipe V X c 31 ∗ owe c [] ∗ run 0 8 (outX c) ∗ run 0 8 (outZ c) ∗ run 0 8 (outD c) -∗ WP c Kt Q)
        -∗ WP c (iter (stepXZ (canon c)) 8 0 (iter (stepD (canon c)) 8 0 Kt)) Q) := by
  have hX := loop V K (c := c) (f := stepXZ (canon c)) (I := fun k => iprop(pipe V X c (7 + 2 * k) ∗ owe c (lXZ c k)))
    (R := fun k => iprop(inX c k ∗ inZ c k)) (S := fun k => iprop(outX c k ∗ outZ c k)) (Q := Q) 8 0
    (fun j _ h Kt => stepXZ_step V K X (by omega)) (iter (stepD (canon c)) 8 0 Kt)
  have hD := loop V K (c := c) (f := stepD (canon c)) (I := fun k => iprop(pipe V X c (23 + k) ∗ owe c [])) (R := inD c) (S := outD c) (Q := Q) 8 0
    (fun j _ h Kt => stepD_step V K X (by omega)) Kt
  have e1 : lXZ c (0 + 8) = [] := debts_done (dXZ c) 8 []
  rw [e1] at hX
  simp only [bigSep_sep'] at hX
  iintro ⟨#HK, HP, HO, Hx, Hz, Hd⟩ Hk
  iapply hX $$ [HP HO Hx Hz]
  · isplitr; · iexact HK
    isplitl [HP HO]
    · isplitl [HP]; · iexact HP
      iexact HO
    isplitl [Hx]; · iexact Hx
    iexact Hz
  iintro ⟨⟨HP, HO⟩, Hx, Hz⟩
  iapply hD $$ [HP HO Hd]
  · isplitr; · iexact HK
    isplitl [HP HO]
    · isplitl [HP]; · iexact HP
      iexact HO
    iexact Hd
  iintro ⟨⟨HP, HO⟩, Hd⟩
  iapply Hk
  isplitl [HP]; · iexact HP
  isplitl [HO]; · iexact HO
  isplitl [Hx]; · iexact Hx
  isplitl [Hz]; · iexact Hz
  iexact Hd

theorem phaseE {c : Dev nD} {Kt : P F} {Q : PUnit → sProp 𝕄} :
    iprop(known V K c ∗ owe c [] ∗ run 0 8 (fun k => inE c (1 + k)) ∗ run 0 4 (fun k => inE c (9 + k)) ∗ run 0 8 (fun k => inE c (25 + k)) ∗ run 0 8 (fun k => inE c (41 + k))
        ∗ run 4 6 (fun k => inE c (53 + k)) ∗ run 6 8 (fun k => inE c (55 + k)))
      ⊢ iprop((owe c [] ∗ run 0 8 (fun k => outE V c (1 + k)) ∗ run 0 4 (fun k => outE V c (9 + k)) ∗ run 0 8 (fun k => outE V c (25 + k)) ∗ run 0 8 (fun k => outE V c (41 + k))
        ∗ run 4 6 (fun k => outE V c (53 + k)) ∗ run 6 8 (fun k => outE V c (55 + k)) -∗ WP c Kt Q)
        -∗ WP c (iter (endY (canon c)) 8 0 (iter (endQ (canon c)) 4 0 (iter (endAB (canon c)) 8 0 (iter (endX (canon c)) 2 4 (iter (endZ (canon c)) 2 6 Kt))))) Q) := by
  have hY := loop V K (c := c) (f := endY (canon c)) (I := fun _ => owe c []) (R := fun k => inE c (1 + k)) (S := fun k => outE V c (1 + k)) (Q := Q) 8 0
    (fun j _ h Kt => endY_step V K (by omega)) (iter (endQ (canon c)) 4 0 (iter (endAB (canon c)) 8 0 (iter (endX (canon c)) 2 4 (iter (endZ (canon c)) 2 6 Kt))))
  have hQ := loop V K (c := c) (f := endQ (canon c)) (I := fun _ => owe c []) (R := fun k => inE c (9 + k)) (S := fun k => outE V c (9 + k)) (Q := Q) 4 0
    (fun j _ h Kt => endQ_step V K (by omega)) (iter (endAB (canon c)) 8 0 (iter (endX (canon c)) 2 4 (iter (endZ (canon c)) 2 6 Kt)))
  have hA := loop V K (c := c) (f := endAB (canon c)) (I := fun _ => owe c []) (R := fun k => iprop(inE c (25 + k) ∗ inE c (41 + k)))
    (S := fun k => iprop(outE V c (25 + k) ∗ outE V c (41 + k))) (Q := Q) 8 0
    (fun j _ h Kt => endAB_step V K (by omega)) (iter (endX (canon c)) 2 4 (iter (endZ (canon c)) 2 6 Kt))
  have hX := loop V K (c := c) (f := endX (canon c)) (I := fun _ => owe c []) (R := fun k => inE c (53 + k)) (S := fun k => outE V c (53 + k)) (Q := Q) 2 4
    (fun j h1 h Kt => endX_step V K h1 (by omega)) (iter (endZ (canon c)) 2 6 Kt)
  have hZ := loop V K (c := c) (f := endZ (canon c)) (I := fun _ => owe c []) (R := fun k => inE c (55 + k)) (S := fun k => outE V c (55 + k)) (Q := Q) 2 6
    (fun j h1 h Kt => endZ_step V K h1 (by omega)) Kt
  simp only [bigSep_sep'] at hA
  iintro ⟨#HK, HO, H1, H2, H3, H4, H5, H6⟩ Hk
  iapply hY $$ [HO H1]
  · isplitr; · iexact HK
    isplitl [HO]; · iexact HO
    iexact H1
  iintro ⟨HO, H1⟩
  iapply hQ $$ [HO H2]
  · isplitr; · iexact HK
    isplitl [HO]; · iexact HO
    iexact H2
  iintro ⟨HO, H2⟩
  iapply hA $$ [HO H3 H4]
  · isplitr; · iexact HK
    isplitl [HO]; · iexact HO
    isplitl [H3]; · iexact H3
    iexact H4
  iintro ⟨HO, H3, H4⟩
  iapply hX $$ [HO H5]
  · isplitr; · iexact HK
    isplitl [HO]; · iexact HO
    iexact H5
  iintro ⟨HO, H5⟩
  iapply hZ $$ [HO H6]
  · isplitr; · iexact HK
    isplitl [HO]; · iexact HO
    iexact H6
  iintro ⟨HO, H6⟩
  iapply Hk
  isplitl [HO]; · iexact HO
  isplitl [H1]; · iexact H1
  isplitl [H2]; · iexact H2
  isplitl [H3]; · iexact H3
  isplitl [H4]; · iexact H4
  isplitl [H5]; · iexact H5
  iexact H6

end Cert.KernelIdeal.Body
-- ==== Proof.KernelIdeal.Chunks.lean ====
module

public import proofs.«01_k».proof.Proof.KernelIdeal.Phases

@[expose] public section

set_option maxRecDepth 16384

noncomputable section

/-! The body as a whole. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F)) (K : GSem nD τ sig → ℕ) (X : S1x2048.Idx → Elt F .f32)

theorem each {s : Finset ℕ} {A B : ℕ → sProp 𝕄} (h : ∀ n ∈ s, A n ⊢ B n) : bigSep s A ⊢ bigSep s B := bigSep_mono h

/-! ## The 32 chunks by quarters, the 64 cells by kinds -/

theorem run_two (A : ℕ → sProp 𝕄) (b : ℕ) : ∀ n : ℕ,
    run b (b + 2 * n) A ⊣⊢ iprop(run 0 n (fun k => A (b + 2 * k)) ∗ run 0 n (fun k => A (b + 1 + 2 * k)))
  | 0 => by
    unfold run
    rw [Nat.mul_zero, Nat.add_zero, run_nil, run_nil, run_nil]
    constructor
    · iintro -; isplitr <;> iempintro
    · iintro -; iempintro
  | n + 1 => by
    have ih := run_two A b n
    unfold run at *
    rw [show b + 2 * (n + 1) = (b + 2 * n + 1) + 1 by omega, bigSep_Ico_succ_top (a := b) (b := b + 2 * n + 1) (by omega) A,
      bigSep_Ico_succ_top (a := b) (b := b + 2 * n) (by omega) A, bigSep_Ico_succ_top (a := 0) (b := n) (by omega) (fun k => A (b + 2 * k)),
      bigSep_Ico_succ_top (a := 0) (b := n) (by omega) (fun k => A (b + 1 + 2 * k)), show b + 1 + 2 * n = b + 2 * n + 1 by omega]
    constructor
    · iintro ⟨Hb, Ha, H⟩
      ihave H := ih.1 $$ H
      icases H with ⟨H, H'⟩
      isplitl [H Ha]
      · isplitl [Ha]; · iexact Ha
        iexact H
      isplitl [Hb]; · iexact Hb
      iexact H'
    · iintro ⟨⟨Ha, H⟩, ⟨Hb, H'⟩⟩
      isplitl [Hb]; · iexact Hb
      isplitl [Ha]; · iexact Ha
      iapply ih.2
      isplitl [H]; · iexact H
      iexact H'

theorem quarters (A : ℕ → sProp 𝕄) : bigSep (Finset.range 32) A
    ⊣⊢ iprop(run 0 8 A ∗ run 0 8 (fun k => A (8 + 2 * k)) ∗ run 0 8 (fun k => A (9 + 2 * k)) ∗ run 0 8 (fun k => A (24 + k))) := by
  have h2 := run_two A 8 8
  have h3 : run 24 32 A = run 0 8 (fun k => A (24 + k)) := run_from A 24 0 8
  rw [Finset.range_eq_Ico, run_cut (by omega : 0 ≤ 8) (by omega : 8 ≤ 32), run_cut (by omega : 8 ≤ 24) (by omega : 24 ≤ 32)]
  constructor
  · iintro ⟨H1, H2, H3⟩
    ihave H2 := h2.1 $$ H2
    icases H2 with ⟨H2, H2'⟩
    isplitl [H1]; · iexact H1
    isplitl [H2]; · iexact H2
    isplitl [H2']; · iexact H2'
    iapply (Entails.of_eq h3); iexact H3
  · iintro ⟨H1, H2, H2', H3⟩
    isplitl [H1]; · iexact H1
    isplitl [H2 H2']
    · iapply h2.2
      isplitl [H2]; · iexact H2
      iexact H2'
    iapply (Entails.of_eq h3.symm); iexact H3

theorem cells (A : ℕ → sProp 𝕄) : run 1 65 A
    = iprop(run 0 8 (fun k => A (1 + k)) ∗ run 0 4 (fun k => A (9 + k)) ∗ run 0 8 (fun k => A (13 + k)) ∗ run 0 4 (fun k => A (21 + k))
      ∗ run 0 8 (fun k => A (25 + k)) ∗ run 0 8 (fun k => A (33 + k)) ∗ run 0 8 (fun k => A (41 + k)) ∗ run 0 8 (fun k => A (49 + k))
      ∗ run 4 6 (fun k => A (53 + k)) ∗ run 4 6 (fun k => A (55 + k)) ∗ run 6 8 (fun k => A (55 + k)) ∗ run 6 8 (fun k => A (57 + k))) := by
  unfold run
  rw [run_cut (by omega : 1 ≤ 9) (by omega : 9 ≤ 65), run_cut (by omega : 9 ≤ 13) (by omega : 13 ≤ 65), run_cut (by omega : 13 ≤ 21) (by omega : 21 ≤ 65),
    run_cut (by omega : 21 ≤ 25) (by omega : 25 ≤ 65), run_cut (by omega : 25 ≤ 33) (by omega : 33 ≤ 65), run_cut (by omega : 33 ≤ 41) (by omega : 41 ≤ 65),
    run_cut (by omega : 41 ≤ 49) (by omega : 49 ≤ 65), run_cut (by omega : 49 ≤ 57) (by omega : 57 ≤ 65), run_cut (by omega : 57 ≤ 59) (by omega : 59 ≤ 65),
    run_cut (by omega : 59 ≤ 61) (by omega : 61 ≤ 65), run_cut (by omega : 61 ≤ 63) (by omega : 63 ≤ 65),
    ← run_from A 1 0 8, ← run_from A 9 0 4, ← run_from A 13 0 8, ← run_from A 21 0 4, ← run_from A 25 0 8, ← run_from A 33 0 8, ← run_from A 41 0 8,
    ← run_from A 49 0 8, ← run_from A 53 4 6, ← run_from A 55 4 6, ← run_from A 55 6 8, ← run_from A 57 6 8]

theorem diag (A : ℕ → sProp 𝕄) : run 0 8 (fun k => A (nD' k))
    = iprop(run 0 4 (fun k => A (21 + k)) ∗ run 4 6 (fun k => A (55 + k)) ∗ run 6 8 (fun k => A (57 + k))) := by
  have e1 : run 0 4 (fun k => A (nD' k)) = run 0 4 (fun k => A (21 + k)) := run_congr fun k _ h => by unfold nD'; rw [if_pos h]
  have e2 : run 4 6 (fun k => A (nD' k)) = run 4 6 (fun k => A (55 + k)) := run_congr fun k h h' => by unfold nD'; rw [if_neg (by omega), if_pos h']
  have e3 : run 6 8 (fun k => A (nD' k)) = run 6 8 (fun k => A (57 + k)) := run_congr fun k h h' => by unfold nD'; rw [if_neg (by omega), if_neg (by omega)]
  unfold run at *
  rw [run_cut (by omega : 0 ≤ 4) (by omega : 4 ≤ 8), run_cut (by omega : 4 ≤ 6) (by omega : 6 ≤ 8), e1, e2, e3]

/-! ## The receive buffer back -/

/-- Chunk `n` of the receive buffer, at contents not chosen. -/
def rawN (c : Dev nD) (n : ℕ) : sProp 𝕄 := raw c (quar c (qOf n)) (kOf n)

theorem rawN_M (c : Dev nD) {n : ℕ} (h : n < 8) : (rawN c n : sProp 𝕄) = rawR c 0 n := by
  unfold rawN qOf kOf; simp only [if_pos h]
theorem rawN_X (c : Dev nD) {k : ℕ} (h : k < 8) : (rawN c (8 + 2 * k) : sProp 𝕄) = rawR c 1 k := by
  have hq : qOf (8 + 2 * k) = 1 := by unfold qOf; rw [if_neg (by omega), if_pos (by omega), if_pos (by omega)]
  have hk : kOf (8 + 2 * k) = f8 k := by unfold kOf; rw [if_neg (by omega), if_pos (by omega), Nat.add_sub_cancel_left, Nat.mul_div_cancel_left _ (by decide)]
  unfold rawN; rw [hq, hk]
theorem rawN_Z (c : Dev nD) {k : ℕ} (h : k < 8) : (rawN c (9 + 2 * k) : sProp 𝕄) = rawR c 2 k := by
  have hq : qOf (9 + 2 * k) = 2 := by unfold qOf; rw [if_neg (by omega), if_pos (by omega), if_neg (by omega)]
  have hk : kOf (9 + 2 * k) = f8 k := by unfold kOf; rw [if_neg (by omega), if_pos (by omega), show (9 + 2 * k - 8) / 2 = k by omega]
  unfold rawN; rw [hq, hk]
theorem rawN_D (c : Dev nD) (k : ℕ) : (rawN c (24 + k) : sProp 𝕄) = rawR c 3 k := by
  have hq : qOf (24 + k) = 3 := by unfold qOf; rw [if_neg (by omega), if_neg (by omega)]
  have hk : kOf (24 + k) = f8 k := by unfold kOf; rw [if_neg (by omega), if_neg (by omega), Nat.add_sub_cancel_left]
  unfold rawN; rw [hq, hk]

theorem raws_eq (c : Dev nD) : bigSep (Finset.range 32) (rawN c)
    ⊣⊢ (iprop(run 0 8 (rawR c 0) ∗ run 0 8 (rawR c 1) ∗ run 0 8 (rawR c 2) ∗ run 0 8 (rawR c 3)) : sProp 𝕄) := by
  have h := quarters (rawN (F := F) c)
  rw [run_congr (fun k _ h => rawN_M c h), run_congr (fun k _ h => rawN_X c h), run_congr (fun k _ h => rawN_Z c h), run_congr (fun k _ _ => rawN_D c k)] at h
  exact h

/-- The shares that come back from what was passed on. -/
def lentM (c : Dev nD) (k : ℕ) : sProp 𝕄 :=
  iprop(ovPt c sL (quar c 0) (f8 k) (HB V (py c)) ∗ ovPt c sR.left (quar c 0) (f8 k) (HB V (py c)))
def lentX (c : Dev nD) (k : ℕ) : sProp 𝕄 := ovPt c sL (quar c 1) (f8 k) (HB V (py (px c)))
def lentZ (c : Dev nD) (k : ℕ) : sProp 𝕄 := ovPt c sL (quar c 2) (f8 k) (HB V (py (pz c)))

theorem ov_back (c : Dev nD) :
    iprop(bigSep (Finset.range 32) (ovHas V c) ∗ run 0 8 (lentM V c) ∗ run 6 8 (lentX V c) ∗ run 4 6 (lentZ V c)) ⊢ bigSep (Finset.range 32) (rawN (F := F) c) := by
  have hM : iprop(run 0 8 (ovHas V c) ∗ run 0 8 (lentM V c)) ⊢ run 0 8 (rawR (F := F) c 0) := by
    unfold run
    rw [← bigSep_sep']
    refine each fun k hk => ?_
    rw [ovHas_M V c (Finset.mem_Ico.mp hk).2]
    unfold lentM rawR raw
    iintro ⟨H, Ha, Hb⟩
    iexists (HB V (py c))
    iapply (share_split c fullShare (quar c 0) (f8 k) (HB V (py c))).2
    isplitl [Ha]; · iexact Ha
    iapply (share_split c sR (quar c 0) (f8 k) (HB V (py c))).2
    isplitl [Hb]; · iexact Hb
    iexact H
  have hX : iprop(run 0 8 (fun k => ovHas V c (8 + 2 * k)) ∗ run 6 8 (lentX V c)) ⊢ run 0 8 (rawR (F := F) c 1) := by
    have h : iprop(run 0 8 (fun k => ovHas V c (8 + 2 * k)) ∗ run 0 8 (fun k => if 6 ≤ k then lentX V c k else iprop(emp))) ⊢ run 0 8 (rawR (F := F) c 1) := by
      unfold run
      rw [← bigSep_sep']
      refine each fun k hk => ?_
      rw [ovHas_X V c (Finset.mem_Ico.mp hk).2]
      unfold lentX rawR raw
      by_cases h6 : 6 ≤ k
      · rw [if_pos h6, if_pos h6]
        iintro ⟨H, Ha⟩
        iexists (HB V (py (px c)))
        iapply (share_split c fullShare (quar c 1) (f8 k) (HB V (py (px c)))).2
        isplitl [Ha]; · iexact Ha
        iexact H
      · rw [if_neg h6, if_neg h6]
        iintro ⟨H, -⟩
        iexists (HB V (py (px c)))
        iexact H
    iintro ⟨H, H'⟩
    iapply h
    isplitl [H]; · iexact H
    iapply (run_hi (by omega) (by omega) _); iexact H'
  have hZ : iprop(run 0 8 (fun k => ovHas V c (9 + 2 * k)) ∗ run 4 6 (lentZ V c)) ⊢ run 0 8 (rawR (F := F) c 2) := by
    have h : iprop(run 0 8 (fun k => ovHas V c (9 + 2 * k)) ∗ run 0 8 (fun k => if 4 ≤ k ∧ k < 6 then lentZ V c k else iprop(emp))) ⊢ run 0 8 (rawR (F := F) c 2) := by
      unfold run
      rw [← bigSep_sep']
      refine each fun k hk => ?_
      rw [ovHas_Z V c (Finset.mem_Ico.mp hk).2]
      unfold lentZ rawR raw
      by_cases h6 : 4 ≤ k ∧ k < 6
      · rw [if_pos h6, if_pos h6]
        iintro ⟨H, Ha⟩
        iexists (HB V (py (pz c)))
        iapply (share_split c fullShare (quar c 2) (f8 k) (HB V (py (pz c)))).2
        isplitl [Ha]; · iexact Ha
        iexact H
      · rw [if_neg h6, if_neg h6]
        iintro ⟨H, -⟩
        iexists (HB V (py (pz c)))
        iexact H
    iintro ⟨H, H'⟩
    iapply h
    isplitl [H]; · iexact H
    iapply (run_mid (by omega) (by omega) (by omega) _); iexact H'
  have hD : run 0 8 (fun k => ovHas V c (24 + k)) ⊢ run 0 8 (rawR (F := F) c 3) := by
    refine each fun k hk => ?_
    rw [ovHas_D V c k (Finset.mem_Ico.mp hk).2]
    unfold rawR raw
    iintro H
    iexists _
    iexact H
  have hq := quarters (ovHas V c)
  iintro ⟨H, HM, HX, HZ⟩
  ihave H := hq.1 $$ H
  icases H with ⟨H0, H1, H2, H3⟩
  iapply (raws_eq c).2
  isplitl [H0 HM]
  · iapply hM
    isplitl [H0]; · iexact H0
    iexact HM
  isplitl [H1 HX]
  · iapply hX
    isplitl [H1]; · iexact H1
    iexact HX
  isplitl [H2 HZ]
  · iapply hZ
    isplitl [H2]; · iexact H2
    iexact HZ
  iapply hD; iexact H3

/-! ## The slab by chunks -/

theorem chunk_inj : ∀ n m : Fin 32, qOf n.val = qOf m.val → kOf n.val = kOf m.val → n = m := by decide
theorem chunk_sur : ∀ (r : Fin 4) (k : Fin 8), ∃ n : Fin 32, qOf n.val = r ∧ kOf n.val = k := by decide

/-- The rows of the `n`th chunk. -/
def CN (c : Dev nD) (n : ℕ) : Finset S8192x2048.Idx := CS (quar c (qOf n)) (kOf n)
theorem CN_disj (c : Dev nD) : ∀ n ∈ Finset.range 32, ∀ m ∈ Finset.range 32, n ≠ m → Disjoint (CN c n) (CN c m) := by
  intro n hn m hm hne
  refine CS_disjoint (p := (quar c (qOf n), kOf n)) (p' := (quar c (qOf m), kOf m)) fun h => hne ?_
  have h1 := quar_inj c _ _ (congrArg Prod.fst h)
  exact congrArg Fin.val (chunk_inj ⟨n, Finset.mem_range.mp hn⟩ ⟨m, Finset.mem_range.mp hm⟩ h1 (congrArg Prod.snd h))
theorem CN_cover (c : Dev nD) : (Finset.range 32).biUnion (CN c) = Finset.univ := by
  refine Finset.eq_univ_iff_forall.mpr fun i => Finset.mem_biUnion.mpr ?_
  obtain ⟨r, hr⟩ := quar_surj c (chunkOf i).1
  obtain ⟨n, h1, h2⟩ := chunk_sur r (chunkOf i).2
  refine ⟨n.val, Finset.mem_range.mpr n.isLt, ?_⟩
  unfold CN
  rw [h1, h2, hr]
  exact mem_chunkOf i

theorem slab_split (c : Dev nD) : slabW V c ⊢ run 0 32 (slabPt V c) := by
  have h := pointsTo_biUnion (Val := Elt F) (Ix := Unit) (Name := ℕ) (U := UU) (Lvl := ℕ) (ℓ := (c : Thread nD τ).loc main_v1) (q := fullShare) (f := V c main_v1)
    (Finset.range 32) (CN c) (CN_disj c)
  rw [CN_cover] at h
  refine (Entails.of_eq h).trans (Entails.of_eq ?_)
  rw [Finset.range_eq_Ico]
  refine bigSep_congr fun n _ => ?_
  unfold slabPt CN
  rw [slabQ_set]

theorem out_split (c : Dev nD) (f : (main_v27 : Ref sig .tc).ty.Contents (Elt F)) :
    (((c : Thread nD τ).loc main_v27) ↦{fullShare} f : sProp 𝕄) ⊢ run 0 32 (outR c) := by
  have h := pointsTo_biUnion (Val := Elt F) (Ix := Unit) (Name := ℕ) (U := UU) (Lvl := ℕ) (ℓ := (c : Thread nD τ).loc main_v27) (q := fullShare) (f := f)
    (Finset.range 32) (CN c) (CN_disj c)
  rw [CN_cover] at h
  refine (Entails.of_eq h).trans ?_
  rw [Finset.range_eq_Ico]
  refine each fun n _ => ?_
  unfold outR outRaw CN
  rw [outQ_set]
  iintro H
  iexists f
  iexact H

theorem ov_split (c : Dev nD) (f : (cc0_scratch0 : Ref sig .tc).ty.Contents (Elt F)) :
    (((c : Thread nD τ).loc cc0_scratch0) ↦{fullShare} f : sProp 𝕄) ⊢ bigSep (Finset.range 32) (rawN c) := by
  have h := pointsTo_biUnion (Val := Elt F) (Ix := Unit) (Name := ℕ) (U := UU) (Lvl := ℕ) (ℓ := (c : Thread nD τ).loc cc0_scratch0) (q := fullShare) (f := f)
    (Finset.range 32) (CN c) (CN_disj c)
  rw [CN_cover] at h
  refine (Entails.of_eq h).trans ?_
  refine each fun n _ => ?_
  unfold rawN raw ovPt CN
  rw [ovQ_set]
  iintro H
  iexists f
  iexact H

include V in
theorem ov_join (c : Dev nD) :
    bigSep (Finset.range 32) (rawN c) ⊢ (iprop(∃ f : (cc0_scratch0 : Ref sig .tc).ty.Contents (Elt F), ((c : Thread nD τ).loc cc0_scratch0) ↦{fullShare} f) : sProp 𝕄) := by
  have e : (rawN c : ℕ → sProp 𝕄) = fun n => iprop(∃ f : (cc0_scratch0 : Ref sig .tc).ty.Contents (Elt F), ((c : Thread nD τ).loc cc0_scratch0) ↦[CN c n]{fullShare} f) := by
    funext n
    unfold rawN raw ovPt CN
    rw [ovQ_set]
  have e0 : Nonempty ((cc0_scratch0 : Ref sig .tc).ty.Contents (Elt F)) := ⟨HB V c⟩
  rw [e]
  refine BIBase.Entails.trans (bigSep_exists_pi (Finset.range 32) (fun n (f : (cc0_scratch0 : Ref sig .tc).ty.Contents (Elt F)) => (((c : Thread nD τ).loc cc0_scratch0) ↦[CN c n]{fullShare} f : sProp 𝕄))) ?_
  iintro ⟨%fs, H⟩
  ihave H := (pointsTo_biUnion_join (Finset.range 32) (CN c) fs (HB V c) (CN_disj c)) $$ H
  icases H with ⟨%g, -, H⟩
  iexists g
  rw [CN_cover]
  iexact H

end Cert.KernelIdeal.Body
-- ==== Proof.KernelIdeal.Slots.lean ====
module

public import proofs.«01_k».proof.Proof.KernelIdeal.Chunks

@[expose] public section

set_option maxRecDepth 16384

noncomputable section

/-! The small buffers by slots, and the result as a whole. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots -/

def S8' (k : Fin 8) : Finset S8x256x2048.Idx := (Rect.unit (s := S8x256x2048) ![k.val, 0, 0] S1x256x2048.size (inb8 k)).set
def S2' (k : Fin 2) : Finset S2x256x2048.Idx := (Rect.unit (s := S2x256x2048) ![k.val, 0, 0] S1x256x2048.size (inb2 k)).set

theorem mem_S8' {k : Fin 8} {i : S8x256x2048.Idx} : i ∈ S8' k ↔ (i 0).val = k.val := by
  unfold S8'
  rw [Rect.mem_set_unit]
  constructor
  · intro h
    have h1 : k.val ≤ (i 0).val := (h 0).1
    have h2 : (i 0).val < k.val + 1 := (h 0).2
    omega
  · intro h a
    match a with
    | 0 => exact ⟨h.ge, by show (i 0).val < k.val + 1; omega⟩
    | 1 => exact ⟨Nat.zero_le _, (i 1).isLt.trans_le (Nat.le_add_left _ _)⟩
    | 2 => exact ⟨Nat.zero_le _, (i 2).isLt.trans_le (Nat.le_add_left _ _)⟩
theorem mem_S2' {k : Fin 2} {i : S2x256x2048.Idx} : i ∈ S2' k ↔ (i 0).val = k.val := by
  unfold S2'
  rw [Rect.mem_set_unit]
  constructor
  · intro h
    have h1 : k.val ≤ (i 0).val := (h 0).1
    have h2 : (i 0).val < k.val + 1 := (h 0).2
    omega
  · intro h a
    match a with
    | 0 => exact ⟨h.ge, by show (i 0).val < k.val + 1; omega⟩
    | 1 => exact ⟨Nat.zero_le _, (i 1).isLt.trans_le (Nat.le_add_left _ _)⟩
    | 2 => exact ⟨Nat.zero_le _, (i 2).isLt.trans_le (Nat.le_add_left _ _)⟩

theorem svSlot_set (k : Fin 8) : (svSlot k).view.set = S8' k := (View.set_reshape _ _).trans (View.set_slice_whole _ _)
theorem lvSlot_set (k : Fin 2) : (lvSlot k).view.set = S2' k := (View.set_reshape _ _).trans (View.set_slice_whole _ _)
theorem wvSlot_set (k : Fin 2) : (wvSlot k).view.set = S2' k := (View.set_reshape _ _).trans (View.set_slice_whole _ _)

theorem S8'_disj : ∀ n ∈ Finset.range 8, ∀ m ∈ Finset.range 8, n ≠ m → Disjoint (S8' (f8 n)) (S8' (f8 m)) := by
  intro n hn m hm hne
  rw [Finset.mem_range] at hn hm
  rw [Finset.disjoint_left]
  intro i h1 h2
  rw [mem_S8'] at h1 h2
  have h1 : (i 0).val = n % 8 := h1
  have h2 : (i 0).val = m % 8 := h2
  omega
theorem S8'_cover : (Finset.range 8).biUnion (fun n => S8' (f8 n)) = Finset.univ := by
  refine Finset.eq_univ_iff_forall.mpr fun i => Finset.mem_biUnion.mpr ?_
  have h : (i 0).val < 8 := (i 0).isLt
  exact ⟨(i 0).val, Finset.mem_range.mpr h, mem_S8'.mpr (Nat.mod_eq_of_lt h).symm⟩
theorem S2'_disj : Disjoint (S2' 0) (S2' 1) := by
  rw [Finset.disjoint_left]
  intro i h1 h2
  rw [mem_S2'] at h1 h2
  have h1 : (i 0).val = 0 := h1
  have h2 : (i 0).val = 1 := h2
  omega
theorem S2'_cover : S2' 0 ∪ S2' 1 = Finset.univ := by
  refine Finset.eq_univ_iff_forall.mpr fun i => ?_
  have h : (i 0).val < 2 := (i 0).isLt
  rw [Finset.mem_union, mem_S2', mem_S2']
  show (i 0).val = 0 ∨ (i 0).val = 1
  omega

theorem sv_split (c : Dev nD) (f : (cc0_scratch1 : Ref sig .tc).ty.Contents (Elt F)) :
    (((c : Thread nD τ).loc cc0_scratch1) ↦{fullShare} f : sProp 𝕄) ⊢ run 0 8 (fun k => svRaw c (f8 k)) := by
  have h := pointsTo_biUnion (Val := Elt F) (Ix := Unit) (Name := ℕ) (U := UU) (Lvl := ℕ) (ℓ := (c : Thread nD τ).loc cc0_scratch1) (q := fullShare) (f := f)
    (Finset.range 8) (fun n => S8' (f8 n)) S8'_disj
  rw [S8'_cover] at h
  refine (Entails.of_eq h).trans ?_
  rw [Finset.range_eq_Ico]
  refine each fun n _ => ?_
  unfold svRaw
  rw [svSlot_set]
  iintro H
  iexists f
  iexact H
theorem sv_join (c : Dev nD) (f₀ : (cc0_scratch1 : Ref sig .tc).ty.Contents (Elt F)) :
    run 0 8 (fun k => svRaw c (f8 k)) ⊢ (iprop(∃ f : (cc0_scratch1 : Ref sig .tc).ty.Contents (Elt F), ((c : Thread nD τ).loc cc0_scratch1) ↦{fullShare} f) : sProp 𝕄) := by
  have e : (fun k => svRaw c (f8 k) : ℕ → sProp 𝕄) = fun n => iprop(∃ f : (cc0_scratch1 : Ref sig .tc).ty.Contents (Elt F), ((c : Thread nD τ).loc cc0_scratch1) ↦[S8' (f8 n)]{fullShare} f) := by
    funext n
    unfold svRaw
    rw [svSlot_set]
  have e0 : Nonempty ((cc0_scratch1 : Ref sig .tc).ty.Contents (Elt F)) := ⟨f₀⟩
  rw [e]
  unfold run
  rw [← Finset.range_eq_Ico]
  refine BIBase.Entails.trans (bigSep_exists_pi (Finset.range 8) (fun n (f : (cc0_scratch1 : Ref sig .tc).ty.Contents (Elt F)) => (((c : Thread nD τ).loc cc0_scratch1) ↦[S8' (f8 n)]{fullShare} f : sProp 𝕄))) ?_
  iintro ⟨%fs, H⟩
  ihave H := (pointsTo_biUnion_join (Val := Elt F) (Ix := Unit) (Name := ℕ) (U := UU) (Lvl := ℕ) (ℓ := (c : Thread nD τ).loc cc0_scratch1) (q := fullShare)
    (Finset.range 8) (fun n => S8' (f8 n)) fs f₀ S8'_disj) $$ H
  icases H with ⟨%g, -, H⟩
  iexists g
  rw [S8'_cover]
  iexact H

theorem lv_split (c : Dev nD) (f : (cc0_scratch12 : Ref sig .tc).ty.Contents (Elt F)) :
    (((c : Thread nD τ).loc cc0_scratch12) ↦{fullShare} f : sProp 𝕄) ⊢ iprop((∃ f, lvPt c 0 f) ∗ ∃ f, lvPt c 1 f) := by
  have h := (pointsTo_union (Val := Elt F) (Ix := Unit) (Name := ℕ) (U := UU) (Lvl := ℕ) (ℓ := (c : Thread nD τ).loc cc0_scratch12) (q := fullShare) (f := f) S2'_disj).1
  rw [S2'_cover] at h
  refine BIBase.Entails.trans h ?_
  unfold lvPt
  rw [lvSlot_set, lvSlot_set]
  iintro ⟨H, H'⟩
  isplitl [H]
  · iexists f; iexact H
  iexists f; iexact H'
theorem lv_join (c : Dev nD) :
    iprop((∃ f, lvPt c 0 f) ∗ ∃ f, lvPt c 1 f) ⊢ (iprop(∃ f : (cc0_scratch12 : Ref sig .tc).ty.Contents (Elt F), ((c : Thread nD τ).loc cc0_scratch12) ↦{fullShare} f) : sProp 𝕄) := by
  unfold lvPt
  rw [lvSlot_set, lvSlot_set, ← S2'_cover]
  iintro ⟨⟨%f, H⟩, ⟨%g, H'⟩⟩
  iexists (S2' 1).piecewise g f
  iapply (pointsTo_join (Val := Elt F) (Ix := Unit) (Name := ℕ) (U := UU) (Lvl := ℕ) (ℓ := (c : Thread nD τ).loc cc0_scratch12) (q := fullShare) (f := f) (g := g) S2'_disj)
  isplitl [H]; · iexact H
  iexact H'
theorem wv_split (c : Dev nD) (f : (cc0_scratch13 : Ref sig .tc).ty.Contents (Elt F)) :
    (((c : Thread nD τ).loc cc0_scratch13) ↦{fullShare} f : sProp 𝕄) ⊢ iprop((∃ f, wvPt c 0 f) ∗ ∃ f, wvPt c 1 f) := by
  have h := (pointsTo_union (Val := Elt F) (Ix := Unit) (Name := ℕ) (U := UU) (Lvl := ℕ) (ℓ := (c : Thread nD τ).loc cc0_scratch13) (q := fullShare) (f := f) S2'_disj).1
  rw [S2'_cover] at h
  refine BIBase.Entails.trans h ?_
  unfold wvPt
  rw [wvSlot_set, wvSlot_set]
  iintro ⟨H, H'⟩
  isplitl [H]
  · iexists f; iexact H
  iexists f; iexact H'
theorem wv_join (c : Dev nD) :
    iprop((∃ f, wvPt c 0 f) ∗ ∃ f, wvPt c 1 f) ⊢ (iprop(∃ f : (cc0_scratch13 : Ref sig .tc).ty.Contents (Elt F), ((c : Thread nD τ).loc cc0_scratch13) ↦{fullShare} f) : sProp 𝕄) := by
  unfold wvPt
  rw [wvSlot_set, wvSlot_set, ← S2'_cover]
  iintro ⟨⟨%f, H⟩, ⟨%g, H'⟩⟩
  iexists (S2' 1).piecewise g f
  iapply (pointsTo_join (Val := Elt F) (Ix := Unit) (Name := ℕ) (U := UU) (Lvl := ℕ) (ℓ := (c : Thread nD τ).loc cc0_scratch13) (q := fullShare) (f := f) (g := g) S2'_disj)
  isplitl [H]; · iexact H
  iexact H'

/-! ## The result -/

variable (V : Dev nD → Valuation τ sig (Elt F)) (X : S1x2048.Idx → Elt F .f32)

/-- A row's place within its chunk. -/
def within (i : S8192x2048.Idx) : S256x2048.Idx := fun a => match a with
  | 0 => ⟨(i 0).val % 256, Nat.mod_lt _ (by decide)⟩
  | 1 => i 1

/-- The values of the chunk `(q, k)` of the result. -/
def outChunk (c : Dev nD) (q : Fin 4) (k : Fin 8) : FVec F S256x2048 .f32 :=
  outVal ((slabQ q k).view.read (Elt F) (V c main_v1)) ((ovQ q k).view.read (Elt F) (HB V (src c (unquar c q) k))) X

/-- The result on device `c`. -/
def OUT (c : Dev nD) : (main_v27 : Ref sig .tc).ty.Contents (Elt F) := fun i =>
  outChunk V X c (chunkOf i).1 (chunkOf i).2 (within i)

theorem outQ_emb (q : Fin 4) (k : Fin 8) (x : S256x2048.Idx) :
    chunkOf ((outQ q k).view.emb x) = (q, k) ∧ within ((outQ q k).view.emb x) = x := by
  have h0 : (((outQ q k).view.emb x) 0).val = 2048 * q.val + 256 * k.val + 1 * (x 0).val := rfl
  have h1 : (((outQ q k).view.emb x) 1).val = 0 + 1 * (x 1).val := rfl
  have hx : (x 0).val < 256 := (x 0).isLt
  constructor
  · refine chunkOf_eq (mem_CS.mpr ?_)
    rw [h0]
    omega
  · funext a
    apply Fin.ext
    match a with
    | 0 =>
      show (((outQ q k).view.emb x) 0).val % 256 = (x 0).val
      rw [h0]; omega
    | 1 =>
      show (((outQ q k).view.emb x) 1).val = (x 1).val
      rw [h1]; omega

theorem outHas_OUT (c : Dev nD) (q : Fin 4) (k : Fin 8) :
    outHas c q k (outChunk V X c q k) ⊢ (((c : Thread nD τ).loc main_v27) ↦[CS q k]{fullShare} OUT V X c : sProp 𝕄) := by
  unfold outHas
  rw [← outQ_set]
  iintro ⟨%f, %hf, H⟩
  have h : ∀ i ∈ (outQ q k).view.set, f i = OUT V X c i := by
    intro i hi
    obtain ⟨x, -, rfl⟩ := Finset.mem_map.mp hi
    have h1 : (outQ q k).view.read (Elt F) f x = f ((outQ q k).view.emb x) := rfl
    rw [← h1, hf]
    unfold OUT
    rw [(outQ_emb q k x).1, (outQ_emb q k x).2]
  iapply (Entails.of_eq (pointsTo_congr h))
  iexact H

theorem outH_OUT (c : Dev nD) (n : ℕ) : outH V X c n ⊢ (((c : Thread nD τ).loc main_v27) ↦[CN c n]{fullShare} OUT V X c : sProp 𝕄) := by
  have h := outHas_OUT V X c (quar c (qOf n)) (kOf n)
  unfold outChunk at h
  rw [unquar_quar] at h
  exact h

theorem out_join (c : Dev nD) : bigSep (Finset.range 32) (outH V X c) ⊢ (((c : Thread nD τ).loc main_v27) ↦{fullShare} OUT V X c : sProp 𝕄) := by
  have h := pointsTo_biUnion (Val := Elt F) (Ix := Unit) (Name := ℕ) (U := UU) (Lvl := ℕ) (ℓ := (c : Thread nD τ).loc main_v27) (q := fullShare) (f := OUT V X c)
    (Finset.range 32) (CN c) (CN_disj c)
  rw [CN_cover] at h
  exact BIBase.Entails.trans (each fun n _ => outH_OUT V X c n) (Entails.of_eq h.symm)

end Cert.KernelIdeal.Body
-- ==== Proof.KernelIdeal.Whole.lean ====
module

public import proofs.«01_k».proof.Proof.KernelIdeal.Slots

@[expose] public section

set_option maxRecDepth 16384

noncomputable section

/-! The body from start to end. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F)) (K : GSem nD τ sig → ℕ) (X : S1x2048.Idx → Elt F .f32)

/-- The device whose cell of number `n` is filled by device `c`. -/
def aim (c : Dev nD) (n : ℕ) : Dev nD :=
  if n < 13 then c else if n < 25 then py c else if n < 33 then c else if n < 41 then px c else if n < 49 then c
  else if n < 57 then pz c else if n < 59 then c else if n < 61 then px c else if n < 63 then c else pz c

/-- The tokens a device spends. -/
def toks (c : Dev nD) : sProp 𝕄 := run 1 65 fun n => tok (aim c n) n

theorem toks_eq (c : Dev nD) : (toks c : sProp 𝕄)
    = iprop(run 0 8 (fun k => tok c (1 + k)) ∗ run 0 4 (fun k => tok c (9 + k)) ∗ run 0 8 (fun k => tok (py c) (13 + k)) ∗ run 0 4 (fun k => tok (py c) (21 + k))
      ∗ run 0 8 (fun k => tok c (25 + k)) ∗ run 0 8 (fun k => tok (px c) (33 + k)) ∗ run 0 8 (fun k => tok c (41 + k)) ∗ run 0 8 (fun k => tok (pz c) (49 + k))
      ∗ run 4 6 (fun k => tok c (53 + k)) ∗ run 4 6 (fun k => tok (px c) (55 + k)) ∗ run 6 8 (fun k => tok c (55 + k)) ∗ run 6 8 (fun k => tok (pz c) (57 + k))) := by
  unfold toks
  have h (a b s : ℕ) (d : Dev nD) (hd : ∀ k, a ≤ k → k < b → aim c (s + k) = d) :
      run a b (fun k => tok (F := F) (aim c (s + k)) (s + k)) = run a b (fun k => tok d (s + k)) := run_congr fun k h1 h2 => by rw [hd k h1 h2]
  rw [cells, h 0 8 1 c (fun k _ _ => by unfold aim; rw [if_pos (by omega)]),
    h 0 4 9 c (fun k _ _ => by unfold aim; rw [if_pos (by omega)]),
    h 0 8 13 (py c) (fun k _ _ => by unfold aim; rw [if_neg (by omega), if_pos (by omega)]),
    h 0 4 21 (py c) (fun k _ _ => by unfold aim; rw [if_neg (by omega), if_pos (by omega)]),
    h 0 8 25 c (fun k _ _ => by unfold aim; iterate 2 rw [if_neg (by omega)]
                                rw [if_pos (by omega)]),
    h 0 8 33 (px c) (fun k _ _ => by unfold aim; iterate 3 rw [if_neg (by omega)]
                                     rw [if_pos (by omega)]),
    h 0 8 41 c (fun k _ _ => by unfold aim; iterate 4 rw [if_neg (by omega)]
                                rw [if_pos (by omega)]),
    h 0 8 49 (pz c) (fun k _ _ => by unfold aim; iterate 5 rw [if_neg (by omega)]
                                     rw [if_pos (by omega)]),
    h 4 6 53 c (fun k _ _ => by unfold aim; iterate 6 rw [if_neg (by omega)]
                                rw [if_pos (by omega)]),
    h 4 6 55 (px c) (fun k _ _ => by unfold aim; iterate 7 rw [if_neg (by omega)]
                                     rw [if_pos (by omega)]),
    h 6 8 55 c (fun k _ _ => by unfold aim; iterate 8 rw [if_neg (by omega)]
                                rw [if_pos (by omega)]),
    h 6 8 57 (pz c) (fun k _ _ => by unfold aim; iterate 9 rw [if_neg (by omega)])]

/-- The credits of the cells that others fill. -/
def crds (c : Dev nD) : sProp 𝕄 :=
  iprop(run 0 8 (fun k => crd c (13 + k)) ∗ run 0 4 (fun k => crd c (21 + k)) ∗ run 0 8 (fun k => crd c (33 + k)) ∗ run 0 8 (fun k => crd c (49 + k))
    ∗ run 4 6 (fun k => crd c (55 + k)) ∗ run 6 8 (fun k => crd c (57 + k)))

/-- What the body is given of the exchange, -/
def bodyIn (c : Dev nD) : sProp 𝕄 := iprop(inBar c ∗ owe c (lAll c) ∗ toks c ∗ crds c ∗ run 1 65 (at0 c))
/-- and of memory. -/
def memIn (c : Dev nD) : sProp 𝕄 :=
  iprop(bigSep (Finset.range 32) (rawN c) ∗ run 0 8 (fun k => svRaw c (f8 k)) ∗ run 0 4 (fun k => qdPt V c (f4 k)) ∗ slabW V c ∗ resW V c
    ∗ ldFree c 0 ∗ ldFree c 1 ∗ wrFree c 0 ∗ wrFree c 1 ∗ gam c X ∗ run 0 32 (outR c))
/-- What it gives back of the exchange, -/
def bodyOut (c : Dev nD) : sProp 𝕄 := iprop(atPos ER (barCell c) 1 ∅ 0 ∗ owe c [] ∗ run 1 65 (at1 c))
/-- and of memory. -/
def memOut (c : Dev nD) : sProp 𝕄 :=
  iprop(bigSep (Finset.range 32) (rawN c) ∗ run 0 8 (fun k => svRaw c (f8 k)) ∗ resW V c
    ∗ ldFree c 0 ∗ ldFree c 1 ∗ wrFree c 0 ∗ wrFree c 1 ∗ gam c X ∗ bigSep (Finset.range 32) (outH V X c))

section Joins
variable (c : Dev nD)

theorem join_M : iprop(run 0 8 (fun k => crd c (13 + k)) ∗ run 0 8 (fun k => at0 c (13 + k))
      ∗ (run 0 8 (fun k => give (px c) (quar c 0) k (33 + k)) ∗ run 0 8 (fun k => tok c (25 + k)) ∗ run 0 8 (fun k => tok (px c) (33 + k)))
      ∗ run 0 8 (fun k => give (pz c) (quar c 0) k (49 + k)) ∗ run 0 8 (fun k => tok c (41 + k)) ∗ run 0 8 (fun k => tok (pz c) (49 + k)))
    = run 0 8 (inM (F := F) c) := by
  unfold inM; simp only [bigSep_sep']

theorem join_X : iprop(run 0 8 (fun k => crd c (33 + k)) ∗ run 0 8 (fun k => at0 c (33 + k))
      ∗ run 6 8 (fun k => give (pz c) (quar c 1) k (57 + k)) ∗ run 6 8 (fun k => tok c (55 + k)) ∗ run 6 8 (fun k => tok (pz c) (57 + k)))
    ⊢ run 0 8 (inX (F := F) c) := by
  have e : iprop(run 6 8 (fun k => give (F := F) (pz c) (quar c 1) k (57 + k)) ∗ run 6 8 (fun k => tok c (55 + k)) ∗ run 6 8 (fun k => tok (pz c) (57 + k)))
      = run 6 8 (fun k => iprop(give (pz c) (quar c 1) k (57 + k) ∗ tok c (55 + k) ∗ tok (pz c) (57 + k))) := by simp only [bigSep_sep']
  rw [e]
  unfold inX
  simp only [bigSep_sep' (Finset.Ico 0 8)]
  iintro ⟨H1, H2, H3⟩
  isplitl [H1]; · iexact H1
  isplitl [H2]; · iexact H2
  iapply (run_hi (a := 0) (b := 6) (c := 8) (by omega) (by omega) _); iexact H3

theorem join_Z : iprop(run 0 8 (fun k => crd c (49 + k)) ∗ run 0 8 (fun k => at0 c (49 + k))
      ∗ run 4 6 (fun k => give (px c) (quar c 2) k (55 + k)) ∗ run 4 6 (fun k => tok c (53 + k)) ∗ run 4 6 (fun k => tok (px c) (55 + k)))
    ⊢ run 0 8 (inZ (F := F) c) := by
  have e : iprop(run 4 6 (fun k => give (F := F) (px c) (quar c 2) k (55 + k)) ∗ run 4 6 (fun k => tok c (53 + k)) ∗ run 4 6 (fun k => tok (px c) (55 + k)))
      = run 4 6 (fun k => iprop(give (px c) (quar c 2) k (55 + k) ∗ tok c (53 + k) ∗ tok (px c) (55 + k))) := by simp only [bigSep_sep']
  rw [e]
  unfold inZ
  simp only [bigSep_sep' (Finset.Ico 0 8)]
  iintro ⟨H1, H2, H3⟩
  isplitl [H1]; · iexact H1
  isplitl [H2]; · iexact H2
  iapply (run_mid (a := 0) (b := 4) (c := 6) (d := 8) (by omega) (by omega) (by omega) _); iexact H3

theorem join_D : iprop((run 0 4 (fun k => crd c (21 + k)) ∗ run 4 6 (fun k => crd c (55 + k)) ∗ run 6 8 (fun k => crd c (57 + k)))
      ∗ run 0 4 (fun k => at0 c (21 + k)) ∗ run 4 6 (fun k => at0 c (55 + k)) ∗ run 6 8 (fun k => at0 c (57 + k)))
    = run 0 8 (inD (F := F) c) := by
  unfold inD
  simp only [bigSep_sep']
  rw [← diag (crd c), ← diag (at0 c)]

theorem join_E (a b s : ℕ) : iprop(run a b (fun k => crd c (s + k)) ∗ run a b (fun k => at0 c (s + k))) = run a b (fun k => inE (F := F) c (s + k)) := by
  unfold inE; simp only [bigSep_sep']
theorem open_E (a b s : ℕ) : run a b (fun k => outE V c (s + k)) = iprop(run a b (fun k => payN V c (s + k)) ∗ run a b (fun k => at1 c (s + k))) := by
  unfold outE; simp only [bigSep_sep']

theorem open_M : run 0 8 (outM (F := F) c)
    = iprop(run 0 8 (fun k => at1 c (13 + k)) ∗ run 0 8 (fun k => crd c (25 + k)) ∗ run 0 8 (fun k => crd c (41 + k))) := by
  unfold outM; simp only [bigSep_sep']
theorem open_X : run 0 8 (outX (F := F) c) ⊢ iprop(run 0 8 (fun k => at1 c (33 + k)) ∗ run 6 8 (fun k => crd c (55 + k))) := by
  unfold outX
  simp only [bigSep_sep']
  iintro ⟨H1, H2⟩
  isplitl [H1]; · iexact H1
  iapply (run_hi' (a := 0) (b := 6) (c := 8) (by omega) (by omega) _); iexact H2
theorem open_Z : run 0 8 (outZ (F := F) c) ⊢ iprop(run 0 8 (fun k => at1 c (49 + k)) ∗ run 4 6 (fun k => crd c (53 + k))) := by
  unfold outZ
  simp only [bigSep_sep']
  iintro ⟨H1, H2⟩
  isplitl [H1]; · iexact H1
  iapply (run_mid' (a := 0) (b := 4) (c := 6) (d := 8) (by omega) (by omega) (by omega) _); iexact H2
theorem open_D : run 0 8 (outD (F := F) c)
    = iprop(run 0 4 (fun k => at1 c (21 + k)) ∗ run 4 6 (fun k => at1 c (55 + k)) ∗ run 6 8 (fun k => at1 c (57 + k))) := by
  unfold outD; exact diag (at1 c)

/-- The payments of the cells that count departures: what was lent. -/
theorem back_M : iprop(run 0 8 (fun k => payN V c (25 + k)) ∗ run 0 8 (fun k => payN V c (41 + k))) = run 0 8 (lentM V c) := by
  unfold lentM
  simp only [bigSep_sep']
  rw [run_congr (fun k _ h => pay_as V (c := c) h), run_congr (fun k _ h => pay_bs V (c := c) h)]
theorem back_X : run 6 8 (fun k => payN V c (55 + k)) = run 6 8 (lentX V c) := run_congr fun k h1 h2 => by
  have h := pay_czs V (c := c) (k := k - 6) (by omega)
  rw [show 61 + (k - 6) = 55 + k by omega, show 6 + (k - 6) = k by omega] at h
  exact h
theorem back_Z : run 4 6 (fun k => payN V c (53 + k)) = run 4 6 (lentZ V c) := run_congr fun k h1 h2 => by
  have h := pay_cxs V (c := c) (k := k - 4) (by omega)
  rw [show 57 + (k - 4) = 53 + k by omega, show 4 + (k - 4) = k by omega] at h
  exact h
theorem back_Y : run 0 8 (fun k => payN V c (1 + k)) = run 0 8 (fun k => svRaw c (f8 k)) := run_congr fun k _ h => pay_ys V (c := c) h

end Joins

theorem body_ret (c : Dev nD) (Q : PUnit → sProp 𝕄) : Q ⟨⟩ ⊢ WP c (.ret ⟨⟩ : P F) Q := by
  show _ ⊢ wp frame (wpE (defs₀ (F := F)) 𝒱₀ (c : Thread nD τ) none) Set.univ (.ret ⟨⟩) Q
  rw [wp_ret]
  iintro H; imodintro; iexact H

theorem body_run {c : Dev nD} (hq : HostRows V c) :
    iprop(known V K c ∗ bodyIn c ∗ memIn V X c) ⊢ WP c (all (canon c)) (fun _ => iprop(known V K c ∗ bodyOut c ∗ memOut V X c)) := by
  unfold bodyIn memIn crds all
  rw [toks_eq, cells (at0 c)]
  iintro ⟨#HK, ⟨Hbar, HO, ⟨T1, T9, T13, T21, T25, T33, T41, T49, T53, T55, T55', T57⟩, ⟨C13, C21, C33, C49, C55, C57⟩,
    A1, A9, A13, A21, A25, A33, A41, A49, A53, A55, A55', A57⟩, Hov, Hsv, Hqd, Hsl, Hre, Hl0, Hl1, Hw0, Hw1, Hg, Hx⟩
  iapply (phaseY V K hq) $$ [Hbar HO T1 T9 T13 T21 Hov Hsv Hqd Hsl Hre Hl0 Hl1]
  · isplitr; · iexact HK
    isplitl [Hbar]; · iexact Hbar
    isplitl [Hov]
    · iapply (raws_eq c).1; iexact Hov
    isplitl [HO]; · iexact HO
    isplitl [Hsv]; · iexact Hsv
    isplitl [Hqd]; · iexact Hqd
    isplitl [T1 T9 T13 T21]
    · unfold toksY
      isplitl [T1]; · iexact T1
      isplitl [T13]; · iexact T13
      isplitl [T9]; · iexact T9
      iexact T21
    isplitl [Hsl]; · iexact Hsl
    isplitl [Hre]; · iexact Hre
    isplitl [Hl0]; · iexact Hl0
    iexact Hl1
  iintro ⟨Hat, G1, G2, Hsl, Hre, Hl0, Hl1, C1, C9, HO⟩
  ihave G1 := (Entails.of_eq (barPay_1 c)) $$ G1
  icases G1 with ⟨G33, G55⟩
  ihave G2 := (Entails.of_eq (barPay_2 c)) $$ G2
  icases G2 with ⟨G49, G57⟩
  ihave Hsl := (slab_split V c) $$ Hsl
  iapply (phaseM V K X) $$ [HO C13 A13 G33 T25 T33 G49 T41 T49 Hsl Hl0 Hl1 Hw0 Hw1 Hg Hx]
  · isplitr; · iexact HK
    isplitl [HO]; · iexact HO
    isplitl [C13 A13 G33 T25 T33 G49 T41 T49]
    · iapply (Entails.of_eq (join_M c))
      isplitl [C13]; · iexact C13
      isplitl [A13]; · iexact A13
      isplitl [G33 T25 T33]
      · isplitl [G33]; · iexact G33
        isplitl [T25]; · iexact T25
        iexact T33
      isplitl [G49]; · iexact G49
      isplitl [T41]; · iexact T41
      iexact T49
    isplitl [Hsl]; · iexact Hsl
    isplitl [Hl0]; · iexact Hl0
    isplitl [Hl1]; · iexact Hl1
    isplitl [Hw0]; · iexact Hw0
    isplitl [Hw1]; · iexact Hw1
    isplitl [Hg]; · iexact Hg
    iexact Hx
  iintro ⟨HP, HO, HM⟩
  ihave HM := (Entails.of_eq (open_M c)) $$ HM
  icases HM with ⟨A13, C25, C41⟩
  iapply (phaseXD V K X) $$ [HP HO C33 A33 G57 T55' T57 C49 A49 G55 T53 T55 C21 C55 C57 A21 A55 A57]
  · isplitr; · iexact HK
    isplitl [HP]; · iexact HP
    isplitl [HO]; · iexact HO
    isplitl [C33 A33 G57 T55' T57]
    · iapply (join_X c)
      isplitl [C33]; · iexact C33
      isplitl [A33]; · iexact A33
      isplitl [G57]; · iexact G57
      isplitl [T55']; · iexact T55'
      iexact T57
    isplitl [C49 A49 G55 T53 T55]
    · iapply (join_Z c)
      isplitl [C49]; · iexact C49
      isplitl [A49]; · iexact A49
      isplitl [G55]; · iexact G55
      isplitl [T53]; · iexact T53
      iexact T55
    iapply (Entails.of_eq (join_D c))
    isplitl [C21 C55 C57]
    · isplitl [C21]; · iexact C21
      isplitl [C55]; · iexact C55
      iexact C57
    isplitl [A21]; · iexact A21
    isplitl [A55]; · iexact A55
    iexact A57
  iintro ⟨HP, HO, HX, HZ, HD⟩
  ihave HX := (open_X c) $$ HX
  icases HX with ⟨A33, C55⟩
  ihave HZ := (open_Z c) $$ HZ
  icases HZ with ⟨A49, C53⟩
  ihave HD := (Entails.of_eq (open_D c)) $$ HD
  icases HD with ⟨A21, A55, A57⟩
  iapply (pipe_last V K X quiet_nil) $$ [HP HO]
  · isplitr; · iexact HK
    isplitl [HP]; · iexact HP
    iexact HO
  iintro ⟨Hl0, Hl1, Hw0, Hw1, Hg, Hout, Hov, HO⟩
  iapply (phaseE V K) $$ [HO C1 A1 C9 A9 C25 A25 C41 A41 C53 A53 C55 A55']
  · isplitr; · iexact HK
    isplitl [HO]; · iexact HO
    isplitl [C1 A1]
    · iapply (Entails.of_eq (join_E c 0 8 1))
      isplitl [C1]; · iexact C1
      iexact A1
    isplitl [C9 A9]
    · iapply (Entails.of_eq (join_E c 0 4 9))
      isplitl [C9]; · iexact C9
      iexact A9
    isplitl [C25 A25]
    · iapply (Entails.of_eq (join_E c 0 8 25))
      isplitl [C25]; · iexact C25
      iexact A25
    isplitl [C41 A41]
    · iapply (Entails.of_eq (join_E c 0 8 41))
      isplitl [C41]; · iexact C41
      iexact A41
    isplitl [C53 A53]
    · iapply (Entails.of_eq (join_E c 4 6 53))
      isplitl [C53]; · iexact C53
      iexact A53
    iapply (Entails.of_eq (join_E c 6 8 55))
    isplitl [C55]; · iexact C55
    iexact A55'
  iintro ⟨HO, H1, H9, H25, H41, H53, H55⟩
  ihave H1 := (Entails.of_eq (open_E V c 0 8 1)) $$ H1
  icases H1 with ⟨P1, A1⟩
  ihave H9 := (Entails.of_eq (open_E V c 0 4 9)) $$ H9
  icases H9 with ⟨-, A9⟩
  ihave H25 := (Entails.of_eq (open_E V c 0 8 25)) $$ H25
  icases H25 with ⟨P25, A25⟩
  ihave H41 := (Entails.of_eq (open_E V c 0 8 41)) $$ H41
  icases H41 with ⟨P41, A41⟩
  ihave H53 := (Entails.of_eq (open_E V c 4 6 53)) $$ H53
  icases H53 with ⟨P53, A53⟩
  ihave H55 := (Entails.of_eq (open_E V c 6 8 55)) $$ H55
  icases H55 with ⟨P55, A55'⟩
  iapply (body_ret c _)
  isplitr; · iexact HK
  isplitl [Hat HO A1 A9 A13 A21 A25 A33 A41 A49 A53 A55 A55' A57]
  · unfold bodyOut
    isplitl [Hat]; · iexact Hat
    isplitl [HO]; · iexact HO
    iapply (Entails.of_eq (cells (at1 c)).symm)
    isplitl [A1]; · iexact A1
    isplitl [A9]; · iexact A9
    isplitl [A13]; · iexact A13
    isplitl [A21]; · iexact A21
    isplitl [A25]; · iexact A25
    isplitl [A33]; · iexact A33
    isplitl [A41]; · iexact A41
    isplitl [A49]; · iexact A49
    isplitl [A53]; · iexact A53
    isplitl [A55]; · iexact A55
    isplitl [A55']; · iexact A55'
    iexact A57
  unfold memOut
  isplitl [Hov P25 P41 P53 P55]
  · iapply (ov_back V c)
    isplitl [Hov]; · iexact Hov
    isplitl [P25 P41]
    · iapply (Entails.of_eq (back_M V c))
      isplitl [P25]; · iexact P25
      iexact P41
    isplitl [P55]
    · iapply (Entails.of_eq (back_X V c)); iexact P55
    iapply (Entails.of_eq (back_Z V c)); iexact P53
  isplitl [P1]
  · iapply (Entails.of_eq (back_Y V c)); iexact P1
  isplitl [Hre]; · iexact Hre
  isplitl [Hl0]; · iexact Hl0
  isplitl [Hl1]; · iexact Hl1
  isplitl [Hw0]; · iexact Hw0
  isplitl [Hw1]; · iexact Hw1
  isplitl [Hg]; · iexact Hg
  iexact Hout

end Cert.KernelIdeal.Body
-- ==== Proof.KernelIdeal.Open.lean ====
module

public import proofs.«01_k».proof.Proof.KernelIdeal.Whole

@[expose] public section

set_option maxRecDepth 16384

noncomputable section

/-! The cells opened before the body and closed after it; the buffers cut before and joined after. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F)) (K : GSem nD τ sig → ℕ) (X : S1x2048.Idx → Elt F .f32)

/-! ## The kernel's own semaphores -/

/-- The kernel's own semaphores: all but the staging one. -/
abbrev osem0 (k : Fin 68) : SemLoc sig := .dma (dsem (1 + k.val))
theorem ownFacts : Pipeline.OwnSemFacts spec0 osem0 := by decide +kernel

abbrev sem0 (c : Dev nD) (n : ℕ) : sProp 𝕄 := semVal (cellN c n) 0

theorem own_eq (c : Dev nD) : (Pipeline.ownSems0 osem0 c : sProp 𝕄) = run 1 69 (sem0 c) := by
  have e : Finset.Ico 1 69 = (Finset.univ : Finset (Fin 68)).map ⟨fun k => 1 + k.val, fun a b h => Fin.ext (Nat.add_left_cancel h)⟩ := by decide
  unfold Pipeline.ownSems0 run
  rw [e, bigSep_map]
  rfl
theorem own_cut (c : Dev nD) : (run 1 69 (sem0 c) : sProp 𝕄)
    = iprop(run 1 65 (sem0 c) ∗ (sem0 c 65 ∗ sem0 c 66 ∗ sem0 c 67 ∗ sem0 c 68)) := by
  have h4 : Finset.Ico 65 69 = {65, 66, 67, 68} := by decide
  unfold run
  rw [run_cut (by omega : 1 ≤ 65) (by omega : 65 ≤ 69), h4, bigSep_insert (by decide), bigSep_insert (by decide), bigSep_insert (by decide), bigSep_singleton]
  rfl

/-! ## Opening and closing -/

theorem inv_of (c : Dev nD) : recs V K ⊢ run 1 65 (fun n => cellInv ER (Rd V) (K (cellN c n)) (cellN c n)) := by
  have h : (bigSep Finset.univ fun c : Dev nD => bigSep (Finset.Ico 1 65) fun n => cellInv ER (Rd V) (K (cellN c n)) (cellN c n))
      ⊢ (bigSep (Finset.Ico 1 65) fun n => cellInv ER (Rd V) (K (cellN c n)) (cellN c n) : sProp 𝕄) :=
    bigSep_elim (M := 𝕄) (Φ := fun c : Dev nD => bigSep (Finset.Ico 1 65) fun n => cellInv ER (Rd V) (K (cellN c n)) (cellN c n)) (Finset.mem_univ c)
  unfold recs run
  iintro ⟨-, H, -⟩
  iapply h
  iexact H

theorem open_all (c : Dev nD) :
    iprop(recs V K ∗ run 1 65 (fun n => openTok ER (cellN c n)) ∗ run 1 65 (sem0 c))
      ⊢ (|={Set.univ}=> iprop(run 1 65 (at0 c) ∗ opn c) : sProp 𝕄) := by
  have h : iprop(run 1 65 (fun n => cellInv ER (Rd V) (K (cellN c n)) (cellN c n)) ∗ run 1 65 (fun n => openTok ER (cellN c n)) ∗ run 1 65 (sem0 c))
      ⊢ (|={Set.univ}=> bigSep (Finset.Ico 1 65) fun n => iprop(at0 c n ∗ reached ER (cellN c n) 0) : sProp 𝕄) := by
    unfold run
    rw [← bigSep_sep', ← bigSep_sep']
    refine BIBase.Entails.trans ?_ (bigSep_fupd _ _)
    exact each fun n _ => Rounds.cell_open ER (Rd V) (Set.mem_univ (K (cellN c n)))
  rw [bigSep_sep'] at h
  iintro ⟨#HR, Ho, Hs⟩
  iapply h
  isplitr
  · iapply (inv_of V K c); iexact HR
  isplitl [Ho]; · iexact Ho
  iexact Hs

theorem close_all (c : Dev nD) :
    iprop(recs V K ∗ run 1 65 (at1 c)) ⊢ (|={Set.univ}=> run 1 65 (sem0 c) : sProp 𝕄) := by
  have h : iprop(run 1 65 (fun n => cellInv ER (Rd V) (K (cellN c n)) (cellN c n)) ∗ run 1 65 (at1 c))
      ⊢ (|={Set.univ}=> run 1 65 (sem0 c) : sProp 𝕄) := by
    unfold run
    rw [← bigSep_sep']
    refine BIBase.Entails.trans ?_ (bigSep_fupd _ _)
    exact each fun n _ => Rounds.cell_close ER (Rd V) (Set.mem_univ (K (cellN c n))) id (duties_later V (cellN c n))
  iintro ⟨#HR, Ha⟩
  iapply h
  isplitr
  · iapply (inv_of V K c); iexact HR
  iexact Ha

theorem close_bar (c : Dev nD) :
    iprop(recs V K ∗ atPos ER (barCell c) 1 ∅ 0) ⊢ (|={Set.univ}=> semVal (barCell c) 0 : sProp 𝕄) := by
  have h : iprop(cellInv ER (Rd V) (K (barCell c)) (barCell c) ∗ atPos ER (barCell c) 1 ∅ 0) ⊢ (|={Set.univ}=> semVal (barCell c) 0 : sProp 𝕄) :=
    Rounds.cell_close ER (Rd V) (Set.mem_univ (K (barCell c))) id (duties_later V (barCell c))
  have h0 : (bigSep Finset.univ fun c : Dev nD => cellInv ER (Rd V) (K (barCell c)) (barCell c))
      ⊢ (cellInv ER (Rd V) (K (barCell c)) (barCell c) : sProp 𝕄) :=
    bigSep_elim (M := 𝕄) (Φ := fun c : Dev nD => cellInv ER (Rd V) (K (barCell c)) (barCell c)) (Finset.mem_univ c)
  unfold recs
  iintro ⟨⟨#HR, -, -⟩, Ha⟩
  iapply h
  isplitr
  · iapply h0
    iexact HR
  iexact Ha

/-! ## The buffers -/

def S4' (k : Fin 4) : Finset S1024x2048.Idx := (qdChunk k).view.set
theorem mem_S4' {k : Fin 4} {i : S1024x2048.Idx} : i ∈ S4' k ↔ 256 * k.val ≤ (i 0).val ∧ (i 0).val < 256 * k.val + 256 := by
  have e : S4' k = (Rect.unit (s := S1024x2048) ![256 * k.val, 0] S256x2048.size (inb4 k)).set := View.set_slice_whole _ _
  rw [e, Rect.mem_set_unit]
  constructor
  · exact fun h => h 0
  · intro h a
    match a with
    | 0 => exact h
    | 1 => exact ⟨Nat.zero_le _, (i 1).isLt.trans_le (Nat.le_add_left _ _)⟩
theorem S4'_disj : ∀ n ∈ Finset.range 4, ∀ m ∈ Finset.range 4, n ≠ m → Disjoint (S4' (f4 n)) (S4' (f4 m)) := by
  intro n hn m hm hne
  rw [Finset.mem_range] at hn hm
  rw [Finset.disjoint_left]
  intro i h1 h2
  rw [mem_S4'] at h1 h2
  have e1 : (f4 n).val = n % 4 := rfl
  have e2 : (f4 m).val = m % 4 := rfl
  omega
theorem S4'_cover : (Finset.range 4).biUnion (fun n => S4' (f4 n)) = Finset.univ := by
  refine Finset.eq_univ_iff_forall.mpr fun i => Finset.mem_biUnion.mpr ?_
  have h : (i 0).val < 1024 := (i 0).isLt
  refine ⟨(i 0).val / 256, Finset.mem_range.mpr (by omega), mem_S4'.mpr ?_⟩
  have e1 : (f4 ((i 0).val / 256)).val = ((i 0).val / 256) % 4 := rfl
  omega

abbrev qdW (c : Dev nD) : sProp 𝕄 := ((c : Thread nD τ).loc main_v25) ↦{fullShare} V c main_v25
theorem qd_split (c : Dev nD) : qdW V c ⊢ run 0 4 (fun k => qdPt V c (f4 k)) := by
  have h := pointsTo_biUnion (Val := Elt F) (Ix := Unit) (Name := ℕ) (U := UU) (Lvl := ℕ) (ℓ := (c : Thread nD τ).loc main_v25) (q := fullShare) (f := V c main_v25)
    (Finset.range 4) (fun n => S4' (f4 n)) S4'_disj
  rw [S4'_cover] at h
  refine (Entails.of_eq h).trans ?_
  rw [Finset.range_eq_Ico]
  refine each fun n _ => ?_
  unfold qdPt S4'
  exact BI.Entails.refl _

abbrev anyOf (c : Dev nD) (r : Ref sig .tc) : sProp 𝕄 := iprop(∃ f : Buf (Elt F) ((c : Thread nD τ).loc r), ((c : Thread nD τ).loc r) ↦{fullShare} f)
/-- The scratch buffers, -/
abbrev scratch (c : Dev nD) : sProp 𝕄 := iprop(anyOf c cc0_scratch0 ∗ anyOf c cc0_scratch1 ∗ anyOf c cc0_scratch12 ∗ anyOf c cc0_scratch13)
/-- the local copies' semaphores. -/
abbrev local4 (c : Dev nD) : sProp 𝕄 := iprop(sem0 c 65 ∗ sem0 c 66 ∗ sem0 c 67 ∗ sem0 c 68)

theorem mem_split (c : Dev nD) :
    iprop(scratch c ∗ local4 c ∗ slabW V c ∗ resW V c ∗ qdW V c ∗ anyOf c main_v27 ∗ gam c X) ⊢ memIn V X c := by
  unfold memIn ldFree wrFree
  iintro ⟨⟨⟨%f0, H0⟩, ⟨%f1, H1⟩, ⟨%f2, H2⟩, ⟨%f3, H3⟩⟩, ⟨S5, S6, S7, S8⟩, Hsl, Hre, Hqd, ⟨%fo, Ho⟩, Hg⟩
  ihave H2 := (lv_split c f2) $$ H2
  icases H2 with ⟨H2, H2'⟩
  ihave H3 := (wv_split c f3) $$ H3
  icases H3 with ⟨H3, H3'⟩
  isplitl [H0]; · iapply (ov_split c f0); iexact H0
  isplitl [H1]; · iapply (sv_split c f1); iexact H1
  isplitl [Hqd]; · iapply (qd_split V c); iexact Hqd
  isplitl [Hsl]; · iexact Hsl
  isplitl [Hre]; · iexact Hre
  isplitl [H2 S5]
  · isplitl [H2]; · iexact H2
    iexact S5
  isplitl [H2' S6]
  · isplitl [H2']; · iexact H2'
    iexact S6
  isplitl [H3 S7]
  · isplitl [H3]; · iexact H3
    iexact S7
  isplitl [H3' S8]
  · isplitl [H3']; · iexact H3'
    iexact S8
  isplitl [Hg]; · iexact Hg
  iapply (out_split c fo); iexact Ho

theorem mem_join (c : Dev nD) (f₁ : (cc0_scratch1 : Ref sig .tc).ty.Contents (Elt F)) :
    memOut V X c ⊢ iprop(scratch c ∗ local4 c ∗ resW V c ∗ (((c : Thread nD τ).loc main_v27) ↦{fullShare} OUT V X c) ∗ gam c X) := by
  unfold memOut ldFree wrFree
  iintro ⟨H0, H1, Hre, ⟨H2, S5⟩, ⟨H2', S6⟩, ⟨H3, S7⟩, ⟨H3', S8⟩, Hg, Ho⟩
  isplitl [H0 H1 H2 H2' H3 H3']
  · isplitl [H0]; · iapply (ov_join V c); iexact H0
    isplitl [H1]; · iapply (sv_join c f₁); iexact H1
    isplitl [H2 H2']
    · iapply (lv_join c)
      isplitl [H2]; · iexact H2
      iexact H2'
    iapply (wv_join c)
    isplitl [H3]; · iexact H3
    iexact H3'
  isplitl [S5 S6 S7 S8]
  · isplitl [S5]; · iexact S5
    isplitl [S6]; · iexact S6
    isplitl [S7]; · iexact S7
    iexact S8
  isplitl [Hre]; · iexact Hre
  isplitl [Ho]; · iapply (out_join V X c); iexact Ho
  iexact Hg

/-! ## The body, with its cells open before and closed after -/

/-- What the region is entered with, its cells open. -/
def opened (c : Dev nD) : sProp 𝕄 := iprop(∃ K, known V K c ∗ inBar c ∗ toks c ∗ crds c ∗ run 1 65 (at0 c))

theorem body_all {c : Dev nD} (hq : HostRows V c) (f₁ : (cc0_scratch1 : Ref sig .tc).ty.Contents (Elt F)) :
    iprop(opened V c ∗ owe c (lAll c) ∗ scratch c ∗ local4 c ∗ slabW V c ∗ resW V c ∗ qdW V c ∗ anyOf c main_v27 ∗ gam c X)
      ⊢ WP c (all (canon c)) (fun _ => iprop(semVal (barCell c) 0 ∗ run 1 69 (sem0 c) ∗ owe c [] ∗ scratch c ∗ resW V c
          ∗ (((c : Thread nD τ).loc main_v27) ↦{fullShare} OUT V X c) ∗ gam c X)) := by
  have hpost (K : GSem nD τ sig → ℕ) : iprop(known V K c ∗ bodyOut c ∗ memOut V X c)
      ⊢ (|={Set.univ}=> iprop(semVal (barCell c) 0 ∗ run 1 69 (sem0 c) ∗ owe c [] ∗ scratch c ∗ resW V c
          ∗ (((c : Thread nD τ).loc main_v27) ↦{fullShare} OUT V X c) ∗ gam c X) : sProp 𝕄) := by
    unfold bodyOut known
    rw [own_cut]
    iintro ⟨⟨#HR, -⟩, ⟨Hb, HO, Ha⟩, HM⟩
    ihave HM := (mem_join V X c f₁) $$ HM
    icases HM with ⟨Hs, H4, Hre, Ho, Hg⟩
    imod (close_all V K c) $$ [Ha] with Ha
    · isplitr; · iexact HR
      iexact Ha
    imod (close_bar V K c) $$ [Hb] with Hb
    · isplitr; · iexact HR
      iexact Hb
    imodintro
    isplitl [Hb]; · iexact Hb
    isplitl [Ha H4]
    · isplitl [Ha]; · iexact Ha
      iexact H4
    isplitl [HO]; · iexact HO
    isplitl [Hs]; · iexact Hs
    isplitl [Hre]; · iexact Hre
    isplitl [Ho]; · iexact Ho
    iexact Hg
  have hrun (K : GSem nD τ sig → ℕ) : iprop(known V K c ∗ bodyIn c ∗ memIn V X c)
      ⊢ WP c (all (canon c)) (fun _ => iprop(semVal (barCell c) 0 ∗ run 1 69 (sem0 c) ∗ owe c [] ∗ scratch c ∗ resW V c
          ∗ (((c : Thread nD τ).loc main_v27) ↦{fullShare} OUT V X c) ∗ gam c X))  := by
    have h := body_run V K X hq
    revert h
    generalize all (F := F) (canon c) = p
    intro h
    exact BIBase.Entails.trans h (BIBase.Entails.trans
      (wp_mono frame (wpE (defs₀ (F := F)) 𝒱₀ (c : Thread nD τ) none) Set.univ fun _ => hpost K) (wp_fupd _ _ _ _ _))
  unfold opened
  iintro ⟨⟨%K, #HK, Hb, Ht, Hc, Ha⟩, HO, Hs, H4, Hsl, Hre, Hqd, Ho, Hg⟩
  iapply (hrun K)
  isplitr; · iexact HK
  isplitl [Hb Ht Hc Ha HO]
  · unfold bodyIn
    isplitl [Hb]; · iexact Hb
    isplitl [HO]; · iexact HO
    isplitl [Ht]; · iexact Ht
    isplitl [Hc]; · iexact Hc
    iexact Ha
  iapply (mem_split V X c)
  isplitl [Hs]; · iexact Hs
  isplitl [H4]; · iexact H4
  isplitl [Hsl]; · iexact Hsl
  isplitl [Hre]; · iexact Hre
  isplitl [Hqd]; · iexact Hqd
  isplitl [Ho]; · iexact Ho
  iexact Hg

end Cert.KernelIdeal.Body
-- ==== Proof.KernelIdeal.Region.lean ====
module

public import proofs.«01_k».proof.Proof.KernelIdeal.Open
public import proofs.«01_k».proof.Proof.Gen.KernelIdeal.Regions
public import proofs.«01_k».proof.Proof.Gen.KernelIdeal.Points

@[expose] public section

set_option maxRecDepth 16384

noncomputable section

/-! The kernel's region: what it is entered with, its body at its one point, what it leaves. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The staged row of weights. -/
def gamX (c : Dev nD) : S1x2048.Idx → Elt F .f32 := ((cfg0.win 0).blk t0_0).view.read (Elt F) (V1 m c main_v26)

/-- The result. -/
abbrev res (c : Dev nD) : (main_v27 : Ref sig .tc).ty.Contents (Elt F) := OUT (V1 m) (gamX m c) c

/-! ## The buffers the region reads and writes -/

abbrev pt (c : Dev nD) (r : Ref sig .tc) (f : Buf (Elt F) ((c : Thread nD τ).loc r)) : sProp 𝕄 := ((c : Thread nD τ).loc r) ↦{fullShare} f

/-- The buffers used, the staged one apart. -/
abbrev used : Finset (DevRef τ sig) :=
  {Proc.devRef .tc main_v1, Proc.devRef .tc main_arg1, Proc.devRef .tc main_v25, Proc.devRef .tc main_v27, Proc.devRef .tc main_arg0, Proc.devRef .tc main_arg2}
abbrev arrs : Finset (DevRef τ sig) := Pipeline.arrRefs (τ := τ) spec0

theorem arrs_eq : arrs = {Proc.devRef .tc main_v26} := by decide
theorem arrs_sub : arrs ⊆ Pipeline.ucRefs τ sig := by decide
theorem used_sub : used ⊆ Pipeline.ucRefs τ sig \ arrs := by
  rw [arrs_eq]; decide

theorem held_used (c : Dev nD) (W : Valuation τ sig (Elt F)) : (StableHlo.held (c : Thread nD τ) used W : sProp 𝕄)
    = iprop(pt c main_v1 (W main_v1) ∗ pt c main_arg1 (W main_arg1) ∗ pt c main_v25 (W main_v25) ∗ pt c main_v27 (W main_v27)
      ∗ pt c main_arg0 (W main_arg0) ∗ pt c main_arg2 (W main_arg2)) := by
  unfold StableHlo.held used
  rw [bigSep_insert (by decide), bigSep_insert (by decide), bigSep_insert (by decide), bigSep_insert (by decide), bigSep_insert (by decide), bigSep_singleton]
  rfl

theorem held_cut (c : Dev nD) (W : Valuation τ sig (Elt F)) : (StableHlo.held (c : Thread nD τ) (Pipeline.ucRefs τ sig) W : sProp 𝕄)
    ⊢ iprop(StableHlo.held (c : Thread nD τ) (arrs) W ∗ pt c main_v1 (W main_v1) ∗ pt c main_arg1 (W main_arg1) ∗ pt c main_v25 (W main_v25)
      ∗ pt c main_v27 (W main_v27) ∗ pt c main_arg0 (W main_arg0) ∗ pt c main_arg2 (W main_arg2)) := by
  rw [StableHlo.held_sub_split _ (arrs_sub) W, StableHlo.held_sub_split _ (used_sub) W, held_used]
  iintro ⟨Ha, Hu, -⟩
  isplitl [Ha]; · iexact Ha
  iexact Hu

/-! ## The proof data -/

/-- The exchange's cells before they are open, with the right to open them. -/
def start (c : Dev nD) : sProp 𝕄 :=
  iprop(∃ K : GSem nD τ sig → ℕ, (bigSep Finset.univ fun c : Dev nD => cellInv ER (Rd (V1 m)) (K (barCell c)) (barCell c))
    ∗ (bigSep Finset.univ fun c : Dev nD => bigSep (Finset.Ico 1 65) fun n => cellInv ER (Rd (V1 m)) (K (cellN c n)) (cellN c n))
    ∗ inBar c ∗ toks c ∗ crds c ∗ run 1 65 (fun n => openTok ER (cellN c n)))

/-- Before the point, -/
def inPt (c : Dev nD) : sProp 𝕄 :=
  iprop(opened (V1 m) c ∗ local4 c ∗ slabW (V1 m) c ∗ resW (V1 m) c ∗ qdW (V1 m) c ∗ anyOf c main_v27)
/-- and after it. -/
def outY (c : Dev nD) : sProp 𝕄 := iprop(semVal (barCell c) 0 ∗ resW (V1 m) c ∗ pt c main_v27 (res m c))

def dat0 (c : Dev nD) : Dat τ (Elt F) Unit ℕ UU ℕ cfg0 c where
  A w := V1 m c (Proc.devRef .tc (Pipeline.arrRef spec0 w))
  after w _ := match w with
    | ⟨0, _⟩ => gamX m c
    | ⟨_ + 1, h⟩ => absurd h (Nat.not_lt.2 (Nat.le_add_left _ _))
  Φ t := match t with
    | ⟨0, _⟩ => iprop(inPt m c ∗ scratch c)
    | ⟨_ + 1, _⟩ => iprop(outY m c ∗ run 1 69 (sem0 c) ∗ scratch c)
  q _ := fullShare
  owed t := match t with
    | ⟨0, _⟩ => owed (lAll c)
    | ⟨_ + 1, _⟩ => 0

def pdats (p : Fin 1) (c : Dev nD) : Dat τ (Elt F) Unit ℕ UU ℕ (cfgs p) c := match p with
  | ⟨0, _⟩ => dat0 m c
  | ⟨_ + 1, h⟩ => absurd h (Nat.not_lt.2 (Nat.le_add_left _ _))

theorem owesAt_in (c : Dev nD) (t : Fin (cfg0.N + 1)) (l : Debt) (h0 : (dat0 m c).owed t = owed l) :
    owe c l ⊢ (dat0 m c).owesAt () t := by
  unfold owe Dat.owesAt Pipeline.owesWithin Dat.bound
  rw [h0]
  iintro ⟨%W, HO⟩
  iexists W
  isplitr; · ipureintro; exact fun _ _ => Or.inl trivial
  iexact HO
theorem owesAt_out (c : Dev nD) (t : Fin (cfg0.N + 1)) (l : Debt) (h0 : (dat0 m c).owed t = owed l) :
    (dat0 m c).owesAt () t ⊢ owe c l := by
  unfold owe Dat.owesAt Pipeline.owesWithin
  rw [h0]
  iintro ⟨%W, -, HO⟩
  iexists W
  iexact HO

theorem owes_none (c : Dev nD) : (pdats m 0 c).owesAt () (Fin.last _) ⊢ iprop(∃ W, owes (c : Thread nD τ) (0 : CellTallies nD τ sig Unit) W) :=
  owesAt_out m c (Fin.last _) [] rfl

theorem before0 (c : Dev nD) (d) : (dat0 m c).before 0 t0_0 d = gamX m c := by
  rw [(dat0 m c).before_fetched 0 t0_0 (fetch0_0 t0_0) d]
  rfl

/-- The body, on the device it asks for. -/
theorem prog_wp (c : Dev nD) (Q : PUnit → sProp 𝕄) : WP c (all (canon c)) Q ⊢ WP c (bodyAt0 t0_0 : P F) Q := by
  rw [bodyAt0_eq, ← printedEnv_eq]
  generalize hp : (fun d : Dev nD => all (F := F) (printedEnv d)) = p
  have e : all (F := F) (printedEnv c) = p c := by rw [← hp]
  rw [e]
  exact Entails.of_eq (wp_deviceId 𝒱₀ (c : Thread nD τ) none Set.univ).symm

theorem body_at (c : Dev nD) (hq : HostRows (V1 m) c) (f₁ : (cc0_scratch1 : Ref sig .tc).ty.Contents (Elt F)) :
    BodyObligation (dat0 m c) (defs₀ (F := F)) 𝒱₀ () Set.univ := fun t => by
  obtain rfl := fin_N0 t
  rw [bigSep_W0, bigSep_W0]
  have hin : iprop((dat0 m c).Φ t0_0.castSucc ∗ (dat0 m c).owesAt () t0_0.castSucc
      ∗ ∃ d, owns (c : Thread nD τ) mGam fullShare ((dat0 m c).before 0 t0_0 d))
      ⊢ iprop(opened (V1 m) c ∗ owe c (lAll c) ∗ scratch c ∗ local4 c ∗ slabW (V1 m) c ∗ resW (V1 m) c ∗ qdW (V1 m) c ∗ anyOf c main_v27 ∗ gam c (gamX m c)) := by
    rw [show (dat0 m c).Φ t0_0.castSucc = iprop(inPt m c ∗ scratch c) from rfl]
    unfold inPt
    iintro ⟨⟨⟨Hk, H4, Hsl, Hre, Hqd, Ho⟩, Hs⟩, HO, ⟨%d, Hg⟩⟩
    rw [before0]
    isplitl [Hk]; · iexact Hk
    isplitl [HO]; · iapply (owesAt_out m c t0_0.castSucc (lAll c) rfl); iexact HO
    isplitl [Hs]; · iexact Hs
    isplitl [H4]; · iexact H4
    isplitl [Hsl]; · iexact Hsl
    isplitl [Hre]; · iexact Hre
    isplitl [Hqd]; · iexact Hqd
    isplitl [Ho]; · iexact Ho
    iexact Hg
  have hout : iprop(semVal (barCell c) 0 ∗ run 1 69 (sem0 c) ∗ owe c [] ∗ scratch c ∗ resW (V1 m) c ∗ pt c main_v27 (res m c) ∗ gam c (gamX m c))
      ⊢ iprop((dat0 m c).Φ t0_0.succ ∗ (dat0 m c).owesAt () t0_0.succ ∗ owns (c : Thread nD τ) mGam fullShare ((dat0 m c).after 0 t0_0)) := by
    rw [show (dat0 m c).Φ t0_0.succ = iprop(outY m c ∗ run 1 69 (sem0 c) ∗ scratch c) from rfl]
    unfold outY
    iintro ⟨Hb, Hc, HO, Hs, Hre, Ho, Hg⟩
    isplitl [Hb Hc Hs Hre Ho]
    · isplitl [Hb Hre Ho]
      · isplitl [Hb]; · iexact Hb
        isplitl [Hre]; · iexact Hre
        iexact Ho
      isplitl [Hc]; · iexact Hc
      iexact Hs
    isplitl [HO]; · iapply (owesAt_in m c t0_0.succ [] rfl); iexact HO
    iexact Hg
  refine BIBase.Entails.trans hin ?_
  refine BIBase.Entails.trans (body_all (V1 m) (gamX m c) hq f₁) ?_
  refine BIBase.Entails.trans (prog_wp c _) ?_
  have e : (defs₀ (F := F)) .tc cfg0.body (cfg0.bodyArgs t0_0 (cfg0.slots t0_0)) = bodyAt0 t0_0 := rfl
  rw [e]
  generalize (bodyAt0 t0_0 : P F) = p
  exact wp_mono frame (wpE (defs₀ (F := F)) 𝒱₀ (c : Thread nD τ) none) Set.univ fun _ => hout

/-! ## The region's record -/

/-- What the region is entered with beside the buffers, -/
abbrev restIn (c : Dev nD) : sProp 𝕄 := iprop(start m c ∗ owe c (lAll c))
/-- and all it leaves. -/
def endAt (c : Dev nD) : sProp 𝕄 :=
  iprop((pt c main_arg0 (V1 m c main_arg0) ∗ pt c main_arg1 (V1 m c main_arg1) ∗ pt c main_arg2 (V1 m c main_arg2))
    ∗ pt c main_v27 (res m c) ∗ semVal (barCell c) 0)

theorem arrays_at (c : Dev nD) : (StableHlo.held (c : Thread nD τ) arrs (V1 m c) : sProp 𝕄)
    ⊢ (pdats m 0 c).arrays ((pdats m 0 c).arrAt · 0) := by
  refine Entails.of_eq (Eq.symm ?_)
  exact Pipeline.arrays_held (pcfgs (F := F)) adm (pdats m) 0 (launch0.toP) c
    (fun w => by match w with | ⟨0, _⟩ => rfl | ⟨_ + 1, h⟩ => exact absurd h (Nat.not_lt.2 (Nat.le_add_left _ _)))
    _ (V1 m c) (fun w => rfl)

theorem entry (c : Dev nD) :
    iprop((StableHlo.held (c : Thread nD τ) (Pipeline.ucRefs τ sig) (V1 m c) ∗ restIn m c) ∗ Pipeline.ownSems0 osem0 c ∗ levAts L lv)
      ⊢ (|={Set.univ}=> iprop(StableHlo.held (c : Thread nD τ) arrs (V1 m c) ∗ owe c (lAll c) ∗ inPt m c ∗ (pt c main_arg0 (V1 m c main_arg0) ∗ pt c main_arg2 (V1 m c main_arg2))) : sProp 𝕄) := by
  rw [own_eq, own_cut]
  unfold restIn start inPt opened
  iintro ⟨⟨Hh, ⟨%K, #HB, #HN, Hb, Ht, Hc, Ho⟩, HO⟩, ⟨Hs, H4⟩, #HL⟩
  ihave Hh := (held_cut c (V1 m c)) $$ Hh
  icases Hh with ⟨Harr, H1, Ha1, Hqd, Hout, Ha0, Ha2⟩
  imod (open_all (V1 m) K c) $$ [Ho Hs] with ⟨Hat, #Hop⟩
  · isplitr
    · unfold recs
      isplitr; · iexact HB
      isplitr; · iexact HN
      iexact HL
    isplitl [Ho]; · iexact Ho
    iexact Hs
  imodintro
  isplitl [Harr]; · iexact Harr
  isplitl [HO]; · iexact HO
  isplitl [Hb Ht Hc Hat H4 H1 Ha1 Hqd Hout]
  · isplitl [Hb Ht Hc Hat]
    · iexists K
      isplitr
      · unfold known recs
        isplitr
        · isplitr; · iexact HB
          isplitr; · iexact HN
          iexact HL
        iexact Hop
      isplitl [Hb]; · iexact Hb
      isplitl [Ht]; · iexact Ht
      isplitl [Hc]; · iexact Hc
      iexact Hat
    isplitl [H4]; · iexact H4
    isplitl [H1]; · iexact H1
    isplitl [Ha1]; · iexact Ha1
    isplitl [Hqd]; · iexact Hqd
    iexists (V1 m c main_v27); iexact Hout
  isplitl [Ha0]; · iexact Ha0
  iexact Ha2

variable [hne : Nonempty (Elt F .bf16)]

set_option backward.isDefEq.respectTransparency.types false in
def region0 (hq : ∀ c, HostRows (V1 m) c) : Pipeline.RegionSeg (pcfgs (F := F)) adm (pdats m) () defs₀ 𝒱₀ L lv 0 where
  win := winFacts0.to₀
  block_pos := block_pos0
  stage_whole := stage_whole0
  K := Fin 68
  osem := osem0
  ho := ownFacts
  hbody c := (body_at m c (hq c) (fun _ => Classical.arbitrary _)).loose
  hwaits c := Pipeline.cellsWaits_intro _ (pdats m) () 0 c fun w s t => by
    match w with
    | ⟨0, _⟩ =>
      have h0 : lvS (.dma (((Pipeline.pin (pcfgs (F := F)) adm 0).win 0).sem s)) ≤ 0 := by
        have h : ∀ s : Fin (spec0 0).nbuf, lvS (.dma ((spec0 0).sem s)) ≤ 0 := by decide
        exact h s
      match t with
      | ⟨0, _⟩ => exact mayWait c _ 0 (lAll c) h0 (lAll_lv c)
      | ⟨_ + 1, _⟩ => exact mayWait c _ 0 [] h0 (fun p hp => absurd hp List.not_mem_nil)
    | ⟨_ + 1, h⟩ => exact absurd h (Nat.not_lt.2 (Nat.le_add_left _ _))
  pre c := iprop(StableHlo.held (c : Thread nD τ) (Pipeline.ucRefs τ sig) (V1 m c) ∗ restIn m c)
  post c := iprop(endAt m c ∗ ∃ W, owes (c : Thread nD τ) (0 : CellTallies nD τ sig Unit) W)
  X c := inPt m c
  Y c := outY m c
  Z c := iprop(pt c main_arg0 (V1 m c main_arg0) ∗ pt c main_arg2 (V1 m c main_arg2))
  hentry c := by
    rw [Pipeline.prefHeld_of_none _ rfl]
    refine BIBase.Entails.trans (entry m c) (fupd_mono ?_)
    iintro ⟨Ha, HO, HX, HZ⟩
    isplitl [Ha]; · iapply (arrays_at m c); iexact Ha
    isplitr; · iempintro
    isplitl [HO]; · iapply (owesAt_in m c 0 (lAll c) rfl); iexact HO
    isplitl [HX]; · iexact HX
    iexact HZ
  hin c := by
    rw [show (pdats m 0 c).Φ 0 = iprop(inPt m c ∗ scratch c) from rfl]
    rw [show (Pipeline.scopedRest (Pipeline.pin (pcfgs (F := F)) adm 0).spec c : sProp 𝕄) = scratch c from scopedRest0_eq c]
    iintro ⟨HX, -, Hs⟩
    isplitl [HX]; · iexact HX
    iexact Hs
  hout c := by
    rw [show (pdats m 0 c).Φ (Fin.last _) = iprop(outY m c ∗ run 1 69 (sem0 c) ∗ scratch c) from rfl, own_eq]
    rw [show (Pipeline.scopedRest (Pipeline.pin (pcfgs (F := F)) adm 0).spec c : sProp 𝕄) = scratch c from scopedRest0_eq c]
  hexit c := by
    unfold outY endAt
    iintro ⟨-, HO, ⟨Hb, Ha1, Ho⟩, Ha0, Ha2⟩
    imodintro
    isplitr [HO]
    · isplitl [Ha0 Ha1 Ha2]
      · isplitl [Ha0]; · iexact Ha0
        isplitl [Ha1]; · iexact Ha1
        iexact Ha2
      isplitl [Ho]; · iexact Ho
      iexact Hb
    iapply (owes_none m c); iexact HO

end Cert.KernelIdeal.Body
-- ==== Proof.KernelIdeal.Credit.lean ====
module

public import proofs.«01_k».proof.Proof.KernelIdeal.Region

@[expose] public section

set_option maxRecDepth 16384

noncomputable section

/-! What the devices owe one another, counted cell by cell: the credit each starts from. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Every payment is its cell's amount -/

def Fair (l : Debt) : Prop := ∀ p ∈ l, p.2 = amountOf p.1.2

theorem fair_cell (d : Dev nD) (n : ℕ) : Fair [(cellN d n, NN)] := fun p hp => by rw [List.mem_singleton.mp hp]; rfl
theorem fair_debts {f : ℕ → Debt} (hf : ∀ j, Fair (f j)) {l : Debt} (hl : Fair l) (m i : ℕ) : Fair (debts f m i l) := fun p hp => by
  rcases mem_debts hp with ⟨j, -, -, h⟩ | h
  · exact hf j p h
  · exact hl p h
theorem fair_dXZ (c : Dev nD) (k : ℕ) : Fair (dXZ c k) := by
  unfold dXZ
  split
  · exact fair_cell _ _
  split
  · exact fair_cell _ _
  · exact fun p hp => absurd hp List.not_mem_nil
theorem fair_dM (c : Dev nD) (k : ℕ) : Fair (dM c k) := fun p hp => by
  unfold dM at hp
  rcases List.mem_cons.mp hp with rfl | hp
  · rfl
  · rw [List.mem_singleton.mp hp]; rfl
theorem fair_all (c : Dev nD) : Fair (lAll c) := fun p hp => by
  unfold lAll at hp
  rcases List.mem_cons.mp hp with rfl | hp
  · rfl
  rcases List.mem_cons.mp hp with rfl | hp
  · rfl
  rcases List.mem_cons.mp hp with rfl | hp
  · rfl
  refine fair_debts (fun j => fair_cell _ _) (fair_debts (fun j => fair_cell _ _) (fair_debts (fair_dM c) (fair_debts (fair_dXZ c) ?_ _ _) _ _) _ _) _ _ p hp
  exact fun p hp => absurd hp List.not_mem_nil

/-! ## Counting -/

/-- Which device and semaphore each payment is for. -/
def goals (c : Dev nD) : List (Dev nD × SemLoc sig) := (lAll c).map fun p => (p.1.1.1, p.1.2)
def times (c d : Dev nD) (sm : SemLoc sig) : ℕ := (goals c).count (d, sm)

theorem owed_times {l : Debt} (hl : Fair l) (ht : ∀ p ∈ l, p.1.1.2 = .tc) (d : Dev nD) (sm : SemLoc sig) :
    owed l ((d : Thread nD τ), sm) () = amountOf sm * (l.map fun p => (p.1.1.1, p.1.2)).count (d, sm) := by
  induction l with
  | nil => rfl
  | cons p l ih =>
    have ih := ih (fun q hq => hl q (List.mem_cons_of_mem _ hq)) (fun q hq => ht q (List.mem_cons_of_mem _ hq))
    have hp := hl p List.mem_cons_self
    have hq := ht p List.mem_cons_self
    rw [List.map_cons, List.count_cons, Nat.mul_add, ← ih]
    show owed l _ () + tallyAt p.1 () p.2 _ () = _
    rw [tallyAt_apply]
    obtain ⟨⟨⟨d', q⟩, sm'⟩, v⟩ := p
    dsimp only at hp hq
    subst hq
    by_cases h : d' = d ∧ sm' = sm
    · obtain ⟨rfl, rfl⟩ := h
      rw [if_pos ⟨rfl, rfl⟩, if_pos (by simp), hp, Nat.mul_one]
    · rw [if_neg (fun e => h ⟨(congrArg (fun g : GSem nD τ sig => g.1.1) e.1).symm, (congrArg (fun g : GSem nD τ sig => g.2) e.1).symm⟩),
        if_neg (fun e => h (by simpa using e)), Nat.mul_zero]

theorem O₀_times (c d : Dev nD) (sm : SemLoc sig) : O₀ c ((d : Thread nD τ), sm) () = amountOf sm * times c d sm :=
  owed_times (fair_all c) (fun p hp => (lAll_lv c p hp).1) d sm

/-- The cells filled from another device, by number. -/
abbrev farF : Finset (Fin 69) := Finset.univ.filter fun n => 13 ≤ n.val ∧ n.val < 25 ∨ 33 ≤ n.val ∧ n.val < 41 ∨ 49 ≤ n.val ∧ n.val < 57 ∨ 59 ≤ n.val ∧ n.val < 61 ∨ 63 ≤ n.val ∧ n.val < 65

theorem times_far : ∀ d : Dev nD, ∀ n ∈ farF, ∑ c : Dev nD, times c d (.dma n) = 1 := by decide +kernel
theorem times_bar : ∀ d : Dev nD, ∑ c : Dev nD, times c d (.reg bar) = 3 := by decide +kernel

end Cert.KernelIdeal.Body
-- ==== Proof.KernelIdeal.Launch.lean ====
module

public import proofs.«01_k».proof.Proof.KernelIdeal.Credit

@[expose] public section

set_option maxRecDepth 16384

noncomputable section

/-! The launch: the cells made, their duties' tokens and credit dealt, and the whole run. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ) (ρ : Dev nD → PrngReg)

/-! ## Credit -/

theorem credit_at (c : Dev nD) (sm : SemLoc sig) (k : ℕ) (h : amountOf sm * (∑ d : Dev nD, times d c sm) = k) :
    tallyOn ((c : Thread nD τ), sm) (launchCredit (Pipeline.owing O₀) 0 ((c : Thread nD τ), sm)) = (tallyAt ((c : Thread nD τ), sm) () k : CellTallies nD τ sig Unit) := by
  unfold tallyAt
  refine congrArg _ (Finsupp.ext fun u => ?_)
  cases u
  rw [Pipeline.launchCredit_owing, Finsupp.single_eq_same, Finset.sum_congr rfl fun d _ => O₀_times d c sm, ← Finset.mul_sum, h]

/-- The far cells' numbers. -/
abbrev farN : Finset ℕ := Finset.Ico 13 21 ∪ (Finset.Ico 21 25 ∪ (Finset.Ico 33 41 ∪ (Finset.Ico 49 57 ∪ (Finset.Ico 59 61 ∪ Finset.Ico 63 65))))

theorem crds_eq (c : Dev nD) : (bigSep farN (crd c) : sProp 𝕄) = crds c := by
  unfold crds run
  rw [bigSep_union (by decide), bigSep_union (by decide), bigSep_union (by decide), bigSep_union (by decide), bigSep_union (by decide),
    ← run_from (crd c) 13 0 8, ← run_from (crd c) 21 0 4, ← run_from (crd c) 33 0 8, ← run_from (crd c) 49 0 8, ← run_from (crd c) 55 4 6, ← run_from (crd c) 57 6 8]
  rfl

theorem far_map : farN = farF.map ⟨fun n => n.val, Fin.val_injective⟩ := by decide

theorem creds (c : Dev nD) : (Pipeline.launchCred O₀ c : sProp 𝕄) ⊢ iprop(cred (tallyAt (barCell c) () 3) ∗ crds c) := by
  have hs : ({SemLoc.reg bar} ∪ farF.map ⟨fun n => (SemLoc.dma n : SemLoc sig), fun _ _ h => SemLoc.dma.inj h⟩ : Finset (SemLoc sig)) ⊆ Finset.univ := Finset.subset_univ _
  have hd : Disjoint ({SemLoc.reg bar} : Finset (SemLoc sig)) (farF.map ⟨fun n => (SemLoc.dma n : SemLoc sig), fun _ _ h => SemLoc.dma.inj h⟩) := by
    rw [Finset.disjoint_singleton_left, Finset.mem_map]
    rintro ⟨n, -, h⟩
    exact absurd h (by intro h; cases h)
  unfold Pipeline.launchCred
  refine BIBase.Entails.trans (bigSep_subset hs) ?_
  rw [bigSep_union hd, bigSep_singleton, bigSep_map, ← crds_eq, far_map, bigSep_map]
  refine Entails.of_eq (congrArg₂ _ ?_ (bigSep_congr fun n hn => ?_))
  · rw [credit_at c (.reg bar) 3 (by rw [times_bar]; rfl)]
  · have e : (dsem n.val : DmaSem sig) = n := Fin.ext (Nat.mod_eq_of_lt n.isLt)
    have h := credit_at c (.dma n) NN (by rw [times_far c n hn]; exact Nat.mul_one _)
    exact congrArg cred (h.trans (congrArg (fun k : DmaSem sig => (tallyAt ((c : Thread nD τ), SemLoc.dma k) () NN : CellTallies nD τ sig Unit)) e.symm))

/-! ## The cells and the tokens at launch -/

def barEmb : Dev nD ↪ GSem nD τ sig := ⟨fun c => barCell c, fun _ _ h => congrArg (fun g : GSem nD τ sig => g.1.1) h⟩
theorem dsem_inj : Function.Injective fun k : Fin 64 => (dsem (1 + k.val) : DmaSem sig) := by decide
def cellEmb : Dev nD × Fin 64 ↪ GSem nD τ sig :=
  ⟨fun x => cellN x.1 (1 + x.2.val), fun _ _ h => Prod.ext (congrArg (fun g : GSem nD τ sig => g.1.1) h) (dsem_inj (SemLoc.dma.inj (congrArg Prod.snd h)))⟩
def barTok : Dev nD × Fin 3 ↪ GSem nD τ sig × ℕ × Fin 3 :=
  ⟨fun x => (barCell x.1, 0, x.2), fun _ _ h => Prod.ext (congrArg (fun g : GSem nD τ sig × ℕ × Fin 3 => g.1.1.1) h) (congrArg (fun g : GSem nD τ sig × ℕ × Fin 3 => g.2.2) h)⟩
def cellTok : GSem nD τ sig ↪ GSem nD τ sig × ℕ × Fin 3 := ⟨fun g => (g, 0, 0), fun _ _ h => congrArg Prod.fst h⟩

abbrev barCells : Finset (GSem nD τ sig) := Finset.univ.map barEmb
abbrev cells64 : Finset (GSem nD τ sig) := Finset.univ.map cellEmb
abbrev allToks : Finset (GSem nD τ sig × ℕ × Fin 3) := Finset.univ.map barTok ∪ cells64.map cellTok

theorem bar_or (g : GSem nD τ sig) (h1 : g ∈ barCells) (h2 : g ∈ cells64) : False := by
  obtain ⟨c, -, rfl⟩ := Finset.mem_map.mp h1
  obtain ⟨x, -, h⟩ := Finset.mem_map.mp h2
  have h : SemLoc.dma _ = SemLoc.reg bar := congrArg Prod.snd h
  cases h
theorem cells_disjoint : Disjoint barCells cells64 := Finset.disjoint_left.mpr bar_or
theorem toks_disjoint : Disjoint (Finset.univ.map barTok) (cells64.map cellTok) := Finset.disjoint_left.mpr fun x h1 h2 => by
  obtain ⟨y, -, rfl⟩ := Finset.mem_map.mp h1
  obtain ⟨g, hg, h⟩ := Finset.mem_map.mp h2
  have h : g = barCell y.1 := congrArg Prod.fst h
  subst h
  exact bar_or _ (Finset.mem_map_of_mem barEmb (Finset.mem_univ y.1)) hg

theorem over_bars (Φ : GSem nD τ sig → sProp 𝕄) : bigSep barCells Φ = bigSep Finset.univ fun c : Dev nD => Φ (barCell c) := bigSep_map _
theorem ico_map : Finset.Ico 1 65 = (Finset.univ : Finset (Fin 64)).map ⟨fun k => 1 + k.val, fun a b h => Fin.ext (Nat.add_left_cancel h)⟩ := by decide
theorem over_cells (Φ : GSem nD τ sig → sProp 𝕄) : bigSep cells64 Φ = bigSep Finset.univ fun c : Dev nD => run 1 65 fun n => Φ (cellN c n) := by
  unfold cells64 run
  rw [bigSep_map, bigSep_univ_prod]
  refine bigSep_congr fun c _ => ?_
  rw [ico_map, bigSep_map]
  rfl
theorem over_toks : (bigSep allToks fun x => dutyTok ER x.1 x.2.1 x.2.2 : sProp 𝕄)
    = iprop((bigSep Finset.univ fun c : Dev nD => iprop(dutyTok ER (barCell c) 0 (0 : Fin 3) ∗ dutyTok ER (barCell c) 0 (1 : Fin 3) ∗ dutyTok ER (barCell c) 0 (2 : Fin 3)))
      ∗ bigSep Finset.univ fun c : Dev nD => run 1 65 (tok c)) := by
  unfold allToks
  rw [bigSep_union toks_disjoint, bigSep_map, bigSep_univ_prod, bigSep_map, ← over_cells (fun g => dutyTok ER g 0 (0 : Fin 3))]
  refine congrArg₂ _ (bigSep_congr fun c _ => ?_) rfl
  rw [show (Finset.univ : Finset (Fin 3)) = {0, 1, 2} from by decide, bigSep_insert (by decide), bigSep_insert (by decide), bigSep_singleton]
  rfl

/-! ## Dealing -/

/-- For each number the devices aimed at are all of them, once. -/
def aimE (n : ℕ) : Dev nD ≃ Dev nD where
  toFun c := aim c n
  invFun c := aim c n
  left_inv c := by unfold aim; (repeat' split) <;> first | rfl | exact py_py c | exact px_px c | exact pz_pz c
  right_inv c := by unfold aim; (repeat' split) <;> first | rfl | exact py_py c | exact px_px c | exact pz_pz c

theorem deal_toks : (bigSep Finset.univ fun c : Dev nD => run 1 65 (tok c) : sProp 𝕄) = bigSep Finset.univ fun c : Dev nD => toks c := by
  have h (T : Dev nD → ℕ → sProp 𝕄) : (bigSep Finset.univ fun c : Dev nD => run 1 65 (T c))
      = bigSep Finset.univ fun k : Fin 64 => bigSep Finset.univ fun c : Dev nD => T c (1 + k.val) := by
    rw [← bigSep_univ_comm]
    refine bigSep_congr fun c _ => ?_
    unfold run
    rw [ico_map, bigSep_map]
    rfl
  unfold toks
  rw [h, h fun c n => tok (aim c n) n]
  refine bigSep_congr fun k _ => ?_
  exact (bigSep_univ_equiv (aimE (1 + k.val)) fun c : Dev nD => (tok c (1 + k.val) : sProp 𝕄))

theorem deal_bar : (bigSep Finset.univ fun c : Dev nD => iprop(dutyTok ER (barCell c) 0 (0 : Fin 3) ∗ dutyTok ER (barCell c) 0 (1 : Fin 3) ∗ dutyTok ER (barCell c) 0 (2 : Fin 3)) : sProp 𝕄)
    = bigSep Finset.univ fun c : Dev nD => iprop(dutyTok ER (barCell (py c)) 0 (0 : Fin 3) ∗ dutyTok ER (barCell (px c)) 0 (1 : Fin 3) ∗ dutyTok ER (barCell (pz c)) 0 (2 : Fin 3)) := by
  rw [bigSep_sep', bigSep_sep', bigSep_sep', bigSep_sep', bigSep_univ_equiv eY fun c : Dev nD => (dutyTok ER (barCell c) 0 (0 : Fin 3) : sProp 𝕄),
    bigSep_univ_equiv eX fun c : Dev nD => (dutyTok ER (barCell c) 0 (1 : Fin 3) : sProp 𝕄), bigSep_univ_equiv eZ fun c : Dev nD => (dutyTok ER (barCell c) 0 (2 : Fin 3) : sProp 𝕄)]
  rfl

/-- The launch element: the staging cells' and the exchange's. -/
def u₀ : UU :=
  (initOf (Pipeline.cells cfgs cellOf_inj) (Pipeline.launchToks cfgs cellOf_inj), (launchOf barCells cells64 allToks, 1))

/-- The exchange's launch element, held by the first device until all is dealt. -/
def G (c : Dev nD) : sProp 𝕄 := if c = 0 then BI.own (ER (launchOf barCells cells64 allToks)) else iprop(emp)
theorem G_all : (bigSep Finset.univ G : sProp 𝕄) = BI.own (ER (launchOf barCells cells64 allToks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

/-- What every device may consult, -/
def shared (κ : GSem nD τ sig → ℕ) : sProp 𝕄 :=
  iprop((bigSep Finset.univ fun c : Dev nD => cellInv ER (Rd (V1 m)) (κ (barCell c)) (barCell c))
    ∗ (bigSep Finset.univ fun c : Dev nD => bigSep (Finset.Ico 1 65) fun n => cellInv ER (Rd (V1 m)) (κ (cellN c n)) (cellN c n))
    ∗ bigSep Finset.univ fun c : Dev nD => reached ER (barCell c) 0)
instance shared_persistent (κ : GSem nD τ sig → ℕ) : BI.Persistent (shared m κ) := by unfold shared; infer_instance
/-- what each has of the exchange for itself, -/
def mine (c : Dev nD) : sProp 𝕄 :=
  iprop(atPos ER (barCell c) 0 ∅ 0 ∗ run 1 65 (fun n => openTok ER (cellN c n)) ∗ toks c
    ∗ (dutyTok ER (barCell (py c)) 0 (0 : Fin 3) ∗ dutyTok ER (barCell (px c)) 0 (1 : Fin 3) ∗ dutyTok ER (barCell (pz c)) 0 (2 : Fin 3)))
/-- and what else. -/
def others (c : Dev nD) : sProp 𝕄 :=
  iprop(StableHlo.held (c : Thread nD τ) (Pipeline.ucRefs τ sig) (V0 m c) ∗ cred (tallyAt (barCell c) () 3) ∗ crds c ∗ owe c (lAll c))

abbrev T₀ (c : Dev nD) : sProp 𝕄 := iprop(StableHlo.held (c : Thread nD τ) (Pipeline.ucRefs τ sig) (V0 m c) ∗ restIn m c)

theorem reached_bar (d : Dev nD) : (bigSep Finset.univ fun c : Dev nD => reached ER (barCell c) 0 : sProp 𝕄) ⊢ reached ER (barCell d) 0 :=
  bigSep_elim (M := 𝕄) (Φ := fun c : Dev nD => (reached ER (barCell c) 0 : sProp 𝕄)) (Finset.mem_univ d)

theorem T₀_intro (κ : GSem nD τ sig → ℕ) (c : Dev nD) : iprop(shared m κ ∗ (mine c ∗ others m c)) ⊢ T₀ m c := by
  unfold T₀ restIn start shared mine others inBar
  iintro ⟨⟨#HB, #HN, #HR⟩, ⟨Hat, Hop, Ht, Hd0, Hd1, Hd2⟩, Hh, Hcb, Hc, HO⟩
  isplitl [Hh]; · iexact Hh
  isplitr [HO]
  · iexists κ
    isplitr; · iexact HB
    isplitr; · iexact HN
    isplitl [Hat Hcb Hd0 Hd1 Hd2]
    · isplitr; · iapply (reached_bar (py c)); iexact HR
      isplitr; · iapply (reached_bar (px c)); iexact HR
      isplitr; · iapply (reached_bar (pz c)); iexact HR
      isplitl [Hd0]; · iexact Hd0
      isplitl [Hd1]; · iexact Hd1
      isplitl [Hd2]; · iexact Hd2
      isplitl [Hat]; · iexact Hat
      iexact Hcb
    isplitl [Ht]; · iexact Ht
    isplitl [Hc]; · iexact Hc
    iexact Hop
  iexact HO

theorem unscoped_eq : ∀ sm : SemLoc sig, sm.isScoped .tc = false → sm = .reg bar := by decide +kernel
theorem unscoped0 (c : Dev nD) : (unscopedSems0 c : sProp 𝕄) = semVal (barCell c) 0 := by
  unfold unscopedSems0
  rw [show (Finset.univ.filter fun sm : SemLoc sig => ¬ sm.isScoped .tc) = {SemLoc.reg bar} from by decide +kernel, BI.bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(others m c ∗ (semVal (barCell c) 0 ∗ G c)) : sProp 𝕄) := by
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), unscoped0]
    unfold others owe
    iintro ⟨Hh, Hus, HO, Hcr, -, HG⟩
    ihave Hc := (creds (F := F) c) $$ Hcr
    icases Hc with ⟨H1, HN⟩
    isplitl [Hh H1 HN HO]
    · isplitl [Hh]; · iexact Hh
      isplitl [H1]; · iexact H1
      isplitl [HN]; · iexact HN
      iexists ∅; iexact HO
    isplitl [Hus] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(others m c ∗ (semVal (barCell c) 0 ∗ G c)) : sProp 𝕄) := bigSep_mono fun c _ => hcore c
  rw [bigSep_sep' (Φ := fun c => others m c), bigSep_sep' (Φ := fun c => semVal (barCell c) 0), G_all, ← over_bars fun g => semVal g 0] at hall
  have hgoal (κ : GSem nD τ sig → ℕ) : iprop(shared m κ ∗ ((bigSep Finset.univ fun c : Dev nD => mine (F := F) c) ∗ bigSep Finset.univ fun c : Dev nD => others m c))
      ⊢ (bigSep Finset.univ (T₀ m) : sProp 𝕄) := by
    rw [← bigSep_sep']
    exact bigSep_with_persistent (R := shared m κ) (Φ := fun c => iprop(mine c ∗ others m c)) fun c _ => T₀_intro m κ c
  have hmine : iprop((bigSep barCells fun g => atPos ER g 0 ∅ 0) ∗ (bigSep cells64 fun g => openTok ER g) ∗ bigSep allToks fun x => dutyTok ER x.1 x.2.1 x.2.2)
      ⊢ (bigSep Finset.univ fun c : Dev nD => mine c : sProp 𝕄) := by
    unfold mine
    rw [bigSep_sep', bigSep_sep', bigSep_sep', over_bars, over_cells, over_toks, deal_toks, deal_bar]
    iintro ⟨H1, H2, H3, H4⟩
    isplitl [H1]; · iexact H1
    isplitl [H2]; · iexact H2
    isplitl [H4]; · iexact H4
    iexact H3
  have hshared (κ : GSem nD τ sig → ℕ) : iprop((bigSep (barCells ∪ cells64) fun g => cellInv ER (Rd (V1 m)) (κ g) g) ∗ bigSep barCells fun g => reached ER g 0)
      ⊢ shared m κ := by
    unfold shared
    rw [bigSep_union cells_disjoint, over_bars, over_cells, over_bars]
    exact Idealize.SL.BI.sep_assoc
  iintro ⟨H, -⟩
  ihave H' := hall $$ H
  icases H' with ⟨HO, Hv, Hu⟩
  imod (Rounds.fund_launch ER (Rd (V1 m)) cells_disjoint (fun g _ h => h) allToks) $$ [Hv Hu] with ⟨%κ, -, #Hinv, #Hr, Hat, Hop, Htok⟩
  · isplitl [Hv]; · iexact Hv
    iexact Hu
  imodintro
  iapply (hgoal κ)
  isplitr
  · iapply (hshared κ)
    isplitr; · iexact Hinv
    iexact Hr
  isplitr [HO]
  · iapply hmine
    isplitl [Hat]; · iexact Hat
    isplitl [Hop]; · iexact Hop
    iexact Htok
  iexact HO

/-! ## The whole run -/

/-- The rest of a device's state as a segment is entered. -/
def rests (_ : Fin 2) (c : Dev nD) : sProp 𝕄 := restIn m c

variable [hne : Nonempty (Elt F .bf16)]

set_option backward.isDefEq.respectTransparency.types false in
/-- From any memory every run ends, its arguments as launched, each device's result the value told and every counter at zero. -/
theorem whole_run (hq : ∀ c, HostRows (V1 m) c) : θ_run defs (onTc (τ := τ) (main (F := F))) ⟨m, fun _ => 0, ρ⟩ (fun r =>
    (∀ c : Dev nD, (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.mem ((c : Thread nD τ).loc main_v27) = res m c) ∧ r.2.sem = fun _ => 0) :=
  Pipeline.θ_run_regions_kit_dev_sems (pcfgs (F := F)) adm (pdats m) () cellOf_inj EP defs₀ 𝒱₀ L lv m ρ main
    (segs m 𝒱₀ L lv (rests m) () (pdats m) (region0 m hq))
    (fun c Q => by
      rewrite [main_chain c, Seg.run_eq_chain,
        show (segs m 𝒱₀ L lv (rests m) () (pdats m) (region0 m hq) c).map Seg.prog = [StableHlo.seq (hostOps0 c), Prog.lift (.customCall (Pipeline.entry 0) ())] from rfl]
      dsimp (config := { failIfUnchanged := false }) only
      exact .rfl)
    (fun c => by simp only [segs, Seg.pipes_host, Seg.pipes_region, Seg.pipes_nil]; decide)
    O₀ L_of_ne G u₀
    (by
      unfold u₀
      iintro Hu
      ihave H := (ownU_pair _ _) $$ Hu
      icases H with ⟨HP, HX⟩
      imodintro
      isplitl [HP]; · iexact HP
      rw [G_all]; iexact HX)
    (T₀ := T₀ m) (Tₙ := endAt m)
    (hch := fun c => ⟨.rfl, .rfl, .rfl⟩)
    (hinit := init m ρ)
    (QY := fun c s => ((s.mem ((c : Thread nD τ).loc main_arg0) = V1 m c main_arg0 ∧ s.mem ((c : Thread nD τ).loc main_arg1) = V1 m c main_arg1
        ∧ s.mem ((c : Thread nD τ).loc main_arg2) = V1 m c main_arg2) ∧ s.mem ((c : Thread nD τ).loc main_v27) = res m c) ∧ s.sem (barCell c) = 0)
    (hfin := fun c s' => by
      unfold endAt
      iintro ⟨⟨⟨H0, H1, H2⟩, Hr, Hb⟩, HSI⟩
      icombine HSI H0 gives %h0
      icombine HSI H1 gives %h1
      icombine HSI H2 gives %h2
      icombine HSI Hr gives %hr
      icombine HSI Hb gives %hb
      imodintro
      isplitr
      · ipureintro
        exact ⟨⟨⟨Buf.eq_of_forall_mem_univ h0, Buf.eq_of_forall_mem_univ h1, Buf.eq_of_forall_mem_univ h2⟩, Buf.eq_of_forall_mem_univ hr⟩, by simpa using hb⟩
      iexact HSI)
    (hQ := fun s h hs => ⟨fun c => by
        obtain ⟨⟨⟨h0, h1, h2⟩, hr⟩, -⟩ := h c
        exact ⟨⟨h0.trans ((V1_of m c main_arg0 (by decide)).trans rfl), h1.trans ((V1_of m c main_arg1 (by decide)).trans rfl), h2.trans ((V1_of m c main_arg2 (by decide)).trans rfl)⟩, hr⟩,
      sem_eq_zero hs fun c sm hsm => by
        obtain rfl := unscoped_eq sm hsm
        exact (h c).2⟩)

end Cert.KernelIdeal.Body
-- ==== Proof.KernelIdeal.Host.lean ====
module

public import proofs.«01_k».proof.Proof.KernelIdeal.Launch
public import Idealize.ShloMosaic.Lib.DynamicIndex

@[expose] public section

set_option maxRecDepth 16384

noncomputable section

/-! What the operations before the kernel leave it. -/

namespace Cert.KernelIdeal.Body

open Cert.KernelIdeal Cert.KernelIdeal.Gen
open Idealize.ShloMosaic Idealize.ShloMosaic.TcCoe

variable {F : FTy → Type} [FloatOps F]

variable (m : (ℓ : Loc nD τ sig) → Buf (Elt F) ℓ)

/-- The row the host's own sums start at. -/
def row3 (c : Dev nD) : Fin 2 → Int := fun k => ![((2048 * (quar c 3).val : ℕ) : Int), 0] k

/-- The host's computation of that row, on words. -/
def rowWord (d : BitVec 32) : BitVec 32 :=
  let r := IntOp.muli (IntOp.addi (IntOp.muli 2#32 (IntOp.subi 1#32 (IntOp.remui .host (IntOp.divui .host d 4#32) 2#32)))
    (IntOp.subi 1#32 (IntOp.remui .host (IntOp.divui .host d 1#32) 2#32))) 2048#32
  Scalar.select (IntOp.cmpi .slt r 0#32) (IntOp.addi r 8192#32) r

theorem rowWord_eq : ∀ c : Dev nD, (rowWord (Dev.word c)).toInt = ((2048 * (quar c 3).val : ℕ) : Int) := by decide +kernel

theorem v1_eq (c : Dev nD) : V1 m c main_v1 = shapeCast S8192x2048 (m ((c : Thread nD τ).loc main_arg0)) shapeCasts_S1x8192x2048_S8192x2048 := by
  show StableHlo.after (hostOps0 c) (V0 m c) (Proc.devRef .tc main_v1) = _
  after_results_simp
  rfl
theorem v26_eq (c : Dev nD) : V1 m c main_v26 = shapeCast S1x2048 (m ((c : Thread nD τ).loc main_arg2)) shapeCasts_S2048_S1x2048 := by
  show StableHlo.after (hostOps0 c) (V0 m c) (Proc.devRef .tc main_v26) = _
  after_results_simp
  rfl
theorem arg1_eq (c : Dev nD) : V1 m c main_arg1 = m ((c : Thread nD τ).loc main_arg1) := (V1_of m c main_arg1 (by decide)).trans rfl

theorem v25_eq (c : Dev nD) : V1 m c main_v25
    = truncf .bf16 (addf (F := F) (s := S1024x2048)
        (Host.dynamicSlice S1024x2048 (V1 m c main_v1) (row3 c) sliceFits_S8192x2048_S1024x2048)
        (Host.dynamicSlice S1024x2048 (V1 m c main_arg1) (row3 c) sliceFits_S8192x2048_S1024x2048)) bitsLt_bf16_f32 := by
  rw [v1_eq, arg1_eq]
  show StableHlo.after (hostOps0 c) (V0 m c) (Proc.devRef .tc main_v25) = _
  after_results_simp
  refine congrArg (fun z => truncf (F := F) (s := S1024x2048) .bf16 z bitsLt_bf16_f32) (congrArg₂ (addf (F := F) (s := S1024x2048))
    (congrArg₂ (fun x st => Host.dynamicSlice S1024x2048 x st sliceFits_S8192x2048_S1024x2048) rfl ?_)
    (congrArg₂ (fun x st => Host.dynamicSlice S1024x2048 x st sliceFits_S8192x2048_S1024x2048) rfl ?_))
  all_goals
    funext k
    match k with
    | 0 =>
      refine Eq.trans ?_ (rowWord_eq c)
      dsimp only [Matrix.cons_val_zero, cast_eq]
      after_results_simp
      rfl
    | 1 =>
      show _ = (0 : Int)
      dsimp only [Matrix.cons_val_one, Matrix.cons_val_zero, cast_eq]
      after_results_simp
      rfl

/-- The host's sums' rows are those of the device's contribution it stands for. -/
theorem hostRows (c : Dev nD) : HostRows (V1 m) c := by
  intro n hn
  have hs : ∀ a : Fin 2, row3 c a = ((![2048 * (quar c 3).val, 0] a : ℕ) : Int) := fun a => by
    match a with
    | 0 => rfl
    | 1 => rfl
  have hoff : S8192x2048.Slices ![2048 * (quar c 3).val, 0] S1024x2048 := by
    generalize quar c 3 = q
    revert q; decide
  have h := v25_eq m c
  rw [Host.dynamicSlice_eq_extractStridedSlice _ _ _ _ _ hoff hs, Host.dynamicSlice_eq_extractStridedSlice _ _ _ _ _ hoff hs] at h
  funext x
  have e : ∀ a : Fin 2, (![2048 * (quar c 3).val, 0] : Fin 2 → ℕ) a + ((qdChunk (f4 n)).view.emb x a).val = ((ovQ (quar c 3) (f8 n)).view.emb x a).val := fun a => by
    have h4 : n % 4 = n := Nat.mod_eq_of_lt hn
    have h8 : n % 8 = n := Nat.mod_eq_of_lt (by omega)
    match a with
    | 0 =>
      show 2048 * (quar c 3).val + (256 * (n % 4) + 1 * (x 0).val) = 2048 * (quar c 3).val + 256 * (n % 8) + 1 * (x 0).val
      omega
    | 1 =>
      show 0 + (0 + 1 * (x 1).val) = 0 + 1 * (x 1).val
      omega
  have e' (W : S8192x2048.Idx → Elt F .f32) : extractStridedSlice S1024x2048 ![2048 * (quar c 3).val, 0] W hoff ((qdChunk (f4 n)).view.emb x) = W ((ovQ (quar c 3) (f8 n)).view.emb x) :=
    congrArg W (funext fun a => Fin.ext (e a))
  show (V1 m c main_v25 : S1024x2048.Idx → Elt F .bf16) ((qdChunk (f4 n)).view.emb x) = HB (V1 m) c ((ovQ (quar c 3) (f8 n)).view.emb x)
  refine (congrFun h _).trans ?_
  exact congrArg (fun z : F .f32 => FloatOps.truncf .bf16 bitsLt_bf16_f32 z) (congrArg₂ FloatOps.addf (e' _) (e' _))

end Cert.KernelIdeal.Body
-- ==== Proof.Value.lean ====
module

public import proofs.«01_k».proof.Proof.KernelIdeal.Host
public import proofs.«01_k».proof.Proof.Gen.ReferenceIdeal.Run
public import Idealize.ShloMosaic.Lib.Pointwise
public import Idealize.ShloMosaic.Lib.Layout
public import Idealize.ShloMosaic.Lib.ValueLayout

@[expose] public section

set_option maxRecDepth 16384

noncomputable section

/-! The two programs' values, index by index, over the extended reals. -/

namespace Cert.Value

open Idealize.ShloMosaic Idealize.ShloMosaic.TcCoe

/-! ## One row -/

/-- A row's sum of squares. -/
def sq (y : Fin 2048 → EReal) : EReal := ∑ k, y k * y k

theorem sq_nonneg (y : Fin 2048 → EReal) : 0 ≤ sq y := Finset.sum_nonneg fun k _ => by
  rcases le_total 0 (y k) with h | h
  · exact EReal.mul_nonneg h h
  · rw [← neg_mul_neg]
    exact EReal.mul_nonneg (EReal.neg_nonneg.mpr h) (EReal.neg_nonneg.mpr h)

theorem bits_2048 : Ideal.ofBits .f32 0x45000000#32 = ((2048 : ℝ) : EReal) := by
  simp [Ideal.ofBits, Ideal.ieee, -EReal.coe_mul]; norm_num
theorem bits_inv : Ideal.ofBits .f32 0x3A000000#32 = (((2048 : ℝ)⁻¹ : ℝ) : EReal) := by
  simp [Ideal.ofBits, Ideal.ieee, -EReal.coe_mul]; norm_num
theorem bits_eps : ∃ e : ℝ, 0 < e ∧ Ideal.ofBits .f32 0x358637BD#32 = (e : EReal) := by
  refine ⟨_, ?_, by simp [Ideal.ofBits, Ideal.ieee, -EReal.coe_mul]; rfl⟩
  positivity

/-- Multiplying by the reciprocal root of the mean is dividing by its root. -/
theorem norm_eq (y T : EReal) (h : 0 ≤ T) :
    y * Ideal.rsqrt (T * Ideal.ofBits .f32 0x3A000000#32 + Ideal.ofBits .f32 0x358637BD#32)
      = Ideal.div y (Ideal.sqrt (Ideal.div T (Ideal.ofBits .f32 0x45000000#32) + Ideal.ofBits .f32 0x358637BD#32)) := by
  obtain ⟨e, he, hb⟩ := bits_eps
  rw [bits_2048, bits_inv, hb]
  have hd (t : EReal) : Ideal.div t ((2048 : ℝ) : EReal) = t * (((2048 : ℝ)⁻¹ : ℝ) : EReal) := by
    unfold Ideal.div
    rw [if_neg (by norm_cast), EReal.coe_inv]
  rw [hd]
  induction T with
  | bot => exact absurd h (by simp)
  | top =>
    rw [EReal.top_mul_coe_of_pos (by norm_num), EReal.top_add_coe, Ideal.rsqrt_top]
    show y * 0 = Ideal.div y ⊤
    unfold Ideal.div
    rw [if_neg (by simp), EReal.inv_top]
  | coe t =>
    have ht : 0 ≤ t := EReal.coe_nonneg.mp h
    have hv : 0 < t * (2048 : ℝ)⁻¹ + e := by positivity
    rw [← EReal.coe_mul, ← EReal.coe_add, Ideal.rsqrt_coe, if_neg (not_lt.mpr hv.le), if_neg hv.ne']
    show _ = Ideal.div y (if t * (2048 : ℝ)⁻¹ + e < 0 then ⊥ else (Real.sqrt (t * (2048 : ℝ)⁻¹ + e) : EReal))
    rw [if_neg (not_lt.mpr hv.le)]
    unfold Ideal.div
    rw [if_neg (by exact_mod_cast (Real.sqrt_pos.mpr hv).ne'), EReal.coe_inv]

/-! ## The kernel's chunk -/

open Cert.KernelIdeal Cert.KernelIdeal.Gen Cert.KernelIdeal.Body in
theorem outVal_apply (w : FVec Ideal S256x2048 .f32) (b : FVec Ideal S256x2048 .bf16) (g : FVec Ideal S1x2048 .f32) (r : Fin 256) (j : Fin 2048) :
    outVal (F := Ideal) w b g (ix2 r j)
      = (w (ix2 r j) + b (ix2 r j))
          * Ideal.rsqrt (sq (fun k => w (ix2 r k) + b (ix2 r k)) * Ideal.ofBits .f32 0x3A000000#32 + Ideal.ofBits .f32 0x358637BD#32)
          * g (ix2 0 j) := by
  unfold outVal sq
  pointwise

/-! ## The reference -/

open Cert.ReferenceIdeal Cert.ReferenceIdeal.Gen in
/-- The reference's result as a function of its arguments. -/
def refVal (A : FVec Ideal S2x8192x2048 .f32) (R : FVec Ideal S8192x2048 .f32) (G : FVec Ideal S2048 .f32) : FVec Ideal S8192x2048 .f32 :=
  have y := addf (Host.reduceAdd A (constant S_ .f32 0x00000000#32) reducesTo_S2x8192x2048_S8192x2048_d0 h_S_) R
  mulf (Host.divf y (broadcastInDim S8192x2048 ![0, 1] bcast_S8192x1_S8192x2048_0_1 (Host.sqrt (addf (Host.divf
    (broadcastInDim S8192x1 ![0] bcast_S8192_S8192x1_0 (Host.reduceAdd (mulf y y) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 G))

open Cert.ReferenceIdeal Cert.ReferenceIdeal.Gen in
theorem refVal_apply (A : FVec Ideal S2x8192x2048 .f32) (R : FVec Ideal S8192x2048 .f32) (G : FVec Ideal S2048 .f32) (r : Fin 8192) (j : Fin 2048) :
    refVal A R G (ix2 r j)
      = Ideal.div (A (ix3 0 r j) + A (ix3 1 r j) + R (ix2 r j))
          (Ideal.sqrt (Ideal.div (sq fun k => A (ix3 0 r k) + A (ix3 1 r k) + R (ix2 r k)) (Ideal.ofBits .f32 0x45000000#32) + Ideal.ofBits .f32 0x358637BD#32))
          * G (ix1 j) := by
  unfold refVal sq
  pointwise
  simp only [Fin.sum_univ_two, zero_add]

/-! ## The kernel's result -/

section kernel
open Cert.KernelIdeal Cert.KernelIdeal.Gen Cert.KernelIdeal.Body

theorem within_row (r : Fin 8192) (j : Fin 2048) : within (ix2 r j) = ix2 ⟨r.val % 256, Nat.mod_lt _ (by decide)⟩ j := by
  funext a
  match a with
  | 0 => rfl
  | 1 => rfl

theorem emb_slab (r : Fin 8192) (j k : Fin 2048) :
    ((slabQ (chunkOf (ix2 r j)).1 (chunkOf (ix2 r j)).2).view.emb (ix2 ⟨r.val % 256, Nat.mod_lt _ (by decide)⟩ k) : S8192x2048.Idx) = ix2 r k := by
  have hr := r.isLt
  funext a
  apply Fin.ext
  match a with
  | 0 =>
    show 2048 * (r.val / 2048 % 4) + 256 * (r.val / 256 % 8) + 1 * (r.val % 256) = r.val
    omega
  | 1 =>
    show 0 + 1 * k.val = k.val
    omega

theorem emb_ov (r : Fin 8192) (j k : Fin 2048) :
    ((ovQ (chunkOf (ix2 r j)).1 (chunkOf (ix2 r j)).2).view.emb (ix2 ⟨r.val % 256, Nat.mod_lt _ (by decide)⟩ k) : S8192x2048.Idx) = ix2 r k := by
  have hr := r.isLt
  funext a
  apply Fin.ext
  match a with
  | 0 =>
    show 2048 * (r.val / 2048 % 4) + 256 * (r.val / 256 % 8) + 1 * (r.val % 256) = r.val
    omega
  | 1 =>
    show 0 + 1 * k.val = k.val
    omega

/-- The scale row is read whole. -/
theorem gamX_apply (m : (ℓ : Loc nD τ sig) → Buf (Elt Ideal) ℓ) (c : Dev nD) (j : Fin 2048) :
    gamX m c (ix2 0 j) = V1 m c main_v26 (ix2 0 j) := by
  have h : (((cfg0.win 0).blk t0_0).view.emb (ix2 0 j) : S1x2048.Idx) = ix2 0 j := by
    funext a
    apply Fin.ext
    match a with
    | 0 => rfl
    | 1 => show 0 + 1 * j.val = j.val; omega
  show V1 m c main_v26 (((cfg0.win 0).blk t0_0).view.emb (ix2 0 j)) = _
  rw [h]

/-- An element of a device's partial sums. -/
def part (m : (ℓ : Loc nD τ sig) → Buf (Elt Ideal) ℓ) (d : Dev nD) (r : Fin 8192) (k : Fin 2048) : EReal := m ((d : Thread nD τ).loc main_arg0) (ix3 0 r k)
/-- An element of a device's residual. -/
def resid (m : (ℓ : Loc nD τ sig) → Buf (Elt Ideal) ℓ) (d : Dev nD) (r : Fin 8192) (k : Fin 2048) : EReal := m ((d : Thread nD τ).loc main_arg1) (ix2 r k)

/-- A device's sum with the one opposite it. -/
def pairSum (m : (ℓ : Loc nD τ sig) → Buf (Elt Ideal) ℓ) (c d : Dev nD) (r : Fin 8192) (k : Fin 2048) : EReal :=
  part m c r k
    + (part m d r k + resid m d r k)

theorem res_apply (m : (ℓ : Loc nD τ sig) → Buf (Elt Ideal) ℓ) (c : Dev nD) (r : Fin 8192) (j : Fin 2048) :
    ∃ (q : Fin 4) (k : Fin 8), (res m c : S8192x2048.Idx → EReal) (ix2 r j)
      = pairSum m c (src c q k) r j
          * Ideal.rsqrt (sq (pairSum m c (src c q k) r) * Ideal.ofBits .f32 0x3A000000#32 + Ideal.ofBits .f32 0x358637BD#32)
          * (m ((c : Thread nD τ).loc main_arg2) : S2048.Idx → EReal) (ix1 j) := by
  refine ⟨unquar c (chunkOf (ix2 r j)).1, (chunkOf (ix2 r j)).2, ?_⟩
  have hw (d : Dev nD) (k : Fin 2048) : (V1 m d main_v1 : S8192x2048.Idx → EReal) (ix2 r k) = part m d r k := by
    rw [v1_eq]
    exact ValueIdx.shapeCast_1ab_ab_apply _ _ _ _
  have hg : (gamX m c : S1x2048.Idx → EReal) (ix2 0 j) = (m ((c : Thread nD τ).loc main_arg2) : S2048.Idx → EReal) (ix1 j) := by
    rw [gamX_apply, v26_eq]
    exact ValueIdx.shapeCast_a_1a_apply _ _ _ _
  have hs (k : Fin 2048) : ((slabQ (chunkOf (ix2 r j)).1 (chunkOf (ix2 r j)).2).view.read (Elt Ideal) (V1 m c main_v1) : S256x2048.Idx → EReal) (ix2 ⟨r.val % 256, Nat.mod_lt _ (by decide)⟩ k)
      = part m c r k := by
    show (V1 m c main_v1 : S8192x2048.Idx → EReal) ((slabQ (chunkOf (ix2 r j)).1 (chunkOf (ix2 r j)).2).view.emb (ix2 ⟨r.val % 256, Nat.mod_lt _ (by decide)⟩ k)) = _
    rw [emb_slab, hw]
  have ho (d : Dev nD) (k : Fin 2048) : ((ovQ (chunkOf (ix2 r j)).1 (chunkOf (ix2 r j)).2).view.read (Elt Ideal) (HB (V1 m) d) : S256x2048.Idx → EReal) (ix2 ⟨r.val % 256, Nat.mod_lt _ (by decide)⟩ k)
      = part m d r k + resid m d r k := by
    show (HB (V1 m) d : S8192x2048.Idx → EReal) ((ovQ (chunkOf (ix2 r j)).1 (chunkOf (ix2 r j)).2).view.emb (ix2 ⟨r.val % 256, Nat.mod_lt _ (by decide)⟩ k)) = _
    rw [emb_ov]
    exact congrArg₂ (fun a b : EReal => a + b) (hw d k) (congrFun (arg1_eq m d) (ix2 r k))
  show (outVal (F := Ideal) _ _ _ : S256x2048.Idx → EReal) (within (ix2 r j)) = _
  rw [within_row]
  refine (outVal_apply _ _ _ _ _).trans ?_
  rw [hg]
  simp only [hs, ho]
  rfl

end kernel

/-! ## The two are the same -/

section same
open Cert.KernelIdeal Cert.KernelIdeal.Gen Cert.KernelIdeal.Body

/-- The part of the stack of partial sums that a device holds. -/
def half (c : Dev nD) : Fin 2 := ⟨c.val / 2 % 2, Nat.mod_lt _ (by decide)⟩

theorem half_src (c : Dev nD) (q : Fin 4) (k : Fin 8) : half (src c q k) = 1 - half c := by revert c q k; decide +kernel

theorem block_apply (A : (⟨3, ![2, 8192, 2048]⟩ : Shape).Idx → EReal) (c : Dev nD) (r : Fin 8192) (k : Fin 2048) :
    (Layout.blockN ⟨3, ![1, 8192, 2048]⟩ ⟨3, ![2, 8192, 2048]⟩ (Layout.meshBlock [2, 2, 2] ![[1], [], []] c) A) (ix3 0 r k) = A (ix3 (half c) r k) := by
  rw [Layout.blockN_apply]
  congr 1
  funext a
  apply Fin.ext
  match a with
  | 0 =>
    show ((Layout.meshBlock [2, 2, 2] ![[1], [], []] c) 0).val * 1 + 0 = (half c).val
    revert c; decide +kernel
  | 1 => show 0 * 8192 + r.val = r.val; omega
  | 2 => show 0 * 2048 + k.val = k.val; omega

theorem res_eq (m : (ℓ : Loc nD τ sig) → Buf (Elt Ideal) ℓ)
    (A : FVec Ideal Cert.ReferenceIdeal.S2x8192x2048 .f32) (R : FVec Ideal Cert.ReferenceIdeal.S8192x2048 .f32) (G : FVec Ideal Cert.ReferenceIdeal.S2048 .f32)
    (h0 : ∀ c : Dev nD, m ((c : Thread nD τ).loc main_arg0) = Layout.blockN ⟨3, ![1, 8192, 2048]⟩ ⟨3, ![2, 8192, 2048]⟩ (Layout.meshBlock [2, 2, 2] ![[1], [], []] c) A)
    (h1 : ∀ c : Dev nD, m ((c : Thread nD τ).loc main_arg1) = R) (h2 : ∀ c : Dev nD, m ((c : Thread nD τ).loc main_arg2) = G) (c : Dev nD) :
    res m c = refVal A R G := by
  funext i
  obtain ⟨r, j, rfl⟩ : ∃ (r : Fin 8192) (j : Fin 2048), i = ix2 r j := ⟨i 0, i 1, by funext a; match a with | 0 => rfl | 1 => rfl⟩
  obtain ⟨q, k, h⟩ := res_apply m c r j
  have hp : pairSum m c (src c q k) r = fun l => A (ix3 0 r l) + A (ix3 1 r l) + R (ix2 r l) := by
    funext l
    unfold pairSum part resid
    rw [h0, h0, h1, block_apply, block_apply, half_src]
    have hh : half c = 0 ∨ half c = 1 := by generalize half c = x; revert x; decide
    rcases hh with hh | hh <;> rw [hh]
    · exact (add_assoc _ _ _).symm
    · refine (add_assoc _ _ _).symm.trans (congrArg (· + _) (add_comm _ _))
  rw [hp, norm_eq _ _ (sq_nonneg _), h2] at h
  exact h.trans (refVal_apply A R G r j).symm

end same

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Host
public import proofs.«01_k».proof.Proof.KernelIdeal.Host
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel at bits: every run ends with its arguments as launched and every counter at zero. -/
theorem frame_kernel [h : Cert.Kernel.Facts] : Cert.quiescent_Kernel := fun m g _ =>
  haveI : Nonempty (Elt Bits .bf16) := ⟨(0#16 : BitVec 16)⟩
  (θ_run _ _ _).mono (fun _ hr => ⟨fun c => (hr.1 c).1, hr.2⟩)
    (Cert.Kernel.Body.whole_run (F := Bits) m g (Cert.Kernel.Body.hostRows m))

/-- The same of the kernel at the ideal values. -/
theorem frame_kernelIdeal [h : Cert.KernelIdeal.Facts] : Cert.quiescent_KernelIdeal := fun m g _ =>
  haveI : Nonempty (Elt Ideal .bf16) := ⟨(0 : EReal)⟩
  (θ_run _ _ _).mono (fun _ hr => ⟨fun c => (hr.1 c).1, hr.2⟩)
    (Cert.KernelIdeal.Body.whole_run (F := Ideal) m g (Cert.KernelIdeal.Body.hostRows m))

/-- The reference has no semaphore, so its run's own statement is enough. -/
theorem frame_reference [h : Cert.ReferenceIdeal.Facts] : Cert.quiescent_ReferenceIdeal := fun m g _ =>
  (θ_run _ _ _).mono (fun _ hr => ⟨fun c => (hr c).2, sem_eq_zero_of_no_sems (by decide) _⟩)
    (Cert.ReferenceIdeal.Value.run (F := Ideal) m g)

/-- Kernel and reference end with the same array, on every device. -/
theorem algebraic [hk : Cert.KernelIdeal.Facts] [hr : Cert.ReferenceIdeal.Facts] : Cert.algebraic_KernelIdeal_ReferenceIdeal := by
  intro m g m' g' hpre heq
  haveI : Nonempty (Elt Ideal .bf16) := ⟨(0 : EReal)⟩
  refine ⟨Cert.Value.refVal (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run _ _ _).mono (fun _ h => ?_) (Cert.KernelIdeal.Body.whole_run (F := Ideal) m g (Cert.KernelIdeal.Body.hostRows m))
    exact fun c => ⟨(h.1 c).2.trans (Cert.Value.res_eq m _ _ _ (fun c => (heq c).1) (fun c => (heq c).2.1) (fun c => (heq c).2.2) c), (h.1 c).1⟩
  · refine (θ_run _ _ _).mono (fun _ h => ?_) (Cert.ReferenceIdeal.Value.run (F := Ideal) m' g')
    exact h 0

theorem claim : Cert.Claim := ⟨Cert.Kernel.Gen.facts, Cert.KernelIdeal.Gen.facts, Cert.ReferenceIdeal.Gen.facts,
  frame_kernel, frame_kernelIdeal, frame_reference, trivial, algebraic⟩

end Cert.Proof

end
